-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 2]⟩ ⟨2, ![16384, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x64 : Shape := ⟨2, ![512, 64]⟩
abbrev S2048x2 : Shape := ⟨2, ![2048, 2]⟩
abbrev S8x512x1024 : Shape := ⟨3, ![8, 512, 1024]⟩
abbrev S_ : Shape := ⟨0, ![]⟩
abbrev S2048x64 : Shape := ⟨2, ![2048, 64]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  dot_S2048x512_S512x64_S2048x64_1_0_0_1_n_n_wf : DotDims.WF S2048x512 S512x64 S2048x64 [1] [0] [0] [1] [] []

variable [Facts]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def fn {F : FTy → Type} [FloatOps F] (main_arg0 : FVec F S2048x512 .f32) (main_arg1 : FVec F S512x64 .f32) (main_arg2 : IVec S2048x2 32) (main_arg3 : FVec F S8x512x1024 .f32) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 64#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  let main_v6 : FVec F S2048x64 .f32 := (fun l r => Host.dotGeneral dot_S2048x512_S512x64_S2048x64_1_0_0_1_n_n none l r) main_arg0 main_arg1
  let main_v7 : FVec F S2048x64 .f32 := Host.absf main_v6
  let main_cst : FVec F S_ .f32 := constant S_ .f32 0x7F800000#32
  let main_v8 : FVec F S2048x64 .f32 := broadcastInDim S2048x64 ![] bcast_S_S2048x64 main_cst
  let main_v9 : IVec S2048x64 1 := cmpf .olt main_v7 main_v8
  let main_c_2 : IVec S_ 1 := constantI S_ 1 1#1
  let main_v10 : IVec S_ 1 := (fun x v => Host.reduce IntOp.andi x v reducesTo_S2048x64_S_d0_1 h_S_) main_v9 main_c_2
  let main_v11 : IVec S_ 1 := andi main_v5 main_v10
  main_v11
-- ==== Pre_routed_ReferenceIdeal.lean ====
abbrev S16384x512 : Shape := ⟨2, ![16384, 512]⟩
abbrev S512x64 : Shape := ⟨2, ![512, 64]⟩
abbrev S16384x2 : Shape := ⟨2, ![16384, 2]⟩
abbrev S64x512x1024 : Shape := ⟨3, ![64, 512, 1024]⟩
abbrev S_ : Shape := ⟨0, ![]⟩
abbrev S16384x64 : Shape := ⟨2, ![16384, 64]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  dot_S16384x512_S512x64_S16384x64_1_0_0_1_n_n_wf : DotDims.WF S16384x512 S512x64 S16384x64 [1] [0] [0] [1] [] []

variable [Facts]

def dot_S16384x512_S512x64_S16384x64_1_0_0_1_n_n : DotDims S16384x512 S512x64 S16384x64 where
  lhsContracting := [1]
  rhsContracting := [0]
  lhsNonContracting := [0]
  rhsNonContracting := [1]
  lhsBatch := []
  rhsBatch := []
  wf := dot_S16384x512_S512x64_S16384x64_1_0_0_1_n_n_wf
def fn {F : FTy → Type} [FloatOps F] (main_arg0 : FVec F S16384x512 .f32) (main_arg1 : FVec F S512x64 .f32) (main_arg2 : IVec S16384x2 32) (main_arg3 : FVec F S64x512x1024 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg2 main_v0
  let main_c_0 : IVec S_ 32 := constantI S_ 32 64#32
  let main_v2 : IVec S16384x2 32 := broadcastInDim S16384x2 ![] bcast_S_S16384x2 main_c_0
  let main_v3 : IVec S16384x2 1 := cmpi .slt main_arg2 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  let main_v6 : FVec F S16384x64 .f32 := (fun l r => Host.dotGeneral dot_S16384x512_S512x64_S16384x64_1_0_0_1_n_n none l r) main_arg0 main_arg1
  let main_v7 : FVec F S16384x64 .f32 := Host.absf main_v6
  let main_cst : FVec F S_ .f32 := constant S_ .f32 0x7F800000#32
  let main_v8 : FVec F S16384x64 .f32 := broadcastInDim S16384x64 ![] bcast_S_S16384x64 main_cst
  let main_v9 : IVec S16384x64 1 := cmpf .olt main_v7 main_v8
  let main_c_2 : IVec S_ 1 := constantI S_ 1 1#1
  let main_v10 : IVec S_ 1 := (fun x v => Host.reduce IntOp.andi x v reducesTo_S16384x64_S_d0_1 h_S_) main_v9 main_c_2
  let main_v11 : IVec S_ 1 := andi main_v5 main_v10
  main_v11
-- ==== Kernel.lean ====
abbrev S2048x512 : Shape := ⟨2, ![2048, 512]⟩
abbrev S512x64 : Shape := ⟨2, ![512, 64]⟩
abbrev S2048x2 : Shape := ⟨2, ![2048, 2]⟩
abbrev S8x512x1024 : Shape := ⟨3, ![8, 512, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S64 : Shape := ⟨1, ![64]⟩
abbrev S1x64 : Shape := ⟨2, ![1, 64]⟩
abbrev S7 : Shape := ⟨1, ![7]⟩
abbrev S2048x8x8 : Shape := ⟨3, ![2048, 8, 8]⟩
abbrev S7x1 : Shape := ⟨2, ![7, 1]⟩
abbrev S1 : Shape := ⟨1, ![1]⟩
abbrev S1x1 : Shape := ⟨2, ![1, 1]⟩
abbrev S2048x7x8 : Shape := ⟨3, ![2048, 7, 8]⟩
abbrev S2048x7x16 : Shape := ⟨3, ![2048, 7, 16]⟩
abbrev S7x2048x16 : Shape := ⟨3, ![7, 2048, 16]⟩
abbrev S2048x1x8 : Shape := ⟨3, ![2048, 1, 8]⟩
abbrev S2048x8 : Shape := ⟨2, ![2048, 8]⟩
abbrev S8x256x1024 : Shape := ⟨3, ![8, 256, 1024]⟩
abbrev S2048x1024 : Shape := ⟨2, ![2048, 1024]⟩
abbrev S1x2048x16 : Shape := ⟨3, ![1, 2048, 16]⟩
abbrev S2x8x256x1024 : Shape := ⟨4, ![2, 8, 256, 1024]⟩
abbrev S2 : Shape := ⟨1, ![2]⟩
abbrev S1x8x256x1024 : Shape := ⟨4, ![1, 8, 256, 1024]⟩
abbrev S2048x256 : Shape := ⟨2, ![2048, 256]⟩
abbrev S1x2048x8 : Shape := ⟨3, ![1, 2048, 8]⟩
abbrev S2048x2048 : Shape := ⟨2, ![2048, 2048]⟩

abbrev nBuf : Space → Nat
  | .hbm => 293
  | .vmem => 9
  | .smem => 0
  | _ => 0

abbrev hbmTy0_0 (i : Nat) : BufTy := match i % 128 with
  | 0 => ⟨S2048x512, .f32⟩
  | 1 => ⟨S512x64, .f32⟩
  | 2 => ⟨S2048x2, .i32⟩
  | 3 => ⟨S8x512x1024, .f32⟩
  | 4 => ⟨S2048x64, .f32⟩
  | 5 => ⟨S_, .f32⟩
  | 6 => ⟨S2048, .f32⟩
  | 7 => ⟨S_, .f32⟩
  | 8 => ⟨S2048, .f32⟩
  | 9 => ⟨S2048, .f32⟩
  | 10 => ⟨S2048x1, .f32⟩
  | 11 => ⟨S2048x64, .f32⟩
  | 12 => ⟨S2048x64, .f32⟩
  | 13 => ⟨S2048x64, .f32⟩
  | 14 => ⟨S_, .f32⟩
  | 15 => ⟨S2048, .f32⟩
  | 16 => ⟨S2048x1, .f32⟩
  | 17 => ⟨S2048x64, .f32⟩
  | 18 => ⟨S2048x64, .f32⟩
  | 19 => ⟨S64, .i32⟩
  | 20 => ⟨S1x64, .i32⟩
  | 21 => ⟨S2048x1, .i32⟩
  | 22 => ⟨S2048x64, .i32⟩
  | 23 => ⟨S2048x64, .i32⟩
  | 24 => ⟨S2048x64, .i1⟩
  | 25 => ⟨S2048x1, .i32⟩
  | 26 => ⟨S2048x64, .i32⟩
  | 27 => ⟨S2048x64, .i32⟩
  | 28 => ⟨S2048x64, .i1⟩
  | 29 => ⟨S_, .f32⟩
  | 30 => ⟨S_, .f32⟩
  | 31 => ⟨S2048x64, .f32⟩
  | 32 => ⟨S2048x64, .f32⟩
  | 33 => ⟨S_, .f32⟩
  | 34 => ⟨S2048, .f32⟩
  | 35 => ⟨S2048x1, .f32⟩
  | 36 => ⟨S_, .f32⟩
  | 37 => ⟨S_, .f32⟩
  | 38 => ⟨S2048x64, .f32⟩
  | 39 => ⟨S2048x64, .f32⟩
  | 40 => ⟨S_, .f32⟩
  | 41 => ⟨S2048, .f32⟩
  | 42 => ⟨S2048x1, .f32⟩
  | 43 => ⟨S2048x1, .f32⟩
  | 44 => ⟨S2048x1, .f32⟩
  | 45 => ⟨S_, .f32⟩
  | 46 => ⟨S_, .f32⟩
  | 47 => ⟨S2048x64, .f32⟩
  | 48 => ⟨S2048x64, .f32⟩
  | 49 => ⟨S2048x64, .f32⟩
  | 50 => ⟨S2048x1, .f32⟩
  | 51 => ⟨S_, .f32⟩
  | 52 => ⟨S_, .f32⟩
  | 53 => ⟨S2048x64, .f32⟩
  | 54 => ⟨S2048x64, .f32⟩
  | 55 => ⟨S2048x64, .f32⟩
  | 56 => ⟨S2048x64, .f32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i1⟩
  | 74 => ⟨S_, .i32⟩
  | 75 => ⟨S_, .i1⟩
  | 76 => ⟨S_, .i1⟩
  | 77 => ⟨S_, .i1⟩
  | 78 => ⟨S_, .i32⟩
  | 79 => ⟨S_, .i32⟩
  | 80 => ⟨S_, .i32⟩
  | 81 => ⟨S7, .i32⟩
  | 82 => ⟨S_, .i32⟩
  | 83 => ⟨S7, .i32⟩
  | 84 => ⟨S7, .i1⟩
  | 85 => ⟨S_, .i32⟩
  | 86 => ⟨S7, .i32⟩
  | 87 => ⟨S7, .i32⟩
  | 88 => ⟨S7, .i32⟩
  | 89 => ⟨S_, .i32⟩
  | 90 => ⟨S7, .i32⟩
  | 91 => ⟨S7, .i1⟩
  | 92 => ⟨S_, .i32⟩
  | 93 => ⟨S_, .i32⟩
  | 94 => ⟨S7, .i32⟩
  | 95 => ⟨S7, .i32⟩
  | 96 => ⟨S7, .i32⟩
  | 97 => ⟨S7, .i32⟩
  | 98 => ⟨S7, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S7, .i32⟩
  | 106 => ⟨S7, .i32⟩
  | 107 => ⟨S_, .i32⟩
  | 108 => ⟨S7, .i32⟩
  | 109 => ⟨S7, .i1⟩
  | 110 => ⟨S_, .i32⟩
  | 111 => ⟨S7, .i32⟩
  | 112 => ⟨S7, .i1⟩
  | 113 => ⟨S_, .i32⟩
  | 114 => ⟨S_, .i1⟩
  | 115 => ⟨S7, .i1⟩
  | 116 => ⟨S7, .i1⟩
  | 117 => ⟨S7, .i1⟩
  | 118 => ⟨S7, .i32⟩
  | 119 => ⟨S7, .i32⟩
  | 120 => ⟨S7, .i32⟩
  | 121 => ⟨S7, .i32⟩
  | 122 => ⟨S7, .i32⟩
  | 123 => ⟨S7, .i32⟩
  | 124 => ⟨S7, .i32⟩
  | 125 => ⟨S_, .i32⟩
  | 126 => ⟨S_, .i32⟩
  | 127 => ⟨S_, .i32⟩
  | _ => ⟨S2048x512, .f32⟩

abbrev hbmTy0_1 (i : Nat) : BufTy := match i % 128 with
  | 0 => ⟨S_, .i1⟩
  | 1 => ⟨S_, .i32⟩
  | 2 => ⟨S_, .i32⟩
  | 3 => ⟨S7, .i32⟩
  | 4 => ⟨S7, .i32⟩
  | 5 => ⟨S_, .i32⟩
  | 6 => ⟨S7, .i32⟩
  | 7 => ⟨S7, .i1⟩
  | 8 => ⟨S_, .i32⟩
  | 9 => ⟨S7, .i32⟩
  | 10 => ⟨S7, .i1⟩
  | 11 => ⟨S_, .i32⟩
  | 12 => ⟨S_, .i1⟩
  | 13 => ⟨S7, .i1⟩
  | 14 => ⟨S7, .i1⟩
  | 15 => ⟨S7, .i1⟩
  | 16 => ⟨S7, .i32⟩
  | 17 => ⟨S7, .i32⟩
  | 18 => ⟨S7, .i32⟩
  | 19 => ⟨S7, .i32⟩
  | 20 => ⟨S7, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S7, .i32⟩
  | 28 => ⟨S7, .i32⟩
  | 29 => ⟨S_, .i32⟩
  | 30 => ⟨S7, .i32⟩
  | 31 => ⟨S7, .i1⟩
  | 32 => ⟨S_, .i32⟩
  | 33 => ⟨S7, .i32⟩
  | 34 => ⟨S7, .i1⟩
  | 35 => ⟨S_, .i32⟩
  | 36 => ⟨S_, .i1⟩
  | 37 => ⟨S7, .i1⟩
  | 38 => ⟨S7, .i1⟩
  | 39 => ⟨S7, .i1⟩
  | 40 => ⟨S7, .i32⟩
  | 41 => ⟨S7, .i32⟩
  | 42 => ⟨S7, .i32⟩
  | 43 => ⟨S7, .i32⟩
  | 44 => ⟨S7, .i32⟩
  | 45 => ⟨S7, .i32⟩
  | 46 => ⟨S7, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S7, .i32⟩
  | 54 => ⟨S7, .i32⟩
  | 55 => ⟨S_, .i32⟩
  | 56 => ⟨S7, .i32⟩
  | 57 => ⟨S7, .i1⟩
  | 58 => ⟨S_, .i32⟩
  | 59 => ⟨S7, .i32⟩
  | 60 => ⟨S7, .i1⟩
  | 61 => ⟨S_, .i32⟩
  | 62 => ⟨S_, .i1⟩
  | 63 => ⟨S7, .i1⟩
  | 64 => ⟨S7, .i1⟩
  | 65 => ⟨S7, .i1⟩
  | 66 => ⟨S7, .i32⟩
  | 67 => ⟨S7, .i32⟩
  | 68 => ⟨S7, .i32⟩
  | 69 => ⟨S2048x8x8, .f32⟩
  | 70 => ⟨S_, .i32⟩
  | 71 => ⟨S7, .i32⟩
  | 72 => ⟨S7, .i1⟩
  | 73 => ⟨S_, .i32⟩
  | 74 => ⟨S7, .i32⟩
  | 75 => ⟨S7, .i32⟩
  | 76 => ⟨S7, .i32⟩
  | 77 => ⟨S7x1, .i32⟩
  | 78 => ⟨S1, .i32⟩
  | 79 => ⟨S_, .i32⟩
  | 80 => ⟨S7x1, .i32⟩
  | 81 => ⟨S7x1, .i1⟩
  | 82 => ⟨S1x1, .i32⟩
  | 83 => ⟨S7x1, .i32⟩
  | 84 => ⟨S7x1, .i1⟩
  | 85 => ⟨S7x1, .i1⟩
  | 86 => ⟨S_, .i1⟩
  | 87 => ⟨S7, .i1⟩
  | 88 => ⟨S2048x7x8, .f32⟩
  | 89 => ⟨S2048x7x8, .i1⟩
  | 90 => ⟨S_, .f32⟩
  | 91 => ⟨S2048x7x8, .f32⟩
  | 92 => ⟨S2048x7x8, .f32⟩
  | 93 => ⟨S_, .i32⟩
  | 94 => ⟨S7, .i32⟩
  | 95 => ⟨S7, .i1⟩
  | 96 => ⟨S_, .i32⟩
  | 97 => ⟨S7, .i32⟩
  | 98 => ⟨S7, .i32⟩
  | 99 => ⟨S7, .i32⟩
  | 100 => ⟨S7x1, .i32⟩
  | 101 => ⟨S1, .i32⟩
  | 102 => ⟨S_, .i32⟩
  | 103 => ⟨S7x1, .i32⟩
  | 104 => ⟨S7x1, .i1⟩
  | 105 => ⟨S1x1, .i32⟩
  | 106 => ⟨S7x1, .i32⟩
  | 107 => ⟨S7x1, .i1⟩
  | 108 => ⟨S7x1, .i1⟩
  | 109 => ⟨S_, .i1⟩
  | 110 => ⟨S7, .i1⟩
  | 111 => ⟨S2048x7x8, .f32⟩
  | 112 => ⟨S2048x7x8, .i1⟩
  | 113 => ⟨S_, .f32⟩
  | 114 => ⟨S2048x7x8, .f32⟩
  | 115 => ⟨S2048x7x8, .f32⟩
  | 116 => ⟨S2048x7x16, .f32⟩
  | 117 => ⟨S7x2048x16, .f32⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S2048x512, .f32⟩

abbrev hbmTy0_2 (i : Nat) : BufTy := match i % 128 with
  | 0 => ⟨S_, .i1⟩
  | 1 => ⟨S_, .i32⟩
  | 2 => ⟨S_, .i1⟩
  | 3 => ⟨S_, .i32⟩
  | 4 => ⟨S_, .i1⟩
  | 5 => ⟨S_, .i1⟩
  | 6 => ⟨S_, .i1⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S2048x1x8, .f32⟩
  | 31 => ⟨S2048x8, .f32⟩
  | 32 => ⟨S8x512x1024, .bf16⟩
  | 33 => ⟨S2048x512, .bf16⟩
  | 34 => ⟨S8x256x1024, .bf16⟩
  | 35 => ⟨S8x256x1024, .bf16⟩
  | 36 => ⟨S2048x1024, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | .local _ .vmem, ⟨0, _⟩ => ⟨S2048x512, .bf16⟩
  | .local _ .vmem, ⟨1, _⟩ => ⟨S1x2048x16, .f32⟩
  | .local _ .vmem, ⟨2, _⟩ => ⟨S1x2048x16, .f32⟩
  | .local _ .vmem, ⟨3, _⟩ => ⟨S2048x8, .f32⟩
  | .local _ .vmem, ⟨4, _⟩ => ⟨S2048x1024, .f32⟩
  | .local _ .vmem, ⟨5, _⟩ => ⟨S2x8x256x1024, .bf16⟩
  | .local _ .vmem, ⟨6, _⟩ => ⟨S2x8x256x1024, .bf16⟩
  | .local _ .vmem, ⟨7, _⟩ => ⟨S8x256x1024, .bf16⟩
  | .local _ .vmem, ⟨8, _⟩ => ⟨S8x256x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => true
  | ⟨1, _⟩ => true
  | ⟨2, _⟩ => false
  | ⟨3, _⟩ => true
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 4 18 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_call4_v0 : Ref sig .tc := ⟨.hbm, 64, rfl⟩
abbrev main_call4_c : Ref sig .tc := ⟨.hbm, 65, rfl⟩
abbrev main_call4_v1 : Ref sig .tc := ⟨.hbm, 66, rfl⟩
abbrev main_call4_c_0 : Ref sig .tc := ⟨.hbm, 67, rfl⟩
abbrev main_call4_v2 : Ref sig .tc := ⟨.hbm, 68, rfl⟩
abbrev main_call4_v3 : Ref sig .tc := ⟨.hbm, 69, rfl⟩
abbrev main_call4_c_1 : Ref sig .tc := ⟨.hbm, 70, rfl⟩
abbrev main_call4_v4 : Ref sig .tc := ⟨.hbm, 71, rfl⟩
abbrev main_call4_c_2 : Ref sig .tc := ⟨.hbm, 72, rfl⟩
abbrev main_call4_v5 : Ref sig .tc := ⟨.hbm, 73, rfl⟩
abbrev main_call4_c_3 : Ref sig .tc := ⟨.hbm, 74, rfl⟩
abbrev main_call4_v6 : Ref sig .tc := ⟨.hbm, 75, rfl⟩
abbrev main_call4_v7 : Ref sig .tc := ⟨.hbm, 76, rfl⟩
abbrev main_call4_v8 : Ref sig .tc := ⟨.hbm, 77, rfl⟩
abbrev main_call4_v9 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_10 : Ref sig .tc := ⟨.hbm, 82, rfl⟩
abbrev main_v42 : Ref sig .tc := ⟨.hbm, 83, rfl⟩
abbrev main_v43 : Ref sig .tc := ⟨.hbm, 84, rfl⟩
abbrev main_c_11 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_c_12 : Ref sig .tc := ⟨.hbm, 89, rfl⟩
abbrev main_v47 : Ref sig .tc := ⟨.hbm, 90, rfl⟩
abbrev main_v48 : Ref sig .tc := ⟨.hbm, 91, rfl⟩
abbrev main_c_13 : Ref sig .tc := ⟨.hbm, 92, rfl⟩
abbrev main_c_14 : Ref sig .tc := ⟨.hbm, 93, rfl⟩
abbrev main_call6_v0 : Ref sig .tc := ⟨.hbm, 94, rfl⟩
abbrev main_call6_v1 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_c_15 : Ref sig .tc := ⟨.hbm, 99, rfl⟩
abbrev main_call7_v0 : Ref sig .tc := ⟨.hbm, 100, rfl⟩
abbrev main_call7_c : Ref sig .tc := ⟨.hbm, 101, rfl⟩
abbrev main_call7_v1 : Ref sig .tc := ⟨.hbm, 102, rfl⟩
abbrev main_call7_c_0 : Ref sig .tc := ⟨.hbm, 103, rfl⟩
abbrev main_call7_v2 : Ref sig .tc := ⟨.hbm, 104, rfl⟩
abbrev main_call7_v3 : Ref sig .tc := ⟨.hbm, 105, rfl⟩
abbrev main_call7_v4 : Ref sig .tc := ⟨.hbm, 106, rfl⟩
abbrev main_call7_c_1 : Ref sig .tc := ⟨.hbm, 107, rfl⟩
abbrev main_call7_v5 : Ref sig .tc := ⟨.hbm, 108, rfl⟩
abbrev main_call7_v6 : Ref sig .tc := ⟨.hbm, 109, rfl⟩
abbrev main_call7_c_2 : Ref sig .tc := ⟨.hbm, 110, rfl⟩
abbrev main_call7_v7 : Ref sig .tc := ⟨.hbm, 111, rfl⟩
abbrev main_call7_v8 : Ref sig .tc := ⟨.hbm, 112, rfl⟩
abbrev main_call7_c_3 : Ref sig .tc := ⟨.hbm, 113, rfl⟩
abbrev main_call7_v9 : Ref sig .tc := ⟨.hbm, 114, rfl⟩
abbrev main_call7_v10 : Ref sig .tc := ⟨.hbm, 115, rfl⟩
abbrev main_call7_v11 : Ref sig .tc := ⟨.hbm, 116, rfl⟩
abbrev main_call7_v12 : Ref sig .tc := ⟨.hbm, 117, rfl⟩
abbrev main_call7_v13 : Ref sig .tc := ⟨.hbm, 118, rfl⟩
abbrev main_call7_v14 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_c_16 : Ref sig .tc := ⟨.hbm, 125, rfl⟩
abbrev main_call8_v0 : Ref sig .tc := ⟨.hbm, 126, rfl⟩
abbrev main_call8_c : Ref sig .tc := ⟨.hbm, 127, rfl⟩
abbrev main_call8_v1 : Ref sig .tc := ⟨.hbm, 128, rfl⟩
abbrev main_call8_c_0 : Ref sig .tc := ⟨.hbm, 129, rfl⟩
abbrev main_call8_v2 : Ref sig .tc := ⟨.hbm, 130, rfl⟩
abbrev main_call8_v3 : Ref sig .tc := ⟨.hbm, 131, rfl⟩
abbrev main_call8_v4 : Ref sig .tc := ⟨.hbm, 132, rfl⟩
abbrev main_call8_c_1 : Ref sig .tc := ⟨.hbm, 133, rfl⟩
abbrev main_call8_v5 : Ref sig .tc := ⟨.hbm, 134, rfl⟩
abbrev main_call8_v6 : Ref sig .tc := ⟨.hbm, 135, rfl⟩
abbrev main_call8_c_2 : Ref sig .tc := ⟨.hbm, 136, rfl⟩
abbrev main_call8_v7 : Ref sig .tc := ⟨.hbm, 137, rfl⟩
abbrev main_call8_v8 : Ref sig .tc := ⟨.hbm, 138, rfl⟩
abbrev main_call8_c_3 : Ref sig .tc := ⟨.hbm, 139, rfl⟩
abbrev main_call8_v9 : Ref sig .tc := ⟨.hbm, 140, rfl⟩
abbrev main_call8_v10 : Ref sig .tc := ⟨.hbm, 141, rfl⟩
abbrev main_call8_v11 : Ref sig .tc := ⟨.hbm, 142, rfl⟩
abbrev main_call8_v12 : Ref sig .tc := ⟨.hbm, 143, rfl⟩
abbrev main_call8_v13 : Ref sig .tc := ⟨.hbm, 144, rfl⟩
abbrev main_call8_v14 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_c_17 : Ref sig .tc := ⟨.hbm, 149, rfl⟩
abbrev main_call9_v0 : Ref sig .tc := ⟨.hbm, 150, rfl⟩
abbrev main_call9_c : Ref sig .tc := ⟨.hbm, 151, rfl⟩
abbrev main_call9_v1 : Ref sig .tc := ⟨.hbm, 152, rfl⟩
abbrev main_call9_c_0 : Ref sig .tc := ⟨.hbm, 153, rfl⟩
abbrev main_call9_v2 : Ref sig .tc := ⟨.hbm, 154, rfl⟩
abbrev main_call9_v3 : Ref sig .tc := ⟨.hbm, 155, rfl⟩
abbrev main_call9_v4 : Ref sig .tc := ⟨.hbm, 156, rfl⟩
abbrev main_call9_c_1 : Ref sig .tc := ⟨.hbm, 157, rfl⟩
abbrev main_call9_v5 : Ref sig .tc := ⟨.hbm, 158, rfl⟩
abbrev main_call9_v6 : Ref sig .tc := ⟨.hbm, 159, rfl⟩
abbrev main_call9_c_2 : Ref sig .tc := ⟨.hbm, 160, rfl⟩
abbrev main_call9_v7 : Ref sig .tc := ⟨.hbm, 161, rfl⟩
abbrev main_call9_v8 : Ref sig .tc := ⟨.hbm, 162, rfl⟩
abbrev main_call9_c_3 : Ref sig .tc := ⟨.hbm, 163, rfl⟩
abbrev main_call9_v9 : Ref sig .tc := ⟨.hbm, 164, rfl⟩
abbrev main_call9_v10 : Ref sig .tc := ⟨.hbm, 165, rfl⟩
abbrev main_call9_v11 : Ref sig .tc := ⟨.hbm, 166, rfl⟩
abbrev main_call9_v12 : Ref sig .tc := ⟨.hbm, 167, rfl⟩
abbrev main_call9_v13 : Ref sig .tc := ⟨.hbm, 168, rfl⟩
abbrev main_call9_v14 : Ref sig .tc := ⟨.hbm, 169, rfl⟩
abbrev main_v60 : Ref sig .tc := ⟨.hbm, 170, rfl⟩
abbrev main_v61 : Ref sig .tc := ⟨.hbm, 171, rfl⟩
abbrev main_v62 : Ref sig .tc := ⟨.hbm, 172, rfl⟩
abbrev main_v63 : Ref sig .tc := ⟨.hbm, 173, rfl⟩
abbrev main_v64 : Ref sig .tc := ⟨.hbm, 174, rfl⟩
abbrev main_c_18 : Ref sig .tc := ⟨.hbm, 175, rfl⟩
abbrev main_call10_v0 : Ref sig .tc := ⟨.hbm, 176, rfl⟩
abbrev main_call10_c : Ref sig .tc := ⟨.hbm, 177, rfl⟩
abbrev main_call10_v1 : Ref sig .tc := ⟨.hbm, 178, rfl⟩
abbrev main_call10_c_0 : Ref sig .tc := ⟨.hbm, 179, rfl⟩
abbrev main_call10_v2 : Ref sig .tc := ⟨.hbm, 180, rfl⟩
abbrev main_call10_v3 : Ref sig .tc := ⟨.hbm, 181, rfl⟩
abbrev main_call10_v4 : Ref sig .tc := ⟨.hbm, 182, rfl⟩
abbrev main_call10_c_1 : Ref sig .tc := ⟨.hbm, 183, rfl⟩
abbrev main_call10_v5 : Ref sig .tc := ⟨.hbm, 184, rfl⟩
abbrev main_call10_v6 : Ref sig .tc := ⟨.hbm, 185, rfl⟩
abbrev main_call10_c_2 : Ref sig .tc := ⟨.hbm, 186, rfl⟩
abbrev main_call10_v7 : Ref sig .tc := ⟨.hbm, 187, rfl⟩
abbrev main_call10_v8 : Ref sig .tc := ⟨.hbm, 188, rfl⟩
abbrev main_call10_c_3 : Ref sig .tc := ⟨.hbm, 189, rfl⟩
abbrev main_call10_v9 : Ref sig .tc := ⟨.hbm, 190, rfl⟩
abbrev main_call10_v10 : Ref sig .tc := ⟨.hbm, 191, rfl⟩
abbrev main_call10_v11 : Ref sig .tc := ⟨.hbm, 192, rfl⟩
abbrev main_call10_v12 : Ref sig .tc := ⟨.hbm, 193, rfl⟩
abbrev main_call10_v13 : Ref sig .tc := ⟨.hbm, 194, rfl⟩
abbrev main_call10_v14 : Ref sig .tc := ⟨.hbm, 195, rfl⟩
abbrev main_v65 : Ref sig .tc := ⟨.hbm, 196, rfl⟩
abbrev main_v66 : Ref sig .tc := ⟨.hbm, 197, rfl⟩
abbrev main_call11_c : Ref sig .tc := ⟨.hbm, 198, rfl⟩
abbrev main_call11_v0 : Ref sig .tc := ⟨.hbm, 199, rfl⟩
abbrev main_call11_v1 : Ref sig .tc := ⟨.hbm, 200, rfl⟩
abbrev main_call11_c_0 : Ref sig .tc := ⟨.hbm, 201, rfl⟩
abbrev main_call11_v2 : Ref sig .tc := ⟨.hbm, 202, rfl⟩
abbrev main_call11_v3 : Ref sig .tc := ⟨.hbm, 203, rfl⟩
abbrev main_call11_v4 : Ref sig .tc := ⟨.hbm, 204, rfl⟩
abbrev main_call11_v5 : Ref sig .tc := ⟨.hbm, 205, rfl⟩
abbrev main_call11_c_1 : Ref sig .tc := ⟨.hbm, 206, rfl⟩
abbrev main_call11_c_2 : Ref sig .tc := ⟨.hbm, 207, rfl⟩
abbrev main_call11_v6 : Ref sig .tc := ⟨.hbm, 208, rfl⟩
abbrev main_call11_v7 : Ref sig .tc := ⟨.hbm, 209, rfl⟩
abbrev main_call11_v8 : Ref sig .tc := ⟨.hbm, 210, rfl⟩
abbrev main_call11_v9 : Ref sig .tc := ⟨.hbm, 211, rfl⟩
abbrev main_call11_v10 : Ref sig .tc := ⟨.hbm, 212, rfl⟩
abbrev main_call11_v11 : Ref sig .tc := ⟨.hbm, 213, rfl⟩
abbrev main_call11_c_3 : Ref sig .tc := ⟨.hbm, 214, rfl⟩
abbrev main_call11_v12 : Ref sig .tc := ⟨.hbm, 215, rfl⟩
abbrev main_call11_v13 : Ref sig .tc := ⟨.hbm, 216, rfl⟩
abbrev main_call11_v14 : Ref sig .tc := ⟨.hbm, 217, rfl⟩
abbrev main_call11_cst : Ref sig .tc := ⟨.hbm, 218, rfl⟩
abbrev main_call11_v15 : Ref sig .tc := ⟨.hbm, 219, rfl⟩
abbrev main_v67 : Ref sig .tc := ⟨.hbm, 220, rfl⟩
abbrev main_call12_c : Ref sig .tc := ⟨.hbm, 221, rfl⟩
abbrev main_call12_v0 : Ref sig .tc := ⟨.hbm, 222, rfl⟩
abbrev main_call12_v1 : Ref sig .tc := ⟨.hbm, 223, rfl⟩
abbrev main_call12_c_0 : Ref sig .tc := ⟨.hbm, 224, rfl⟩
abbrev main_call12_v2 : Ref sig .tc := ⟨.hbm, 225, rfl⟩
abbrev main_call12_v3 : Ref sig .tc := ⟨.hbm, 226, rfl⟩
abbrev main_call12_v4 : Ref sig .tc := ⟨.hbm, 227, rfl⟩
abbrev main_call12_v5 : Ref sig .tc := ⟨.hbm, 228, rfl⟩
abbrev main_call12_c_1 : Ref sig .tc := ⟨.hbm, 229, rfl⟩
abbrev main_call12_c_2 : Ref sig .tc := ⟨.hbm, 230, rfl⟩
abbrev main_call12_v6 : Ref sig .tc := ⟨.hbm, 231, rfl⟩
abbrev main_call12_v7 : Ref sig .tc := ⟨.hbm, 232, rfl⟩
abbrev main_call12_v8 : Ref sig .tc := ⟨.hbm, 233, rfl⟩
abbrev main_call12_v9 : Ref sig .tc := ⟨.hbm, 234, rfl⟩
abbrev main_call12_v10 : Ref sig .tc := ⟨.hbm, 235, rfl⟩
abbrev main_call12_v11 : Ref sig .tc := ⟨.hbm, 236, rfl⟩
abbrev main_call12_c_3 : Ref sig .tc := ⟨.hbm, 237, rfl⟩
abbrev main_call12_v12 : Ref sig .tc := ⟨.hbm, 238, rfl⟩
abbrev main_call12_v13 : Ref sig .tc := ⟨.hbm, 239, rfl⟩
abbrev main_call12_v14 : Ref sig .tc := ⟨.hbm, 240, rfl⟩
abbrev main_call12_cst : Ref sig .tc := ⟨.hbm, 241, rfl⟩
abbrev main_call12_v15 : Ref sig .tc := ⟨.hbm, 242, rfl⟩
abbrev main_v68 : Ref sig .tc := ⟨.hbm, 243, rfl⟩
abbrev main_v69 : Ref sig .tc := ⟨.hbm, 244, rfl⟩
abbrev main_v70 : Ref sig .tc := ⟨.hbm, 245, rfl⟩
abbrev main_c_19 : Ref sig .tc := ⟨.hbm, 246, rfl⟩
abbrev main_v71 : Ref sig .tc := ⟨.hbm, 247, rfl⟩
abbrev main_c_20 : Ref sig .tc := ⟨.hbm, 248, rfl⟩
abbrev main_call13_v0 : Ref sig .tc := ⟨.hbm, 249, rfl⟩
abbrev main_call13_c : Ref sig .tc := ⟨.hbm, 250, rfl⟩
abbrev main_call13_v1 : Ref sig .tc := ⟨.hbm, 251, rfl⟩
abbrev main_call13_c_0 : Ref sig .tc := ⟨.hbm, 252, rfl⟩
abbrev main_call13_v2 : Ref sig .tc := ⟨.hbm, 253, rfl⟩
abbrev main_call13_v3 : Ref sig .tc := ⟨.hbm, 254, rfl⟩
abbrev main_call13_c_1 : Ref sig .tc := ⟨.hbm, 255, rfl⟩
abbrev main_call13_v4 : Ref sig .tc := ⟨.hbm, 256, rfl⟩
abbrev main_call13_c_2 : Ref sig .tc := ⟨.hbm, 257, rfl⟩
abbrev main_call13_v5 : Ref sig .tc := ⟨.hbm, 258, rfl⟩
abbrev main_call13_c_3 : Ref sig .tc := ⟨.hbm, 259, rfl⟩
abbrev main_call13_v6 : Ref sig .tc := ⟨.hbm, 260, rfl⟩
abbrev main_call13_v7 : Ref sig .tc := ⟨.hbm, 261, rfl⟩
abbrev main_call13_v8 : Ref sig .tc := ⟨.hbm, 262, rfl⟩
abbrev main_call13_v9 : Ref sig .tc := ⟨.hbm, 263, rfl⟩
abbrev main_v72 : Ref sig .tc := ⟨.hbm, 264, rfl⟩
abbrev main_c_21 : Ref sig .tc := ⟨.hbm, 265, rfl⟩
abbrev main_c_22 : Ref sig .tc := ⟨.hbm, 266, rfl⟩
abbrev main_v73 : Ref sig .tc := ⟨.hbm, 267, rfl⟩
abbrev main_c_23 : Ref sig .tc := ⟨.hbm, 268, rfl⟩
abbrev main_c_24 : Ref sig .tc := ⟨.hbm, 269, rfl⟩
abbrev main_v74 : Ref sig .tc := ⟨.hbm, 270, rfl⟩
abbrev main_c_25 : Ref sig .tc := ⟨.hbm, 271, rfl⟩
abbrev main_v75 : Ref sig .tc := ⟨.hbm, 272, rfl⟩
abbrev main_c_26 : Ref sig .tc := ⟨.hbm, 273, rfl⟩
abbrev main_v76 : Ref sig .tc := ⟨.hbm, 274, rfl⟩
abbrev main_c_27 : Ref sig .tc := ⟨.hbm, 275, rfl⟩
abbrev main_v77 : Ref sig .tc := ⟨.hbm, 276, rfl⟩
abbrev main_v78 : Ref sig .tc := ⟨.hbm, 277, rfl⟩
abbrev main_c_28 : Ref sig .tc := ⟨.hbm, 278, rfl⟩
abbrev main_c_29 : Ref sig .tc := ⟨.hbm, 279, rfl⟩
abbrev main_v79 : Ref sig .tc := ⟨.hbm, 280, rfl⟩
abbrev main_c_30 : Ref sig .tc := ⟨.hbm, 281, rfl⟩
abbrev main_c_31 : Ref sig .tc := ⟨.hbm, 282, rfl⟩
abbrev main_v80 : Ref sig .tc := ⟨.hbm, 283, rfl⟩
abbrev main_c_32 : Ref sig .tc := ⟨.hbm, 284, rfl⟩
abbrev main_v81 : Ref sig .tc := ⟨.hbm, 285, rfl⟩
abbrev main_v82 : Ref sig .tc := ⟨.hbm, 286, rfl⟩
abbrev main_v83 : Ref sig .tc := ⟨.hbm, 287, rfl⟩
abbrev main_v84 : Ref sig .tc := ⟨.hbm, 288, rfl⟩
abbrev main_v85 : Ref sig .tc := ⟨.hbm, 289, rfl⟩
abbrev main_v86 : Ref sig .tc := ⟨.hbm, 290, rfl⟩
abbrev main_v87 : Ref sig .tc := ⟨.hbm, 291, rfl⟩
abbrev main_v88 : Ref sig .tc := ⟨.hbm, 292, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 2

abbrev nD : Nat := 8
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_11 : BitVec 32 := 0#32
  let v18 : BitVec 1 := Scalar.cmpi .ne v17 c0_i32_11
  v18

def k0_dev1 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_54 : BitVec 32 := 1#32
  let v127 : BitVec 32 := Scalar.muli v10 c1_i32_54
  let v128 : BitVec 32 := Scalar.addi c0_i32_55 v127
  v128.toNat
def k0_dev2 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_57 : BitVec 32 := 1#32
  let v129 : BitVec 32 := Scalar.muli v7 c1_i32_57
  let v130 : BitVec 32 := Scalar.addi c0_i32_58 v129
  v130.toNat
def k0_dev3 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_60 : BitVec 32 := 1#32
  let v131 : BitVec 32 := Scalar.muli v12 c1_i32_60
  let v132 : BitVec 32 := Scalar.addi c0_i32_61 v131
  v132.toNat
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_63 : BitVec 32 := 1#32
  let v133 : BitVec 32 := Scalar.muli v12 c1_i32_63
  let v134 : BitVec 32 := Scalar.addi c0_i32_64 v133
  v134.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_65 : BitVec 32 := 1#32
  let v139 : BitVec 32 := Scalar.muli v12 c1_i32_65
  let v140 : BitVec 32 := Scalar.addi c0_i32_66 v139
  v140.toNat
def k0_cond3 (i : grid0.Coords) : BitVec 1 :=
  let arg0 : BitVec 32 := BitVec.ofNat 32 (i 0).val
  let c6_i32 : BitVec 32 := 6#32
  let v22 : BitVec 1 := Scalar.cmpi .slt arg0 c6_i32
  let v23 : BitVec 32 := Scalar.extui v22
  let c0_i32_18 : BitVec 32 := 0#32
  let v24 : BitVec 1 := Scalar.cmpi .ne v23 c0_i32_18
  v24

def k0_cond5 (i : grid0.Coords) : BitVec 1 :=
  let arg0 : BitVec 32 := BitVec.ofNat 32 (i 0).val
  let c3_i32_55 : BitVec 32 := 3#32
  let v129 : BitVec 1 := Scalar.cmpi .eq arg0 c3_i32_55
  let v130 : BitVec 32 := Scalar.extui v129
  let c0_i32_56 : BitVec 32 := 0#32
  let v131 : BitVec 1 := Scalar.cmpi .ne v130 c0_i32_56
  v131

def k0_off1 (i : grid0.Coords) : Fin 1 → Nat :=
  let arg0 : BitVec 32 := BitVec.ofNat 32 (i 0).val
  let c2_i32 : BitVec 32 := 2#32
  let v13 : BitVec 32 := Scalar.remsi arg0 c2_i32
  ![v13.toNat]
def k0_off2 (i : grid0.Coords) : Fin 1 → Nat :=
  let arg0 : BitVec 32 := BitVec.ofNat 32 (i 0).val
  let c1_i32_5 : BitVec 32 := 1#32
  let v14 : BitVec 32 := Scalar.addi arg0 c1_i32_5
  let c2_i32_6 : BitVec 32 := 2#32
  let v15 : BitVec 32 := Scalar.remsi v14 c2_i32_6
  ![v15.toNat]
def k0_off3 (i : grid0.Coords) : Fin 4 → Nat :=
  let arg0 : BitVec 32 := BitVec.ofNat 32 (i 0).val
  let c1_i32_5 : BitVec 32 := 1#32
  let v14 : BitVec 32 := Scalar.addi arg0 c1_i32_5
  let c2_i32_6 : BitVec 32 := 2#32
  let v15 : BitVec 32 := Scalar.remsi v14 c2_i32_6
  let c0_i32_61 : BitVec 32 := 0#32
  let c0_i32_62 : BitVec 32 := 0#32
  let c0_i32_63 : BitVec 32 := 0#32
  ![v15.toNat, 0, 0, 0]
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_59 : BitVec 32 := 1#32
  let v135 : BitVec 32 := Scalar.muli v7 c1_i32_59
  let v136 : BitVec 32 := Scalar.addi c0_i32_60 v135
  v136.toNat
def k0_dev7 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_64 : BitVec 32 := 1#32
  let v143 : BitVec 32 := Scalar.muli v10 c1_i32_64
  let v144 : BitVec 32 := Scalar.addi c0_i32_65 v143
  v144.toNat
def k0_cond6 (i : grid0.Coords) : BitVec 1 :=
  let arg0 : BitVec 32 := BitVec.ofNat 32 (i 0).val
  let c3_i32_57 : BitVec 32 := 3#32
  let v132 : BitVec 1 := Scalar.cmpi .ne arg0 c3_i32_57
  let v133 : BitVec 32 := Scalar.extui v132
  let c0_i32_58 : BitVec 32 := 0#32
  let v134 : BitVec 1 := Scalar.cmpi .ne v133 c0_i32_58
  v134

def k0_off4 (i : grid0.Coords) : Fin 1 → Nat :=
  let arg0 : BitVec 32 := BitVec.ofNat 32 (i 0).val
  let c2_i32 : BitVec 32 := 2#32
  let v13 : BitVec 32 := Scalar.remsi arg0 c2_i32
  ![v13.toNat]
def k0_off5 (i : grid0.Coords) : Fin 1 → Nat :=
  let arg0 : BitVec 32 := BitVec.ofNat 32 (i 0).val
  let c1_i32_5 : BitVec 32 := 1#32
  let v14 : BitVec 32 := Scalar.addi arg0 c1_i32_5
  let c2_i32_6 : BitVec 32 := 2#32
  let v15 : BitVec 32 := Scalar.remsi v14 c2_i32_6
  ![v15.toNat]
def k0_off6 (i : grid0.Coords) : Fin 4 → Nat :=
  let arg0 : BitVec 32 := BitVec.ofNat 32 (i 0).val
  let c1_i32_5 : BitVec 32 := 1#32
  let v14 : BitVec 32 := Scalar.addi arg0 c1_i32_5
  let c2_i32_6 : BitVec 32 := 2#32
  let v15 : BitVec 32 := Scalar.remsi v14 c2_i32_6
  let c0_i32_61 : BitVec 32 := 0#32
  let c0_i32_62 : BitVec 32 := 0#32
  let c0_i32_63 : BitVec 32 := 0#32
  ![v15.toNat, 0, 0, 0]
def k0_off7 (i : grid0.Coords) : Fin 4 → Nat :=
  let arg0 : BitVec 32 := BitVec.ofNat 32 (i 0).val
  let c2_i32 : BitVec 32 := 2#32
  let v13 : BitVec 32 := Scalar.remsi arg0 c2_i32
  let c0_i32_64 : BitVec 32 := 0#32
  let c0_i32_65 : BitVec 32 := 0#32
  let c0_i32_66 : BitVec 32 := 0#32
  ![v13.toNat, 0, 0, 0]
def k0_dev8 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_59 : BitVec 32 := 1#32
  let v135 : BitVec 32 := Scalar.muli v7 c1_i32_59
  let v136 : BitVec 32 := Scalar.addi c0_i32_60 v135
  v136.toNat
def k0_dev9 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_67 : BitVec 32 := 1#32
  let v145 : BitVec 32 := Scalar.muli v10 c1_i32_67
  let v146 : BitVec 32 := Scalar.addi c0_i32_68 v145
  v146.toNat
def k0_off8 (i : grid0.Coords) : Fin 4 → Nat :=
  let arg0 : BitVec 32 := BitVec.ofNat 32 (i 0).val
  let c2_i32 : BitVec 32 := 2#32
  let v13 : BitVec 32 := Scalar.remsi arg0 c2_i32
  let c0_i32_26 : BitVec 32 := 0#32
  let c0_i32_27 : BitVec 32 := 0#32
  let c0_i32_28 : BitVec 32 := 0#32
  ![v13.toNat, 0, 0, 0]
def k0_cond8 (i : grid0.Coords) : BitVec 1 :=
  let arg0 : BitVec 32 := BitVec.ofNat 32 (i 0).val
  let c6_i32_49 : BitVec 32 := 6#32
  let v120 : BitVec 1 := Scalar.cmpi .slt arg0 c6_i32_49
  let v121 : BitVec 32 := Scalar.extui v120
  let c0_i32_50 : BitVec 32 := 0#32
  let v122 : BitVec 1 := Scalar.cmpi .ne v121 c0_i32_50
  v122

def k0_off9 (i : grid0.Coords) : Fin 1 → Nat :=
  let arg0 : BitVec 32 := BitVec.ofNat 32 (i 0).val
  let c2_i32 : BitVec 32 := 2#32
  let v13 : BitVec 32 := Scalar.remsi arg0 c2_i32
  ![v13.toNat]
def k0_off10 (i : grid0.Coords) : Fin 4 → Nat :=
  let arg0 : BitVec 32 := BitVec.ofNat 32 (i 0).val
  let c2_i32 : BitVec 32 := 2#32
  let v13 : BitVec 32 := Scalar.remsi arg0 c2_i32
  let c0_i32_54 : BitVec 32 := 0#32
  let c0_i32_55 : BitVec 32 := 0#32
  let c0_i32_56 : BitVec 32 := 0#32
  ![v13.toNat, 0, 0, 0]
def k0_off11 (i : grid0.Coords) : Fin 4 → Nat :=
  let arg0 : BitVec 32 := BitVec.ofNat 32 (i 0).val
  let c1_i32_5 : BitVec 32 := 1#32
  let v14 : BitVec 32 := Scalar.addi arg0 c1_i32_5
  let c2_i32_6 : BitVec 32 := 2#32
  let v15 : BitVec 32 := Scalar.remsi v14 c2_i32_6
  let c0_i32_57 : BitVec 32 := 0#32
  let c0_i32_58 : BitVec 32 := 0#32
  let c0_i32_59 : BitVec 32 := 0#32
  ![v15.toNat, 0, 0, 0]
def k0_off12 (i : grid0.Coords) : Fin 1 → Nat :=
  let arg0 : BitVec 32 := BitVec.ofNat 32 (i 0).val
  let c1_i32_5 : BitVec 32 := 1#32
  let v14 : BitVec 32 := Scalar.addi arg0 c1_i32_5
  let c2_i32_6 : BitVec 32 := 2#32
  let v15 : BitVec 32 := Scalar.remsi v14 c2_i32_6
  ![v15.toNat]
def k0_cond9 (i : grid0.Coords) : BitVec 1 :=
  let arg0 : BitVec 32 := BitVec.ofNat 32 (i 0).val
  let c5_i32 : BitVec 32 := 5#32
  let v154 : BitVec 1 := Scalar.cmpi .slt arg0 c5_i32
  let v155 : BitVec 32 := Scalar.extui v154
  let c0_i32_83 : BitVec 32 := 0#32
  let v156 : BitVec 1 := Scalar.cmpi .ne v155 c0_i32_83
  v156

def k0_dev10 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_85 : BitVec 32 := 1#32
  let v157 : BitVec 32 := Scalar.muli v10 c1_i32_85
  let v158 : BitVec 32 := Scalar.addi c0_i32_86 v157
  v158.toNat
def k0_dev11 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_88 : BitVec 32 := 1#32
  let v159 : BitVec 32 := Scalar.muli v7 c1_i32_88
  let v160 : BitVec 32 := Scalar.addi c0_i32_89 v159
  v160.toNat
def k0_cond10 (i : grid0.Coords) : BitVec 1 :=
  let arg0 : BitVec 32 := BitVec.ofNat 32 (i 0).val
  let c6_i32_51 : BitVec 32 := 6#32
  let v123 : BitVec 1 := Scalar.cmpi .eq arg0 c6_i32_51
  let v124 : BitVec 32 := Scalar.extui v123
  let c0_i32_52 : BitVec 32 := 0#32
  let v125 : BitVec 1 := Scalar.cmpi .ne v124 c0_i32_52
  v125

def k0_dev12 (d0 : Dev nD) : Nat :=
  let c0_i32_55_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_54_r0 : BitVec 32 := 1#32
  let v127_r0 : BitVec 32 := Scalar.muli v10 c1_i32_54_r0
  let v128_r0 : BitVec 32 := Scalar.addi c0_i32_55_r0 v127_r0
  v128_r0.toNat
def k0_dev13 (d0 : Dev nD) : Nat :=
  let c0_i32_58_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_57_r0 : BitVec 32 := 1#32
  let v129_r0 : BitVec 32 := Scalar.muli v7 c1_i32_57_r0
  let v130_r0 : BitVec 32 := Scalar.addi c0_i32_58_r0 v129_r0
  v130_r0.toNat
def k0_dev14 (d0 : Dev nD) : Nat :=
  let c0_i32_61_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3 : BitVec 32 := 4#32
  let v11 : BitVec 32 := Scalar.addi v2 c4_i32_3
  let c8_i32_4 : BitVec 32 := 8#32
  let v12 : BitVec 32 := Scalar.remsi v11 c8_i32_4
  let c1_i32_60_r0 : BitVec 32 := 1#32
  let v131_r0 : BitVec 32 := Scalar.muli v12 c1_i32_60_r0
  let v132_r0 : BitVec 32 := Scalar.addi c0_i32_61_r0 v131_r0
  v132_r0.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16384x512 : Shape := ⟨2, ![16384, 512]⟩
abbrev S512x64 : Shape := ⟨2, ![512, 64]⟩
abbrev S16384x2 : Shape := ⟨2, ![16384, 2]⟩
abbrev S64x512x1024 : Shape := ⟨3, ![64, 512, 1024]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x512x1024 : Shape := ⟨3, ![16384, 512, 1024]⟩
abbrev S16384x1024 : Shape := ⟨2, ![16384, 1024]⟩

abbrev nBuf : Space → Nat
  | .hbm => 87
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x64, .f32⟩
  | .hbm, ⟨2, _⟩ => ⟨S16384x2, .i32⟩
  | .hbm, ⟨3, _⟩ => ⟨S64x512x1024, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x64, .f32⟩
  | .hbm, ⟨9, _⟩ => ⟨S16384x64, .f32⟩
  | .hbm, ⟨10, _⟩ => ⟨S16384x64, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x1, .i32⟩
  | .hbm, ⟨17, _⟩ => ⟨S16384, .i32⟩
  | .hbm, ⟨18, _⟩ => ⟨S16384x1, .i32⟩
  | .hbm, ⟨19, _⟩ => ⟨S16384, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x1, .i32⟩
  | .hbm, ⟨37, _⟩ => ⟨S16384x2, .i32⟩
  | .hbm, ⟨38, _⟩ => ⟨S16384, .f32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384, .i32⟩
  | .hbm, ⟨53, _⟩ => ⟨S16384x1, .i32⟩
  | .hbm, ⟨54, _⟩ => ⟨S16384x1, .i32⟩
  | .hbm, ⟨55, _⟩ => ⟨S16384x2, .i32⟩
  | .hbm, ⟨56, _⟩ => ⟨S16384, .f32⟩
  | .hbm, ⟨57, _⟩ => ⟨S16384, .f32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S16384x1, .i32⟩
  | .hbm, ⟨66, _⟩ => ⟨S16384x512x1024, .f32⟩
  | .hbm, ⟨67, _⟩ => ⟨S16384x1024, .f32⟩
  | .hbm, ⟨68, _⟩ => ⟨S_, .i32⟩
  | .hbm, ⟨69, _⟩ => ⟨S16384, .i32⟩
  | .hbm, ⟨70, _⟩ => ⟨S16384, .i1⟩
  | .hbm, ⟨71, _⟩ => ⟨S_, .i32⟩
  | .hbm, ⟨72, _⟩ => ⟨S16384, .i32⟩
  | .hbm, ⟨73, _⟩ => ⟨S16384, .i32⟩
  | .hbm, ⟨74, _⟩ => ⟨S16384, .i32⟩
  | .hbm, ⟨75, _⟩ => ⟨S16384x1, .i32⟩
  | .hbm, ⟨76, _⟩ => ⟨S16384x512x1024, .f32⟩
  | .hbm, ⟨77, _⟩ => ⟨S16384x1024, .f32⟩
  | .hbm, ⟨78, _⟩ => ⟨S16384, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S16384, .f32⟩
  | .hbm, ⟨83, _⟩ => ⟨S16384x1, .f32⟩
  | .hbm, ⟨84, _⟩ => ⟨S16384x1024, .f32⟩
  | .hbm, ⟨85, _⟩ => ⟨S16384x1024, .f32⟩
  | .hbm, ⟨86, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Sched.lean ====
/-
  The signalling plan of the kernel: the devices' neighbours, the buffers handed around, and, per semaphore, who
  pays it, how much, and what a payment hands over.

  The eight devices form two rings of four. In direction `true` (clockwise) the top halves of the expert weights
  move, in direction `false` the bottom halves. Device `c` sends in direction `d` to `nb d c`; `zp c` is the device
  of the other ring it exchanges its block with at the start.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Memref
public import Idealize.ShloMosaic.Lib.Tactic

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra of the plan: duties are named by the payer's place (0: anticlockwise side, 1: clockwise side, 2: the other ring). -/
abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The devices -/

set_option backward.proofsInPublic true in
/-- The device `c` sends to in direction `d`: the next one of its ring clockwise (`true`) or anticlockwise (`false`). -/
def nb (d : Bool) (c : Dev nD) : Dev nD :=
  ⟨c.val / 4 * 4 + (c.val % 4 + cond d 1 3) % 4, by have h : c.val < 8 := c.isLt; show _ < 8; cases d <;> simp only [cond] <;> omega⟩
set_option backward.proofsInPublic true in
/-- The device of the other ring at the same place. -/
def zp (c : Dev nD) : Dev nD := ⟨(c.val + 4) % 8, Nat.mod_lt _ (by decide)⟩

theorem nb_not (d : Bool) (c : Dev nD) : nb (!d) (nb d c) = c := by revert d c; decide
theorem nb_nb_not (d : Bool) (c : Dev nD) : nb d (nb (!d) c) = c := by revert d c; decide
theorem nb_tf (c : Dev nD) : nb true (nb false c) = c := nb_nb_not true c
theorem nb_ft (c : Dev nD) : nb false (nb true c) = c := nb_nb_not false c
theorem zp_zp (c : Dev nD) : zp (zp c) = c := by revert c; decide

def nbE (d : Bool) : Dev nD ≃ Dev nD := ⟨nb d, nb (!d), nb_not d, nb_nb_not d⟩
def zpE : Dev nD ≃ Dev nD := ⟨zp, zp, zp_zp, zp_zp⟩

theorem dev1_eq (c : Dev nD) (h : k0_dev1 c < nD) : (⟨k0_dev1 c, h⟩ : Dev nD) = nb false c := Fin.ext (by show k0_dev1 c = (nb false c).val; clear h; revert c; decide +kernel)
theorem dev2_eq (c : Dev nD) (h : k0_dev2 c < nD) : (⟨k0_dev2 c, h⟩ : Dev nD) = nb true c := Fin.ext (by show k0_dev2 c = (nb true c).val; clear h; revert c; decide +kernel)
theorem dev3_eq (c : Dev nD) (h : k0_dev3 c < nD) : (⟨k0_dev3 c, h⟩ : Dev nD) = zp c := Fin.ext (by show k0_dev3 c = (zp c).val; clear h; revert c; decide +kernel)
theorem dev4_eq (c : Dev nD) (h : k0_dev4 c < nD) : (⟨k0_dev4 c, h⟩ : Dev nD) = zp c := Fin.ext (by show k0_dev4 c = (zp c).val; clear h; revert c; decide +kernel)
theorem dev5_eq (c : Dev nD) (h : k0_dev5 c < nD) : (⟨k0_dev5 c, h⟩ : Dev nD) = zp c := Fin.ext (by show k0_dev5 c = (zp c).val; clear h; revert c; decide +kernel)
theorem dev6_eq (c : Dev nD) (h : k0_dev6 c < nD) : (⟨k0_dev6 c, h⟩ : Dev nD) = nb true c := Fin.ext (by show k0_dev6 c = (nb true c).val; clear h; revert c; decide +kernel)
theorem dev7_eq (c : Dev nD) (h : k0_dev7 c < nD) : (⟨k0_dev7 c, h⟩ : Dev nD) = nb false c := Fin.ext (by show k0_dev7 c = (nb false c).val; clear h; revert c; decide +kernel)
theorem dev8_eq (c : Dev nD) (h : k0_dev8 c < nD) : (⟨k0_dev8 c, h⟩ : Dev nD) = nb true c := Fin.ext (by show k0_dev8 c = (nb true c).val; clear h; revert c; decide +kernel)
theorem dev9_eq (c : Dev nD) (h : k0_dev9 c < nD) : (⟨k0_dev9 c, h⟩ : Dev nD) = nb false c := Fin.ext (by show k0_dev9 c = (nb false c).val; clear h; revert c; decide +kernel)
theorem dev10_eq (c : Dev nD) (h : k0_dev10 c < nD) : (⟨k0_dev10 c, h⟩ : Dev nD) = nb false c := Fin.ext (by show k0_dev10 c = (nb false c).val; clear h; revert c; decide +kernel)
theorem dev11_eq (c : Dev nD) (h : k0_dev11 c < nD) : (⟨k0_dev11 c, h⟩ : Dev nD) = nb true c := Fin.ext (by show k0_dev11 c = (nb true c).val; clear h; revert c; decide +kernel)
theorem dev12_eq (c : Dev nD) (h : k0_dev12 c < nD) : (⟨k0_dev12 c, h⟩ : Dev nD) = nb false c := Fin.ext (by show k0_dev12 c = (nb false c).val; clear h; revert c; decide +kernel)
theorem dev13_eq (c : Dev nD) (h : k0_dev13 c < nD) : (⟨k0_dev13 c, h⟩ : Dev nD) = nb true c := Fin.ext (by show k0_dev13 c = (nb true c).val; clear h; revert c; decide +kernel)
theorem dev14_eq (c : Dev nD) (h : k0_dev14 c < nD) : (⟨k0_dev14 c, h⟩ : Dev nD) = zp c := Fin.ext (by show k0_dev14 c = (zp c).val; clear h; revert c; decide +kernel)

/-- Whose block the slot of direction `d` holds on device `c` at step `s`. -/
def srcDev (d : Bool) (s : ℕ) (c : Dev nD) : Dev nD :=
  if s ≤ 3 then (nb (!d))^[s] c else zp ((nb (!d))^[s - 3] c)

theorem srcDev_zero (d : Bool) (c : Dev nD) : srcDev d 0 c = c := rfl
theorem srcDev_succ (d : Bool) (s : ℕ) (hs : s < 6) (h3 : s ≠ 3) (c : Dev nD) : srcDev d (s + 1) (nb d c) = srcDev d s c := by
  have key : ∀ s' : Fin 6, s'.val ≠ 3 → ∀ (d : Bool) (c : Dev nD), srcDev d (s'.val + 1) (nb d c) = srcDev d s'.val c := by decide +kernel
  exact key ⟨s, hs⟩ h3 d c
theorem srcDev_four (d : Bool) (c : Dev nD) : srcDev d 4 (nb d c) = zp c := by revert d c; decide +kernel

/-! ## The buffers -/

/-- The two-slot buffer of direction `d`. -/
def commM (d : Bool) : Memref sig .tc .vmem S2x8x256x1024 .bf16 := match d with
  | true => Memref.whole cc0_scratch0
  | false => Memref.whole cc0_scratch1

theorem slot_inb (b : Fin 2) : ∀ k, ![b.val, 0, 0, 0] k + S1x8x256x1024.size k ≤ S2x8x256x1024.size k := by
  revert b; decide

/-- Slot `b` of the buffer of direction `d`. -/
def slot (d : Bool) (b : Fin 2) : Memref sig .tc .vmem S8x256x1024 .bf16 :=
  ((commM d).slice (Rect.unit (s := S2x8x256x1024) ![b.val, 0, 0, 0] S1x8x256x1024.size (slot_inb b)) (fun _ => rfl)).squeeze
    S8x256x1024 squeezes_S1x8x256x1024_S8x256x1024

/-- The buffer that receives the other ring's block. -/
def zM (d : Bool) : Memref sig .tc .vmem S8x256x1024 .bf16 := match d with
  | true => Memref.whole cc0_scratch2
  | false => Memref.whole cc0_scratch3

/-- The device's own block, in HBM. -/
def wM (d : Bool) : Memref sig .tc .hbm S8x256x1024 .bf16 := match d with
  | true => Memref.whole main_v86
  | false => Memref.whole main_v87

/-- The slot used at step `s`. -/
def bit (s : ℕ) : Fin 2 := ⟨s % 2, Nat.mod_lt _ (by decide)⟩
theorem bit_two (s : ℕ) : bit (s + 2) = bit s := Fin.ext (Nat.add_mod_right s 2)
theorem bit_zero : bit 0 = 0 := rfl
theorem bit_one : bit 1 = 1 := rfl

/-! ## The semaphores -/

def sndS (d : Bool) (b : Fin 2) : DmaSem sig := ⟨cond d 5 9 + b.val, by revert d b; decide⟩
def rcvS (d : Bool) (b : Fin 2) : DmaSem sig := ⟨cond d 7 11 + b.val, by revert d b; decide⟩
def zsS (d : Bool) : DmaSem sig := ⟨cond d 13 14, by revert d; decide⟩
def zrS (d : Bool) : DmaSem sig := ⟨cond d 15 16, by revert d; decide⟩
def ldS : DmaSem sig := ⟨17, by decide⟩
def crS (d : Bool) : Sem sig := ⟨cond d 0 1, by revert d; decide⟩
def barS : Sem sig := ⟨2, by decide⟩
def exS : Sem sig := ⟨3, by decide⟩

/-- The semaphores of the plan: the opening barrier, the exit barrier, the credits, the departures and the arrivals
    of the rings, those of the exchange between the rings, and the local copies'. -/
inductive Kd
  | bar | ex | cr (d : Bool) | snd (d : Bool) (b : Fin 2) | rcv (d : Bool) (b : Fin 2) | zs (d : Bool) | zr (d : Bool) | ld
  deriving DecidableEq

instance : Fintype Kd where
  elems := {.bar, .ex, .cr true, .cr false, .snd true 0, .snd true 1, .snd false 0, .snd false 1,
    .rcv true 0, .rcv true 1, .rcv false 0, .rcv false 1, .zs true, .zs false, .zr true, .zr false, .ld}
  complete k := by
    cases k with
    | bar => decide
    | ex => decide
    | cr d => revert d; decide
    | snd d b => revert d b; decide
    | rcv d b => revert d b; decide
    | zs d => revert d; decide
    | zr d => revert d; decide
    | ld => decide

def semOf : Kd → SemLoc sig
  | .bar => .reg barS
  | .ex => .reg exS
  | .cr d => .reg (crS d)
  | .snd d b => .dma (sndS d b)
  | .rcv d b => .dma (rcvS d b)
  | .zs d => .dma (zsS d)
  | .zr d => .dma (zrS d)
  | .ld => .dma ldS

/-- Which semaphore of the plan a semaphore is. -/
def kdOf : SemLoc sig → Option Kd
  | .reg s => if s.val = 0 then some (.cr true) else if s.val = 1 then some (.cr false) else if s.val = 2 then some .bar else some .ex
  | .dma s =>
    if s.val < 5 then none
    else if s.val < 7 then some (.snd true (bit (s.val + 1)))
    else if s.val < 9 then some (.rcv true (bit (s.val + 1)))
    else if s.val < 11 then some (.snd false (bit (s.val + 1)))
    else if s.val < 13 then some (.rcv false (bit (s.val + 1)))
    else if s.val = 13 then some (.zs true) else if s.val = 14 then some (.zs false)
    else if s.val = 15 then some (.zr true) else if s.val = 16 then some (.zr false) else some .ld

theorem kdOf_semOf (k : Kd) : kdOf (semOf k) = some k := by revert k; decide
theorem semOf_kdOf (s : SemLoc sig) (k : Kd) (h : kdOf s = some k) : semOf k = s := by
  have hr : ∀ (s : Fin 4) (k : Kd), kdOf (.reg s) = some k → semOf k = .reg s := by decide
  have hd : ∀ (s : Fin 18) (k : Kd), kdOf (.dma s) = some k → semOf k = .dma s := by decide
  cases s with
  | reg s => exact hr s k h
  | dma s => exact hd s k h
theorem semOf_inj : Function.Injective semOf := fun a b h => by
  have := congrArg kdOf h
  rw [kdOf_semOf, kdOf_semOf] at this
  exact Option.some.inj this

/-- The semaphore `k` of device `c`. -/
abbrev cell (k : Kd) (c : Dev nD) : GSem nD τ sig := ((c : Thread nD τ), semOf k)

/-- What a transfer of one block credits. -/
def N : ℕ := (zM true).view.dmaCredit
theorem N_pos : 0 < N := View.dmaCredit_pos _ (by decide)

/-! ## The plan -/

/-- Whose payment a duty is on the barriers: 0 names the sender of direction `true`'s receiver side. -/
def dIx (d : Bool) : Fin 3 := match d with | true => 0 | false => 1

/-- The rounds of each semaphore, and the duties of each. -/
def dut : Kd → ℕ → Finset (Fin 3)
  | .bar, r => if r < 1 then Finset.univ else ∅
  | .ex, r => if r < 1 then Finset.univ else ∅
  | .cr _, r => if r < 5 then {0} else ∅
  | .snd _ _, r => if r < 3 then {0} else ∅
  | .rcv _ _, r => if r < 3 then {0} else ∅
  | .zs _, r => if r < 1 then {0} else ∅
  | .zr _, r => if r < 1 then {0} else ∅
  | .ld, r => if r < 2 then {0} else ∅

/-- The units of one payment. -/
def amt : Kd → ℕ
  | .bar | .ex | .cr _ => 1
  | .snd _ _ | .rcv _ _ | .zs _ | .zr _ | .ld => N

theorem amt_pos (k : Kd) : 0 < amt k := by
  have := N_pos
  cases k <;> simp only [amt] <;> first | exact Nat.one_pos | exact this

/-- The rounds after which a semaphore has no more duties. -/
def last : Kd → ℕ
  | .bar | .ex | .zs _ | .zr _ => 1
  | .cr _ => 5
  | .snd _ _ | .rcv _ _ => 3
  | .ld => 2
theorem dut_last (k : Kd) : ∀ r, last k ≤ r → dut k r = ∅ := fun r h => by
  cases k <;> exact if_neg (Nat.not_lt.mpr h)

section Plan
/- The block of each device: top half (`true`), bottom half (`false`). -/
variable (w : Bool → Dev nD → S8x256x1024.Idx → Elt F .bf16)

/-- Device `c` holds the block `X` in `m` at share `q`. -/
abbrev hasV (c : Dev nD) (m : Memref sig .tc .vmem S8x256x1024 .bf16) (q : PosShare TreeShare) (X : S8x256x1024.Idx → Elt F .bf16) : sProp 𝕄 :=
  owns (c : Thread nD τ) m q X
abbrev hasW (c : Dev nD) (d : Bool) (q : PosShare TreeShare) (X : S8x256x1024.Idx → Elt F .bf16) : sProp 𝕄 :=
  owns (c : Thread nD τ) (wM d) q X
/-- Device `c` holds all of `m`, at any contents. -/
abbrev anyV (c : Dev nD) (m : Memref sig .tc .vmem S8x256x1024 .bf16) : sProp 𝕄 := iprop(∃ X, hasV c m fullShare X)

/-- The block in the slot of direction `d` on device `c` at step `s`. -/
abbrev blk (d : Bool) (s : ℕ) (c : Dev nD) : S8x256x1024.Idx → Elt F .bf16 := w d (srcDev d s c)

/-- What the barrier's unit paid by `nb d c` hands device `c`. -/
def barPay (d : Bool) (c : Dev nD) : sProp 𝕄 :=
  iprop(anyV (nb d c) (slot d 1) ∗ reached ER (cell (.rcv d 1) (nb d c)) 0 ∗ reached ER (cell .ex (nb d c)) 0)
/-- What the barrier's unit paid by the other ring's device hands device `c`. -/
def zbarPay (c : Dev nD) : sProp 𝕄 :=
  iprop(anyV (zp c) (zM true) ∗ anyV (zp c) (zM false)
    ∗ reached ER (cell (.zr true) (zp c)) 0 ∗ reached ER (cell (.zr false) (zp c)) 0 ∗ reached ER (cell .ex (zp c)) 0)
/-- What the credit of round `r` hands device `c`: the slot the sender may write next. -/
def crPay (d : Bool) (r : ℕ) (c : Dev nD) : sProp 𝕄 :=
  iprop(anyV (nb d c) (slot d (bit r)) ∗ reached ER (cell (.rcv d (bit r)) (nb d c)) ((r + 1) / 2))
/-- What a departure hands back: half a share of the block sent. -/
def sndPay (d : Bool) (b : Fin 2) (r : ℕ) (c : Dev nD) : sProp 𝕄 :=
  if 2 * r + b.val = 3 then hasV c (zM d) fullShare.left (w d (zp c))
  else hasV c (slot d b) fullShare.left (blk w d (2 * r + b.val) c)
/-- What an arrival hands over: the slot at the next step's block. -/
def rcvPay (d : Bool) (b : Fin 2) (r : ℕ) (c : Dev nD) : sProp 𝕄 :=
  iprop(hasV c (slot d b) fullShare (blk w d (2 * r + 2 - b.val) c)
    ∗ reached ER (cell (.cr d) (nb (!d) c)) (2 * r + 1 - b.val))
/-- What the local copy of round `r` hands over: the source share and the filled slot. -/
def ldPay (r : ℕ) (c : Dev nD) : sProp 𝕄 :=
  iprop(hasV c (slot (decide (r = 0)) 0) fullShare (w (decide (r = 0)) c)
    ∗ hasW c (decide (r = 0)) fullShare.right (w (decide (r = 0)) c))

def pay (c : Dev nD) (k : Kd) (r : ℕ) (d : Fin 3) : sProp 𝕄 := match k with
  | .bar => if d = 0 then barPay true c else if d = 1 then barPay false c else zbarPay c
  | .ex => iprop(emp)
  | .cr e => crPay e r c
  | .snd e b => sndPay w e b r c
  | .rcv e b => rcvPay w e b r c
  | .zs e => hasW c e fullShare.left (w e c)
  | .zr e => hasV c (zM e) fullShare (w e (zp c))
  | .ld => ldPay w r c

instance pay_storable (c : Dev nD) (k : Kd) (r : ℕ) (d : Fin 3) : BI.Storable (upEmb : UEmb _ 𝕄) (pay w c k r d) := by
  cases k <;> simp only [pay]
  · split_ifs <;> simp only [barPay, zbarPay] <;> infer_instance
  · infer_instance
  · unfold crPay; infer_instance
  · unfold sndPay; split_ifs <;> infer_instance
  · unfold rcvPay; infer_instance
  · infer_instance
  · infer_instance
  · unfold ldPay; infer_instance

/-- The plan. -/
def Rd : Rounds.Schedule (GSem nD τ sig) (Fin 3) 𝕄 where
  duties g r := if g.1.2 = .tc then (kdOf g.2).elim ∅ fun k => dut k r else ∅
  amount g _ _ := (kdOf g.2).elim 1 amt
  payload g r d := (kdOf g.2).elim iprop(emp) fun k => pay w g.1.1 k r d
  amount_pos g _ _ _ := by
    cases h : kdOf g.2 with
    | none => exact Nat.one_pos
    | some k => exact amt_pos k

instance Rd_storable (g : GSem nD τ sig) (r : ℕ) (d : Fin 3) : BI.Storable (upEmb : UEmb _ 𝕄) ((Rd (F := F) w).payload g r d) := by
  dsimp only [Rd]
  cases h : kdOf g.2 with
  | none => dsimp only [Option.elim]; infer_instance
  | some k => dsimp only [Option.elim]; infer_instance

theorem duties_cell (k : Kd) (c : Dev nD) (r : ℕ) : (Rd (F := F) w).duties (cell k c) r = dut k r := by
  dsimp only [Rd]; rw [kdOf_semOf]; rfl
theorem amount_cell (k : Kd) (c : Dev nD) (r : ℕ) (d : Fin 3) : (Rd (F := F) w).amount (cell k c) r d = amt k := by
  dsimp only [Rd]; rw [kdOf_semOf]; rfl
theorem payload_cell (k : Kd) (c : Dev nD) (r : ℕ) (d : Fin 3) : (Rd (F := F) w).payload (cell k c) r d = pay w c k r d := by
  dsimp only [Rd]; rw [kdOf_semOf]; rfl
theorem expect_cell (k : Kd) (c : Dev nD) (r : ℕ) : (Rd (F := F) w).expect (cell k c) r = (dut k r).card * amt k := by
  unfold Rounds.Schedule.expect Rounds.Schedule.amountOf
  rw [duties_cell, Finset.sum_congr rfl fun d _ => amount_cell w k c r d, Finset.sum_const, smul_eq_mul]
theorem rest_cell (k : Kd) (c : Dev nD) (r : ℕ) :
    bigSep ((Rd (F := F) w).duties (cell k c) r \ ∅) (fun u => (Rd (F := F) w).payload (cell k c) r u) = bigSep (dut k r) (fun u => pay w c k r u) := by
  rw [duties_cell, Finset.sdiff_empty]
  exact congrArg _ (funext fun u => payload_cell w k c r u)
end Plan

end Cert.MoeProof
-- ==== Proof.Rules.lean ====
/-
  One rule per kind of operation of the kernel body, in the terms of the plan (`Sched`): a wait takes a round's
  payloads, a signal or a transfer pays a duty. And the levels that order the waits.
-/
module

public import proofs.«01_k».proof.Proof.Sched

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The levels -/

/-- The indices the plan's units are named by: the steps of the grid. -/
def L (g : GSem nD τ sig) : Finset ℕ := if g.1.2 = .tc then Finset.range 8 else ∅
/-- The level of a wait: the waits of a later step lie higher. -/
def lvK : Kd → ℕ → ℕ
  | .bar, _ => 1
  | .ex, _ => 100
  | .cr _, i => 10 * i + 8
  | .rcv _ _, i => 10 * i + 5
  | .zr _, _ => 30
  | .snd _ _, _ | .zs _, _ | .ld, _ => 0
def lv (g : GSem nD τ sig) (i : ℕ) : ℕ := (kdOf g.2).elim 0 fun k => lvK k i

theorem L_of_ne (g : GSem nD τ sig) (h : g.1.2 ≠ .tc) : L g = ∅ := if_neg h
theorem L_tc (c : Dev nD) (sm : SemLoc sig) : L ((c : Thread nD τ), sm) = Finset.range 8 := if_pos rfl
theorem lv_cell (k : Kd) (c : Dev nD) (i : ℕ) : lv (cell k c) i = lvK k i := by unfold lv; rw [kdOf_semOf]; rfl

/-- All units of `O` lie at levels above `b`. -/
def Above (b : ℕ) (O : CellTallies nD τ sig ℕ) : Prop := ∀ (g : GSem nD τ sig) (i : ℕ), 0 < O g i → i ∈ L g ∧ b < lv g i

theorem Above.zero (b : ℕ) : Above b 0 := fun g i h => absurd h (by rw [Pi.zero_apply, Finsupp.zero_apply]; exact Nat.lt_irrefl 0)
theorem Above.add {b : ℕ} {O O' : CellTallies nD τ sig ℕ} (h : Above b O) (h' : Above b O') : Above b (O + O') := fun g i hg => by
  rw [Pi.add_apply, Finsupp.add_apply] at hg
  rcases Nat.eq_zero_or_pos (O g i) with h0 | h0
  · exact h' g i (by omega)
  · exact h g i h0
theorem Above.tally {b : ℕ} (k : Kd) (c : Dev nD) (i n : ℕ) (hi : i < 8) (hb : b < lvK k i) : Above b (tallyAt (cell k c) i n) := fun g j hg => by
  rw [tallyAt_apply] at hg
  by_cases h : g = cell k c ∧ j = i
  · obtain ⟨rfl, rfl⟩ := h
    exact ⟨by rw [L_tc]; exact Finset.mem_range.mpr hi, by rw [lv_cell]; exact hb⟩
  · rw [if_neg h] at hg; exact absurd hg (Nat.lt_irrefl 0)
theorem Above.mono {b b' : ℕ} {O : CellTallies nD τ sig ℕ} (h : Above b O) (hb : b' ≤ b) : Above b' O := fun g i hg =>
  ⟨(h g i hg).1, lt_of_le_of_lt hb (h g i hg).2⟩

/-- A wait lies below all that its device owes: it may be taken. -/
theorem mayWait (k : Kd) (c : Dev nD) (i : ℕ) (hi : i < 8) (O : CellTallies nD τ sig ℕ) (hO : Above (lvK k i) O) :
    (levAts L lv : sProp 𝕄) ⊢ MayWait (c : Thread nD τ) (semOf k) i O :=
  MayOwe.of_cut (L := L) (lev := lv) (lvK k i) (fun p hp => by rw [Finset.mem_singleton.mp hp, L_tc]; exact Finset.mem_range.mpr hi)
    (fun g j hg => (hO g j hg).1) (fun p hp => by rw [Finset.mem_singleton.mp hp]; exact le_of_eq (lv_cell k c i)) (fun g j hg => (hO g j hg).2)

/-! ## The rules -/

variable (w : Bool → Dev nD → S8x256x1024.Idx → Elt F .bf16)

/-- The invariants of all the plan's cells, at their names. -/
def Inv (K : GSem nD τ sig → ℕ) : sProp 𝕄 :=
  bigSep Finset.univ fun p : Dev nD × Kd => cellInv ER (Rd w) (K (cell p.2 p.1)) (cell p.2 p.1)
instance Inv_persistent (K : GSem nD τ sig → ℕ) : BI.Persistent (Inv w K) := by unfold Inv; infer_instance
theorem Inv_at (K : GSem nD τ sig → ℕ) (k : Kd) (c : Dev nD) : Inv w K ⊢ cellInv ER (Rd w) (K (cell k c)) (cell k c) :=
  bigSep_elim (Φ := fun p : Dev nD × Kd => cellInv ER (Rd w) (K (cell p.2 p.1)) (cell p.2 p.1)) (Finset.mem_univ (c, k))

/-- What device `c` owes. -/
def ow (c : Dev nD) (O : CellTallies nD τ sig ℕ) : sProp 𝕄 := iprop(∃ W, owes (c : Thread nD τ) O W)

variable (𝒱₀ : Variants)

/-- The weakest precondition of a program of the kernel on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A wait for a whole round: the round's payloads. -/
theorem wait_rule (K : GSem nD τ sig → ℕ) (c : Dev nD) (k : Kd) (r ι : ℕ) (hι : ι < 8) (O : CellTallies nD τ sig ℕ) (hO : Above (lvK k ι) O)
    (sm : SemLoc sig) (hsm : sm = semOf k) (n : ℕ) (hn : n = (dut k r).card * amt k) (a : TpuEff nD τ sig (Elt F) Λ₀ .tc PUnit)
    (hw : ∀ Kt : PUnit → sProp 𝕄, wpE (defs₀ (F := F)) 𝒱₀ (c : Thread nD τ) none Set.univ a Kt = waitSpec (c : Thread nD τ) Set.univ sm n Kt)
    {α : Type} (kt : PUnit → Prog (TpuEff nD τ sig (Elt F) Λ₀ .tc) α) (Q : α → sProp 𝕄) :
    iprop(Inv w K ∗ levAts L lv ∗ cred (tallyAt (cell k c) ι n) ∗ ow c O ∗ atPos ER (cell k c) r ∅ 0)
      ⊢ iprop(((ow c O ∗ atPos ER (cell k c) (r + 1) ∅ 0 ∗ reached ER (cell k c) (r + 1) ∗ bigSep (dut k r) (fun u => pay w c k r u))
            -∗ WP 𝒱₀ c (kt ⟨⟩) Q) -∗ WP 𝒱₀ c (.op a kt) Q) := by
  subst hsm
  iintro ⟨#HI, #Hlev, Hc, HO, Hat⟩ Hk
  unfold ow
  icases HO with ⟨%W, HO⟩
  iapply (Rounds.wp_wait_rest_token 𝒱₀ ER (Rd w) (c : Thread nD τ) none (κ := K (cell k c)) hw (Set.mem_univ _) ι (O := O) (W := W) (R := r) (m := 0) (T := ∅)
      (by rw [Nat.zero_add, expect_cell]; exact hn)) $$ [Hc HO Hat]
  · isplitr; · iapply (Inv_at w K k c); iexact HI
    isplitl [Hc]; · iexact Hc
    isplitl [HO]; · iexact HO
    isplitr; · iapply (mayWait k c ι hι O hO); iexact Hlev
    iexact Hat
  iintro ⟨HO, Hat, Hr, Hp⟩
  iapply Hk
  isplitl [HO]; · iexists _; iexact HO
  isplitl [Hat]; · iexact Hat
  isplitl [Hr]; · iexact Hr
  iapply (Entails.of_eq (rest_cell w k c r)); iexact Hp

/-- A wait for a transfer's units. -/
theorem waitD (K : GSem nD τ sig → ℕ) (c : Dev nD) (k : Kd) (r ι : ℕ) (hι : ι < 8) (O : CellTallies nD τ sig ℕ) (hO : Above (lvK k ι) O)
    {sem : DmaSem sig} {sp sp' : Space} {src : Memref sig .tc sp' S8x256x1024 .bf16} {dst : Memref sig .tc sp S8x256x1024 .bf16}
    {hsrc : src.view.WordExact} {hdst : dst.view.WordExact}
    (hsm : SemLoc.dma sem = semOf k) (hN : dst.view.dmaCredit = N) (hd : dut k r = {0}) (hk : amt k = N)
    {α : Type} {kt : PUnit → Prog (TpuEff nD τ sig (Elt F) Λ₀ .tc) α} {Q : α → sProp 𝕄} :
    iprop(Inv w K ∗ levAts L lv ∗ cred (tallyAt (cell k c) ι N) ∗ ow c O ∗ atPos ER (cell k c) r ∅ 0)
      ⊢ iprop(((ow c O ∗ atPos ER (cell k c) (r + 1) ∅ 0 ∗ reached ER (cell k c) (r + 1) ∗ pay w c k r 0)
            -∗ WP 𝒱₀ c (kt ⟨⟩) Q) -∗ WP 𝒱₀ c (.op (.waitDma2 sem src dst hsrc hdst) kt) Q) := by
  have h := wait_rule (F := F) w 𝒱₀ K c k r ι hι O hO (.dma sem) hsm N (by rw [hd, hk, Finset.card_singleton, Nat.one_mul])
    (.waitDma2 sem src dst hsrc hdst) (fun Kt => by rw [wpE_waitDma2_eq, hN]) kt Q
  rw [hd, bigSep_singleton] at h
  exact h

/-- A wait for the units of signals. -/
theorem waitR (K : GSem nD τ sig → ℕ) (c : Dev nD) (k : Kd) (r ι : ℕ) (hι : ι < 8) (O : CellTallies nD τ sig ℕ) (hO : Above (lvK k ι) O)
    {sem : Sem sig} {z : ℤ} (n : ℕ) (hz : z = (n : ℤ))
    (hsm : SemLoc.reg sem = semOf k) (hn : n = (dut k r).card * amt k)
    {α : Type} {kt : PUnit → Prog (TpuEff nD τ sig (Elt F) Λ₀ .tc) α} {Q : α → sProp 𝕄} :
    iprop(Inv w K ∗ levAts L lv ∗ cred (tallyAt (cell k c) ι n) ∗ ow c O ∗ atPos ER (cell k c) r ∅ 0)
      ⊢ iprop(((ow c O ∗ atPos ER (cell k c) (r + 1) ∅ 0 ∗ reached ER (cell k c) (r + 1) ∗ bigSep (dut k r) (fun u => pay w c k r u))
            -∗ WP 𝒱₀ c (kt ⟨⟩) Q) -∗ WP 𝒱₀ c (.op (.semWait sem z) kt) Q) := by
  subst hz
  exact wait_rule (F := F) w 𝒱₀ K c k r ι hι O hO (.reg sem) hsm n hn (.semWait sem n) (fun Kt => wpE_semWait_eq 𝒱₀ (c : Thread nD τ) none Set.univ Kt) kt Q

/-- A signal pays a duty. -/
theorem signal_rule (K : GSem nD τ sig → ℕ) (c c' : Dev nD) (k : Kd) (r ι : ℕ) (d : Fin 3) (O : CellTallies nD τ sig ℕ)
    {dst : Dev nD} (hdst : dst = c') {sem : Sem sig} (hsm : SemLoc.reg sem = semOf k) {z : ℤ} (hz : z = ((1 : ℕ) : ℤ)) (hd : d ∈ dut k r) (hk : amt k = 1)
    {α : Type} {kt : PUnit → Prog (TpuEff nD τ sig (Elt F) Λ₀ .tc) α} {Q : α → sProp 𝕄} :
    iprop(Inv w K ∗ ow c (O + tallyAt (cell k c') ι 1) ∗ dutyTok ER (cell k c') r d ∗ pay w c' k r d ∗ reached ER (cell k c') r)
      ⊢ iprop((ow c O -∗ WP 𝒱₀ c (kt ⟨⟩) Q) -∗ WP 𝒱₀ c (.op (.semSignal (Dev.tc dst) sem z) kt) Q) := by
  subst hdst; subst hz
  have e : cell k dst = ((dst : Thread nD τ), SemLoc.reg sem) := by rw [hsm]
  iintro ⟨#HI, HO, Ht, Hp, #Hr⟩ Hk
  unfold ow
  icases HO with ⟨%W, HO⟩
  iapply (Rounds.wp_signal 𝒱₀ ER (Rd w) (c : Thread nD τ) none (dst := (dst : Thread nD τ)) (sem := sem) (r := r) (d := d) (k' := 1) (κ := K (cell k dst))
      (by rw [← e, duties_cell]; exact hd) (by rw [← e, amount_cell]; exact hk) ι (O₀ := O + tallyAt (cell k dst) ι 1) O (by rw [e]) (W := W)) $$ [HO Ht Hp]
  · isplitr; · iapply (Inv_at w K k dst |>.trans (Entails.of_eq (by rw [e]))); iexact HI
    isplitl [HO]; · iexact HO
    isplitl [Ht]; · iapply (Entails.of_eq (congrArg (fun g => dutyTok ER g r d) e)); iexact Ht
    isplitl [Hp]; · iapply (Entails.of_eq ((payload_cell w k dst r d).symm.trans (by rw [e]))); iexact Hp
    iapply (Entails.of_eq (congrArg (fun g => reached ER g r) e)); iexact Hr
  iintro HO
  iapply Hk
  iexists _; iexact HO

/-- A transfer to another device: the source share pays the departure's duty, the written destination the arrival's. -/
theorem send_rule (K : GSem nD τ sig → ℕ) (c c' : Dev nD) {sp : Space} (src' : Memref sig .tc sp S8x256x1024 .bf16) (dst' : Memref sig .tc .vmem S8x256x1024 .bf16)
    (k₁ k₂ : Kd) (r₁ r₂ ι ι' : ℕ) (O : CellTallies nD τ sig ℕ) (q : PosShare TreeShare) (X : S8x256x1024.Idx → Elt F .bf16) (Fr : sProp 𝕄)
    {src : Memref sig .tc sp S8x256x1024 .bf16} {dst : Memref sig .tc .vmem S8x256x1024 .bf16} {n : Dev nD}
    {sS sem : SemLoc sig} {hsc : dst.view.ref.isScScratch = false} {hsrc : src.view.WordExact} {hdst : dst.view.WordExact}
    {hsem : DmaTarget.Typed sp sem (.remote (Dev.tc n) dst sS hsc)}
    (es : src = src') (ed : dst = dst') (en : n = c') (e₁ : sS = semOf k₁) (e₂ : sem = semOf k₂) (hN : dst.view.amount sem = N)
    (hd₁ : (0 : Fin 3) ∈ dut k₁ r₁) (hd₂ : (0 : Fin 3) ∈ dut k₂ r₂) (ha₁ : amt k₁ = N) (ha₂ : amt k₂ = N)
    (h₁ : (owns (c : Thread nD τ) src' q X : sProp 𝕄) ⊢ pay w c k₁ r₁ 0) (h₂ : iprop(hasV c' dst' fullShare X ∗ Fr) ⊢ pay w c' k₂ r₂ 0)
    {α : Type} {kt : PUnit → Prog (TpuEff nD τ sig (Elt F) Λ₀ .tc) α} {Q : α → sProp 𝕄} :
    iprop(Inv w K ∗ owns (c : Thread nD τ) src' q X ∗ anyV c' dst' ∗ Fr ∗ ow c (O + tallyAt (cell k₂ c') ι N)
        ∗ dutyTok ER (cell k₁ c) r₁ 0 ∗ reached ER (cell k₁ c) r₁ ∗ dutyTok ER (cell k₂ c') r₂ 0 ∗ reached ER (cell k₂ c') r₂)
      ⊢ iprop(((cred (tallyAt (cell k₁ c) ι' N) ∗ ow c O) -∗ WP 𝒱₀ c (kt ⟨⟩) Q)
          -∗ WP 𝒱₀ c (.op (.enqueueDma src (.remote (Dev.tc n) dst sS hsc) sem hsrc hdst hsem) kt) Q) := by
  subst es; subst ed; subst en; subst e₁; subst e₂
  iintro ⟨#HI, Hs, Hd, HF, HO, Ht₁, #Hr₁, Ht₂, #Hr₂⟩ Hk
  unfold anyV hasV owns ow
  icases Hs with ⟨%fs, %hfs, Hsrc⟩
  icases Hd with ⟨%Y, %fd, %hfd, Hdst⟩
  icases HO with ⟨%W, HO⟩
  iapply (Rounds.wp_send_pointsTo_with 𝒱₀ ER (Rd w) (c : Thread nD τ) none (c' := (n : Thread nD τ)) (src := src) (dst := dst)
      (sS := semOf k₁) (sem := semOf k₂) (q := q) (fs := fs) (fd := fd) (F := Fr) (κ₁ := K (cell k₁ c)) (κ₂ := K (cell k₂ n)) (r₁ := r₁) (r₂ := r₂) (d₁ := 0) (d₂ := 0)
      (by rw [duties_cell]; exact hd₁) (by rw [duties_cell]; exact hd₂) ι ι' N hN (by rw [amount_cell]; exact ha₁) (by rw [amount_cell]; exact ha₂)
      O rfl (W := W)
      (by rw [payload_cell]; exact (owns_intro (c : Thread nD τ) src q fs).trans (by rw [hfs]; exact h₁))
      (by
        rw [payload_cell]
        refine BIBase.Entails.trans (sep_mono_left ?_) h₂
        rw [hfs]
        exact (owns_intro (n : Thread nD τ) dst fullShare _).trans (by rw [View.read_write_univ])))
      $$ [Hsrc Hdst HF HO Ht₁ Ht₂]
  · isplitr; · iapply (Inv_at w K k₁ c); iexact HI
    isplitr; · iapply (Inv_at w K k₂ n); iexact HI
    isplitl [Hsrc]; · iexact Hsrc
    isplitl [Hdst HF]
    · isplitl [Hdst]; · iexact Hdst
      iexact HF
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists _; iexact HO

/-- A copy within the device pays the one duty of its round. -/
theorem copy_rule (K : GSem nD τ sig → ℕ) (c : Dev nD) {sp : Space} (src' : Memref sig .tc sp S8x256x1024 .bf16) (dst' : Memref sig .tc .vmem S8x256x1024 .bf16)
    (k : Kd) (r ι : ℕ) (q : PosShare TreeShare) (X : S8x256x1024.Idx → Elt F .bf16)
    {src : Memref sig .tc sp S8x256x1024 .bf16} {dst : Memref sig .tc .vmem S8x256x1024 .bf16}
    {sem : SemLoc sig} {hsrc : src.view.WordExact} {hdst : dst.view.WordExact} {hsem : DmaTarget.Typed sp sem (DmaTarget.here dst : DmaTarget nD τ sig .tc .vmem S8x256x1024 .bf16)}
    (es : src = src') (ed : dst = dst') (e₂ : sem = semOf k) (hN : dst.view.amount sem = N)
    (hd : (0 : Fin 3) ∈ dut k r) (ha : amt k = N)
    (h : iprop(hasV c dst' fullShare X ∗ owns (c : Thread nD τ) src' q X) ⊢ pay w c k r 0)
    {α : Type} {kt : PUnit → Prog (TpuEff nD τ sig (Elt F) Λ₀ .tc) α} {Q : α → sProp 𝕄} :
    iprop(Inv w K ∗ owns (c : Thread nD τ) src' q X ∗ anyV c dst' ∗ dutyTok ER (cell k c) r 0 ∗ reached ER (cell k c) r)
      ⊢ iprop((cred (tallyAt (cell k c) ι N) -∗ WP 𝒱₀ c (kt ⟨⟩) Q)
          -∗ WP 𝒱₀ c (.op (.enqueueDma src (.here dst) sem hsrc hdst hsem) kt) Q) := by
  subst es; subst ed; subst e₂
  iintro ⟨#HI, Hs, Hd, Ht, #Hr⟩ Hk
  unfold anyV hasV owns
  icases Hs with ⟨%fs, %hfs, Hsrc⟩
  icases Hd with ⟨%Y, %fd, %hfd, Hdst⟩
  iapply (Rounds.wp_copy_pointsTo 𝒱₀ ER (Rd w) (c : Thread nD τ) none (src := src) (dst := dst) (sem := semOf k) (q := q) (fs := fs) (fd := fd) (r := r) (d := 0)
      (κ := K (cell k c)) (by rw [duties_cell]; exact hd) ι N hN (by rw [amount_cell]; exact ha)
      (by
        rw [payload_cell]
        refine BIBase.Entails.trans (BI.sep_mono ?_ ?_) h
        · rw [hfs]; exact (owns_intro (c : Thread nD τ) dst fullShare _).trans (by rw [View.read_write_univ])
        · exact (owns_intro (c : Thread nD τ) src q fs).trans (by rw [hfs]))) $$ [Hsrc Hdst Ht]
  · isplitr; · iapply (Inv_at w K k c); iexact HI
    isplitl [Hsrc]; · iexact Hsrc
    isplitl [Hdst]; · iexact Hdst
    isplitl [Ht]; · iexact Ht
    iexact Hr
  iintro Hc
  iapply Hk
  iexact Hc

/-! ### Loads and stores -/

/-- A load of a rectangle of an owned buffer. -/
theorem load_rule (c : Dev nD) {s : Shape} {e : EltTy} {m : Memref sig .tc .vmem s e} {r : LoadRect s} {hl : m.view.LoadsAt r}
    {q : PosShare TreeShare} {X : s.Idx → Elt F e} (m' : Memref sig .tc .vmem s e) (hm : m = m')
    {α : Type} {kt : (r.shape.Idx → Elt F e) → Prog (TpuEff nD τ sig (Elt F) Λ₀ .tc) α} {Q : α → sProp 𝕄} :
    (owns (c : Thread nD τ) m' q X : sProp 𝕄)
      ⊢ iprop((owns (c : Thread nD τ) m' q X -∗ WP 𝒱₀ c (kt fun x => X (r.idx x)) Q) -∗ WP 𝒱₀ c (.op (.load m r hl) kt) Q) := by
  subst hm
  unfold owns
  iintro ⟨%f, %hf, Hm⟩ Hk
  subst hf
  iapply (wp_load 𝒱₀ (c : Thread nD τ) none Set.univ (m := m) (q := q) (f := f) (S := m.view.set)
    (View.setOn_subset_set _ _)) $$ Hm
  iintro Hm
  iapply Hk
  iexists f
  isplitr; · ipureintro; rfl
  iexact Hm

/-- The rectangle of all of a shape reads each element at its place. -/
theorem idx_full {s : Shape} {off : Fin s.rank → ℕ} {inb : ∀ a, off a + s.size a ≤ s.size a} (ho : off = fun _ => 0)
    (x : s.Idx) : (Rect.unit (s := s) off s.size inb).toLoadRect.idx x = x := funext fun a => Fin.ext (by
  subst ho
  rw [LoadRect.idx_apply]
  show 0 + 1 * (x a).val = (x a).val
  rw [Nat.zero_add, Nat.one_mul])

/-- A load of a whole owned buffer. -/
theorem load_full (c : Dev nD) {s : Shape} {e : EltTy} {m : Memref sig .tc .vmem s e} {off : Fin s.rank → ℕ} {inb : ∀ a, off a + s.size a ≤ s.size a}
    {hl : m.view.LoadsAt (Rect.unit (s := s) off s.size inb).toLoadRect} (ho : off = fun _ => 0)
    {q : PosShare TreeShare} {X : s.Idx → Elt F e} (m' : Memref sig .tc .vmem s e) (hm : m = m')
    {α : Type} {kt : (s.Idx → Elt F e) → Prog (TpuEff nD τ sig (Elt F) Λ₀ .tc) α} {Q : α → sProp 𝕄} :
    (owns (c : Thread nD τ) m' q X : sProp 𝕄)
      ⊢ iprop((owns (c : Thread nD τ) m' q X -∗ WP 𝒱₀ c (kt X) Q) -∗ WP 𝒱₀ c (.op (.load m (Rect.unit (s := s) off s.size inb).toLoadRect hl) kt) Q) := by
  have h := load_rule (F := F) 𝒱₀ c (r := (Rect.unit (s := s) off s.size inb).toLoadRect) (hl := hl) (q := q) (X := X) m' hm (kt := kt) (Q := Q)
  have he : (fun x => X ((Rect.unit (s := s) off s.size inb).toLoadRect.idx x)) = X := funext fun x => congrArg X (idx_full ho x)
  rw [he] at h
  exact h

/-- A store of a whole owned buffer. -/
theorem store_full (c : Dev nD) {s : Shape} {e : EltTy} {m : Memref sig .tc .vmem s e} {off : Fin s.rank → ℕ} {inb : ∀ a, off a + s.size a ≤ s.size a}
    (ho : off = fun _ => 0) {v : s.Idx → Elt F e}
    {hx : (m.access (Rect.unit (s := s) off s.size inb)).Stores Finset.univ} {hm} {X : s.Idx → Elt F e}
    {α : Type} {kt : PUnit → Prog (TpuEff nD τ sig (Elt F) Λ₀ .tc) α} {Q : α → sProp 𝕄} :
    (owns (c : Thread nD τ) m fullShare X : sProp 𝕄)
      ⊢ iprop((owns (c : Thread nD τ) m fullShare v -∗ WP 𝒱₀ c (kt ⟨⟩) Q)
          -∗ WP 𝒱₀ c (.op (.store m (Rect.unit (s := s) off s.size inb) v Finset.univ hx hm) kt) Q) := by
  unfold owns
  iintro ⟨%f, %hf, Hm⟩ Hk
  subst hf
  iapply (wp_store 𝒱₀ (c : Thread nD τ) none Set.univ (m := m) (r := Rect.unit (s := s) off s.size inb) (Mk := Finset.univ) (f := f) (S := m.view.set)
    ((View.setOn_subset_set _ _).trans (View.set_slice_subset _ _))) $$ Hm
  iintro Hm
  iapply Hk
  iexists ((m.access (Rect.unit (s := s) off s.size inb)).write (Elt F) f v Finset.univ)
  isplitr
  · ipureintro
    funext x
    have h := congrFun (View.read_write_univ (v := m.access (Rect.unit (s := s) off s.size inb)) (Val := Elt F) f v) x
    refine Eq.trans ?_ h
    exact (congrArg (m.view.read (Elt F) _) (idx_full ho x)).symm
  iexact Hm

end Cert.MoeProof
-- ==== Proof.State.lean ====
/-
  What a device holds between the steps of the grid, and what one step does in one direction: the wait for the
  credit, the transfer, the waits for its departure and for the arrival, and the credit given back.
-/
module

public import proofs.«01_k».proof.Proof.Rules

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Slots and semaphores as the program names them -/

theorem bit_succ2 (s : ℕ) : bit (s + 1 + 1) = bit s := bit_two s
theorem half_succ2 (s : ℕ) : (s + 1 + 1) / 2 = s / 2 + 1 := by omega

theorem slotT_of (b : Fin 2) (o : Fin 4 → ℕ) (h : o = ![b.val, 0, 0, 0]) (inb : ∀ k, o k + S1x8x256x1024.size k ≤ S2x8x256x1024.size k) :
    ((Memref.whole cc0_scratch0).slice (Rect.unit (s := S2x8x256x1024) o S1x8x256x1024.size inb) (fun _ => rfl)).squeeze
      S8x256x1024 squeezes_S1x8x256x1024_S8x256x1024 = slot true b := by subst h; rfl
theorem slotF_of (b : Fin 2) (o : Fin 4 → ℕ) (h : o = ![b.val, 0, 0, 0]) (inb : ∀ k, o k + S1x8x256x1024.size k ≤ S2x8x256x1024.size k) :
    ((Memref.whole cc0_scratch1).slice (Rect.unit (s := S2x8x256x1024) o S1x8x256x1024.size inb) (fun _ => rfl)).squeeze
      S8x256x1024 squeezes_S1x8x256x1024_S8x256x1024 = slot false b := by subst h; rfl

theorem sndT_of (b : Fin 2) (o : Fin 1 → ℕ) (h : o = ![b.val]) (inb : ∀ k, o k + S1.size k ≤ S2.size k) :
    SemLoc.dma ((cc0_scratch4.slice (Rect.unit (s := S2) o S1.size inb)).squeeze S_ squeezes_S1_S_).sem = semOf (.snd true b) :=
  congrArg SemLoc.dma (a₂ := sndS true b) (Fin.ext (by subst h; revert inb; revert b; decide +kernel))
theorem rcvT_of (b : Fin 2) (o : Fin 1 → ℕ) (h : o = ![b.val]) (inb : ∀ k, o k + S1.size k ≤ S2.size k) :
    SemLoc.dma ((cc0_scratch5.slice (Rect.unit (s := S2) o S1.size inb)).squeeze S_ squeezes_S1_S_).sem = semOf (.rcv true b) :=
  congrArg SemLoc.dma (a₂ := rcvS true b) (Fin.ext (by subst h; revert inb; revert b; decide +kernel))
theorem sndF_of (b : Fin 2) (o : Fin 1 → ℕ) (h : o = ![b.val]) (inb : ∀ k, o k + S1.size k ≤ S2.size k) :
    SemLoc.dma ((cc0_scratch6.slice (Rect.unit (s := S2) o S1.size inb)).squeeze S_ squeezes_S1_S_).sem = semOf (.snd false b) :=
  congrArg SemLoc.dma (a₂ := sndS false b) (Fin.ext (by subst h; revert inb; revert b; decide +kernel))
theorem rcvF_of (b : Fin 2) (o : Fin 1 → ℕ) (h : o = ![b.val]) (inb : ∀ k, o k + S1.size k ≤ S2.size k) :
    SemLoc.dma ((cc0_scratch7.slice (Rect.unit (s := S2) o S1.size inb)).squeeze S_ squeezes_S1_S_).sem = semOf (.rcv false b) :=
  congrArg SemLoc.dma (a₂ := rcvS false b) (Fin.ext (by subst h; revert inb; revert b; decide +kernel))
theorem zsT_of (inb : ∀ k, ![0] k + S1.size k ≤ S2.size k) :
    SemLoc.dma ((cc0_scratch8.slice (Rect.unit (s := S2) ![0] S1.size inb)).squeeze S_ squeezes_S1_S_).sem = semOf (.zs true) :=
  congrArg SemLoc.dma (a₂ := zsS true) (Fin.ext (by revert inb; decide +kernel))
theorem zsF_of (inb : ∀ k, ![1] k + S1.size k ≤ S2.size k) :
    SemLoc.dma ((cc0_scratch8.slice (Rect.unit (s := S2) ![1] S1.size inb)).squeeze S_ squeezes_S1_S_).sem = semOf (.zs false) :=
  congrArg SemLoc.dma (a₂ := zsS false) (Fin.ext (by revert inb; decide +kernel))
theorem zrT_of (inb : ∀ k, ![0] k + S1.size k ≤ S2.size k) :
    SemLoc.dma ((cc0_scratch9.slice (Rect.unit (s := S2) ![0] S1.size inb)).squeeze S_ squeezes_S1_S_).sem = semOf (.zr true) :=
  congrArg SemLoc.dma (a₂ := zrS true) (Fin.ext (by revert inb; decide +kernel))
theorem zrF_of (inb : ∀ k, ![1] k + S1.size k ≤ S2.size k) :
    SemLoc.dma ((cc0_scratch9.slice (Rect.unit (s := S2) ![1] S1.size inb)).squeeze S_ squeezes_S1_S_).sem = semOf (.zr false) :=
  congrArg SemLoc.dma (a₂ := zrS false) (Fin.ext (by revert inb; decide +kernel))
theorem ld_of : SemLoc.dma cc0_scratch10.sem = semOf .ld := congrArg SemLoc.dma (a₂ := ldS) (Fin.ext (by decide +kernel))
theorem crT_of : SemLoc.reg cc0_scratch11.sem = semOf (.cr true) := congrArg SemLoc.reg (a₂ := crS true) (Fin.ext (by decide +kernel))
theorem crF_of : SemLoc.reg cc0_scratch12.sem = semOf (.cr false) := congrArg SemLoc.reg (a₂ := crS false) (Fin.ext (by decide +kernel))
theorem ex_of : SemLoc.reg cc0_scoped0.sem = semOf .ex := congrArg SemLoc.reg (a₂ := exS) (Fin.ext (by decide +kernel))
theorem bar_of : SemLoc.reg (SemArray.scalar (sig.barrier 0 rfl) : Sems sig S_).sem = semOf .bar := congrArg SemLoc.reg (a₂ := barS) (Fin.ext (by decide +kernel))

theorem slot_credit (d : Bool) (b : Fin 2) : (slot d b).view.dmaCredit = N := by cases d <;> rfl
theorem zM_credit (d : Bool) : (zM d).view.dmaCredit = N := by cases d <;> rfl
theorem wM_credit (d : Bool) : (wM d).view.dmaCredit = N := by cases d <;> rfl

/-! ## Shares -/

theorem owns_split (c : Dev nD) {sp : Space} {s : Shape} {e : EltTy} (m : Memref sig .tc sp s e) (X : s.Idx → Elt F e) :
    (owns (c : Thread nD τ) m fullShare X : sProp 𝕄) ⊢ iprop(owns (c : Thread nD τ) m fullShare.left X ∗ owns (c : Thread nD τ) m fullShare.right X) := by
  unfold owns
  iintro ⟨%f, %hf, Hm⟩
  ihave H := (pointsTo_share (PosShare.mem_left_op_right fullShare)).1 $$ Hm
  icases H with ⟨Hl, Hr⟩
  isplitl [Hl]
  · iexists f; isplitr; · ipureintro; exact hf
    iexact Hl
  · iexists f; isplitr; · ipureintro; exact hf
    iexact Hr

theorem owns_join2 (c : Dev nD) {sp : Space} {s : Shape} {e : EltTy} (m : Memref sig .tc sp s e) (X : s.Idx → Elt F e) :
    iprop(owns (c : Thread nD τ) m fullShare.left X ∗ owns (c : Thread nD τ) m fullShare.right X) ⊢ (owns (c : Thread nD τ) m fullShare X : sProp 𝕄) := by
  unfold owns
  iintro ⟨⟨%f, %hf, Hl⟩, ⟨%g, %hg, Hr⟩⟩
  icombine Hl Hr gives %hx
  iexists f
  isplitr; · ipureintro; exact hf
  iapply (pointsTo_share (PosShare.mem_left_op_right fullShare)).2
  isplitl [Hl]; · iexact Hl
  iapply (Entails.of_eq (pointsTo_congr (f := g) (g := f) fun i hi => ((hx i (Finset.mem_inter.mpr ⟨hi, hi⟩)).1).symm))
  iexact Hr

/-! ## What a device owes -/

/-- The units of the transfer of step `s` in direction `d`. -/
abbrev sendDue (d : Bool) (c : Dev nD) (s : ℕ) : CellTallies nD τ sig ℕ := tallyAt (cell (.rcv d (bit (s + 1))) (nb d c)) s N
/-- The credit given back at step `s` in direction `d`. -/
abbrev crDue (d : Bool) (c : Dev nD) (s : ℕ) : CellTallies nD τ sig ℕ := tallyAt (cell (.cr d) (nb (!d) c)) s 1
/-- A step's transfers, on top of what is owed after them. -/
abbrev dueS (c : Dev nD) (s : ℕ) (B : CellTallies nD τ sig ℕ) : CellTallies nD τ sig ℕ := (B + sendDue false c s) + sendDue true c s
/-- A step's credits, on top of what is owed after them. -/
abbrev dueC (c : Dev nD) (s : ℕ) (B : CellTallies nD τ sig ℕ) : CellTallies nD τ sig ℕ := (B + crDue false c s) + crDue true c s

def due6 (c : Dev nD) : CellTallies nD τ sig ℕ :=
  ((0 + tallyAt (cell .ex (zp c)) 0 1) + tallyAt (cell .ex (nb true c)) 0 1) + tallyAt (cell .ex (nb false c)) 0 1
def due5 (c : Dev nD) : CellTallies nD τ sig ℕ := dueS c 5 (due6 c)
def due4 (c : Dev nD) : CellTallies nD τ sig ℕ := dueS c 4 (dueC c 4 (due5 c))
def due3 (c : Dev nD) : CellTallies nD τ sig ℕ := dueS c 3 (dueC c 3 (due4 c))
def due2 (c : Dev nD) : CellTallies nD τ sig ℕ := dueS c 2 (dueC c 2 (due3 c))
def due1 (c : Dev nD) : CellTallies nD τ sig ℕ := dueS c 1 (dueC c 1 (due2 c))
/-- What is owed at the first step after the exchange between the rings is under way. -/
def dueX (c : Dev nD) : CellTallies nD τ sig ℕ := dueS c 0 (dueC c 0 (due1 c))
/-- What is owed at the first step after the barrier's signals. -/
def dueB (c : Dev nD) : CellTallies nD τ sig ℕ := (dueX c + tallyAt (cell (.zr false) (zp c)) 0 N) + tallyAt (cell (.zr true) (zp c)) 0 N
def due0 (c : Dev nD) : CellTallies nD τ sig ℕ :=
  ((dueB c + tallyAt (cell .bar (zp c)) 0 1) + tallyAt (cell .bar (nb true c)) 0 1) + tallyAt (cell .bar (nb false c)) 0 1

/-- What device `c` owes before step `s`. -/
def due (c : Dev nD) : ℕ → CellTallies nD τ sig ℕ
  | 0 => due0 c | 1 => due1 c | 2 => due2 c | 3 => due3 c | 4 => due4 c | 5 => due5 c | 6 => due6 c | _ => 0

/-- What device `c` owes at step `s` after that step's transfers. -/
def dueM (c : Dev nD) (s : ℕ) : CellTallies nD τ sig ℕ := if s < 5 then dueC c s (due c (s + 1)) else due c (s + 1)

theorem dueM_lt (c : Dev nD) (s : ℕ) (h : s < 5) : dueM c s = dueC c s (due c (s + 1)) := if_pos h
theorem dueM_five (c : Dev nD) : dueM c 5 = due c 6 := rfl
theorem due_step (c : Dev nD) (s : ℕ) (h1 : 1 ≤ s) (h5 : s ≤ 5) : due c s = dueS c s (dueM c s) := by
  match s, h1, h5 with
  | 1, _, _ => rfl
  | 2, _, _ => rfl
  | 3, _, _ => rfl
  | 4, _, _ => rfl
  | 5, _, _ => rfl
theorem dueX_eq (c : Dev nD) : dueX c = dueS c 0 (dueM c 0) := rfl

theorem above_due (c : Dev nD) (s : ℕ) (h1 : 1 ≤ s) : Above (10 * s + 4) (due c s) := by
  have hS : ∀ (s : ℕ), s < 7 → ∀ B b, b < 10 * s + 5 → Above b B → Above b (dueS c s B) := fun s hs B b hb hB =>
    (hB.add (Above.tally _ _ _ _ (by omega) (by show b < 10 * s + 5; exact hb))).add (Above.tally _ _ _ _ (by omega) (by show b < 10 * s + 5; exact hb))
  have hC : ∀ (s : ℕ), s < 7 → ∀ B b, b < 10 * s + 5 → Above b B → Above b (dueC c s B) := fun s hs B b hb hB =>
    (hB.add (Above.tally _ _ _ _ (by omega) (by show b < 10 * s + 8; omega))).add (Above.tally _ _ _ _ (by omega) (by show b < 10 * s + 8; omega))
  have h6 : Above 64 (due6 c) :=
    (((Above.zero _).add (Above.tally _ _ _ _ (by decide) (by decide))).add (Above.tally _ _ _ _ (by decide) (by decide))).add (Above.tally _ _ _ _ (by decide) (by decide))
  have h5 : Above 54 (due5 c) := hS 5 (by decide) _ _ (by decide) (h6.mono (by decide))
  have h4 : Above 44 (due4 c) := hS 4 (by decide) _ _ (by decide) (hC 4 (by decide) _ _ (by decide) (h5.mono (by decide)))
  have h3 : Above 34 (due3 c) := hS 3 (by decide) _ _ (by decide) (hC 3 (by decide) _ _ (by decide) (h4.mono (by decide)))
  have h2 : Above 24 (due2 c) := hS 2 (by decide) _ _ (by decide) (hC 2 (by decide) _ _ (by decide) (h3.mono (by decide)))
  have h1' : Above 14 (due1 c) := hS 1 (by decide) _ _ (by decide) (hC 1 (by decide) _ _ (by decide) (h2.mono (by decide)))
  match s, h1 with
  | 1, _ => exact h1'
  | 2, _ => exact h2
  | 3, _ => exact h3
  | 4, _ => exact h4
  | 5, _ => exact h5
  | 6, _ => exact h6
  | s + 7, _ => exact Above.zero _

theorem above_dueM (c : Dev nD) (s : ℕ) (h : s ≤ 5) : Above (10 * s + 5) (dueM c s) := by
  have h' : Above (10 * s + 5) (due c (s + 1)) := (above_due c (s + 1) (by omega)).mono (by omega)
  unfold dueM
  split_ifs with h5
  · exact (h'.add (Above.tally _ _ _ _ (by omega) (by show 10 * s + 5 < 10 * s + 8; omega))).add
      (Above.tally _ _ _ _ (by omega) (by show 10 * s + 5 < 10 * s + 8; omega))
  · exact h'

theorem above_dueX (c : Dev nD) : Above 4 (dueX c) := by
  rw [dueX_eq]
  exact (((above_dueM c 0 (by decide)).mono (by decide)).add (Above.tally _ _ _ _ (by decide) (by decide))).add (Above.tally _ _ _ _ (by decide) (by decide))
theorem above_dueB (c : Dev nD) : Above 1 (dueB c) :=
  (((above_dueX c).mono (by decide)).add (Above.tally _ _ _ _ (by decide) (by decide))).add (Above.tally _ _ _ _ (by decide) (by decide))

/-! ## One direction through one step -/

section Side
variable (w : Bool → Dev nD → S8x256x1024.Idx → Elt F .bf16) (𝒱₀ : Variants) (K : GSem nD τ sig → ℕ)

/-- Where the departures' semaphores of direction `d` stand before step `s`. -/
def posS (d : Bool) (c : Dev nD) (s : ℕ) : sProp 𝕄 :=
  iprop(atPos ER (cell (.snd d (bit s)) c) (s / 2) ∅ 0 ∗ reached ER (cell (.snd d (bit s)) c) (s / 2)
    ∗ atPos ER (cell (.snd d (bit (s + 1))) c) ((s + 1) / 2) ∅ 0 ∗ reached ER (cell (.snd d (bit (s + 1))) c) ((s + 1) / 2))
/-- Where the arrivals' semaphores of direction `d` stand before step `s`. -/
def posR (d : Bool) (c : Dev nD) (s : ℕ) : sProp 𝕄 :=
  iprop(atPos ER (cell (.rcv d (bit s)) c) ((s + 1) / 2) ∅ 0 ∗ reached ER (cell (.rcv d (bit s)) c) ((s + 1) / 2)
    ∗ atPos ER (cell (.rcv d (bit (s + 1))) c) (s / 2) ∅ 0)

/-- The rights and credits of direction `d` used at step `s`: for the transfer (departure and arrival), the own
    arrival, the credit given back. -/
def tk (d : Bool) (c : Dev nD) (s : ℕ) : sProp 𝕄 :=
  iprop(dutyTok ER (cell (.snd d (bit s)) c) (s / 2) 0 ∗ dutyTok ER (cell (.rcv d (bit (s + 1))) (nb d c)) (s / 2) 0
    ∗ cred (tallyAt (cell (.rcv d (bit (s + 1))) c) s N)
    ∗ if s < 5 then iprop(dutyTok ER (cell (.cr d) (nb (!d) c)) s 0 ∗ cred (tallyAt (cell (.cr d) c) s 1)) else iprop(emp))

/-- The block sent at step `s`. -/
def sent (d : Bool) (s : ℕ) (c : Dev nD) : S8x256x1024.Idx → Elt F .bf16 := if s = 3 then w d (zp c) else blk w d s c
/-- The buffer it is sent from. -/
def sentM (d : Bool) (s : ℕ) : Memref sig .tc .vmem S8x256x1024 .bf16 := if s = 3 then zM d else slot d (bit s)

theorem sentM_three (d : Bool) : sentM d 3 = zM d := rfl
theorem sentM_ne (d : Bool) (s : ℕ) (h : s ≠ 3) : sentM d s = slot d (bit s) := if_neg h
theorem sent_three (d : Bool) (c : Dev nD) : sent w d 3 c = w d (zp c) := rfl
theorem sent_ne (d : Bool) (s : ℕ) (h : s ≠ 3) (c : Dev nD) : sent w d s c = blk w d s c := if_neg h

theorem sent_arrives (d : Bool) (s : ℕ) (hs : s < 6) (c : Dev nD) : sent w d s c = blk w d (s + 1) (nb d c) := by
  unfold sent
  split_ifs with h
  · subst h; exact congrArg (w d) (srcDev_four d c).symm
  · exact congrArg (w d) (srcDev_succ d s hs h c).symm

theorem pay_snd (d : Bool) (c : Dev nD) (s : ℕ) : pay w c (.snd d (bit s)) (s / 2) 0 = hasV c (sentM d s) fullShare.left (sent w d s c) := by
  show sndPay w d (bit s) (s / 2) c = _
  unfold sndPay sent sentM
  have h : 2 * (s / 2) + (bit s).val = s := by show 2 * (s / 2) + s % 2 = s; omega
  rw [h]
  split_ifs with h3
  · rfl
  · rfl
theorem pay_rcv (d : Bool) (c : Dev nD) (s : ℕ) : pay w c (.rcv d (bit (s + 1))) (s / 2) 0
    = iprop(hasV c (slot d (bit (s + 1))) fullShare (blk w d (s + 1) c) ∗ reached ER (cell (.cr d) (nb (!d) c)) s) := by
  show rcvPay w d (bit (s + 1)) (s / 2) c = _
  unfold rcvPay
  have h : 2 * (s / 2) + 2 - (bit (s + 1)).val = s + 1 := by show 2 * (s / 2) + 2 - (s + 1) % 2 = s + 1; omega
  have h' : 2 * (s / 2) + 1 - (bit (s + 1)).val = s := by show 2 * (s / 2) + 1 - (s + 1) % 2 = s; omega
  rw [h, h']
theorem pay_cr (d : Bool) (c : Dev nD) (s : ℕ) : pay w c (.cr d) s 0
    = iprop(anyV (nb d c) (slot d (bit s)) ∗ reached ER (cell (.rcv d (bit s)) (nb d c)) ((s + 1) / 2)) := rfl

/-- The right to write the receiver's free slot at step `s`. -/
def free (d : Bool) (c : Dev nD) (s : ℕ) : sProp 𝕄 :=
  iprop(anyV (nb d c) (slot d (bit (s + 1))) ∗ reached ER (cell (.rcv d (bit (s + 1))) (nb d c)) (s / 2))

/-- The wait for the credit at step `s + 1` gives the right to write. -/
theorem credit_wait (d : Bool) (c : Dev nD) (s : ℕ) (hs : s < 5) {sem : Sem sig} (hsm : SemLoc.reg sem = semOf (.cr d)) {z : ℤ} (hz : z = ((1 : ℕ) : ℤ))
    (O : CellTallies nD τ sig ℕ) (hO : Above (10 * s + 8) O)
    {α : Type} {kt : PUnit → Prog (TpuEff nD τ sig (Elt F) Λ₀ .tc) α} {Q : α → sProp 𝕄} :
    iprop(Inv w K ∗ levAts L lv ∗ cred (tallyAt (cell (.cr d) c) s 1) ∗ ow c O ∗ atPos ER (cell (.cr d) c) s ∅ 0)
      ⊢ iprop(((ow c O ∗ atPos ER (cell (.cr d) c) (s + 1) ∅ 0 ∗ free d c (s + 1) ∗ reached ER (cell (.cr d) c) (s + 1)) -∗ WP 𝒱₀ c (kt ⟨⟩) Q)
          -∗ WP 𝒱₀ c (.op (.semWait sem z) kt) Q) := by
  have hd : dut (.cr d) s = {0} := if_pos hs
  have h := waitR (F := F) w 𝒱₀ K c (.cr d) s s (by omega) O hO 1 hz hsm (by rw [hd]; rfl) (kt := kt) (Q := Q)
  rw [hd, bigSep_singleton, pay_cr] at h
  iintro H Hk
  iapply h $$ H
  iintro ⟨HO, Hat, #Hr, Hp⟩
  iapply Hk
  isplitl [HO]; · iexact HO
  isplitl [Hat]; · iexact Hat
  isplitl [Hp]
  · unfold free
    rw [bit_succ2]
    iexact Hp
  iexact Hr

/-- The transfer of step `s`: half a share of the source stays. -/
theorem send_step (d : Bool) (c : Dev nD) (s : ℕ) (hs : s < 6) (O : CellTallies nD τ sig ℕ)
    {src dst : Memref sig .tc .vmem S8x256x1024 .bf16} {n : Dev nD}
    {sS sem : SemLoc sig} {hsc : dst.view.ref.isScScratch = false} {hsrc : src.view.WordExact} {hdst : dst.view.WordExact}
    {hsem : DmaTarget.Typed .vmem sem (.remote (Dev.tc n) dst sS hsc)}
    (es : src = sentM d s) (ed : dst = slot d (bit (s + 1))) (en : n = nb d c) (e₁ : sS = semOf (.snd d (bit s))) (e₂ : sem = semOf (.rcv d (bit (s + 1))))
    {α : Type} {kt : PUnit → Prog (TpuEff nD τ sig (Elt F) Λ₀ .tc) α} {Q : α → sProp 𝕄} :
    iprop(Inv w K ∗ hasV c (sentM d s) fullShare (sent w d s c) ∗ free d c s ∗ reached ER (cell (.cr d) c) s ∗ ow c (O + sendDue d c s)
        ∗ dutyTok ER (cell (.snd d (bit s)) c) (s / 2) 0 ∗ reached ER (cell (.snd d (bit s)) c) (s / 2)
        ∗ dutyTok ER (cell (.rcv d (bit (s + 1))) (nb d c)) (s / 2) 0)
      ⊢ iprop(((cred (tallyAt (cell (.snd d (bit s)) c) s N) ∗ ow c O ∗ hasV c (sentM d s) fullShare.right (sent w d s c)) -∗ WP 𝒱₀ c (kt ⟨⟩) Q)
          -∗ WP 𝒱₀ c (.op (.enqueueDma src (.remote (Dev.tc n) dst sS hsc) sem hsrc hdst hsem) kt) Q) := by
  have hN : dst.view.amount sem = N := by subst e₂; subst ed; exact slot_credit d _
  have h3 : s / 2 < 3 := by omega
  have key := send_rule (F := F) w 𝒱₀ K c (nb d c) (sentM d s) (slot d (bit (s + 1))) (.snd d (bit s)) (.rcv d (bit (s + 1))) (s / 2) (s / 2) s s O fullShare.left
    (sent w d s c) (reached ER (cell (.cr d) c) s) es ed en e₁ e₂ hN (hsc := hsc) (hsrc := hsrc) (hdst := hdst) (hsem := hsem)
    (by show (0 : Fin 3) ∈ (if s / 2 < 3 then {0} else ∅ : Finset (Fin 3)); rw [if_pos h3]; exact Finset.mem_singleton_self _)
    (by show (0 : Fin 3) ∈ (if s / 2 < 3 then {0} else ∅ : Finset (Fin 3)); rw [if_pos h3]; exact Finset.mem_singleton_self _)
    rfl rfl (Entails.of_eq (pay_snd w d c s).symm)
    (by rw [pay_rcv, nb_not, sent_arrives w d s hs]) (kt := kt) (Q := Q)
  iintro ⟨#HI, Hs, Hf, #Hrc, HO, Ht₁, #Hr₁, Ht₂⟩ Hk
  unfold free
  icases Hf with ⟨Hd, #Hr₂⟩
  ihave Hs' := (owns_split c (sentM d s) (sent w d s c)) $$ Hs
  icases Hs' with ⟨Hl, Hr⟩
  iapply key $$ [Hl Hd HO Ht₁ Ht₂]
  · isplitr; · iexact HI
    isplitl [Hl]; · iexact Hl
    isplitl [Hd]; · iexact Hd
    isplitr; · iexact Hrc
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  isplitl [HO]; · iexact HO
  iexact Hr

/-- The wait for the departure of step `s`: the source is whole again. -/
theorem snd_wait (d : Bool) (c : Dev nD) (s : ℕ) (hs : s < 6) (O : CellTallies nD τ sig ℕ) (hO : Above 0 O)
    {sem : DmaSem sig} {sp sp' : Space} {src : Memref sig .tc sp' S8x256x1024 .bf16} {dst : Memref sig .tc sp S8x256x1024 .bf16}
    {hsrc : src.view.WordExact} {hdst : dst.view.WordExact}
    (hsm : SemLoc.dma sem = semOf (.snd d (bit s))) (hN : dst.view.dmaCredit = N)
    {α : Type} {kt : PUnit → Prog (TpuEff nD τ sig (Elt F) Λ₀ .tc) α} {Q : α → sProp 𝕄} :
    iprop(Inv w K ∗ levAts L lv ∗ cred (tallyAt (cell (.snd d (bit s)) c) s N) ∗ ow c O
        ∗ hasV c (sentM d s) fullShare.right (sent w d s c) ∗ posS d c s)
      ⊢ iprop(((ow c O ∗ hasV c (sentM d s) fullShare (sent w d s c) ∗ posS d c (s + 1)) -∗ WP 𝒱₀ c (kt ⟨⟩) Q)
          -∗ WP 𝒱₀ c (.op (.waitDma2 sem src dst hsrc hdst) kt) Q) := by
  have hd : dut (.snd d (bit s)) (s / 2) = {0} := if_pos (by omega)
  have h := waitD (F := F) w 𝒱₀ K c (.snd d (bit s)) (s / 2) s (by omega) O hO (src := src) (dst := dst) (hsrc := hsrc) (hdst := hdst) hsm hN hd rfl (kt := kt) (Q := Q)
  rw [pay_snd] at h
  iintro ⟨#HI, #Hlev, Hc, HO, Hr, Hpos⟩ Hk
  unfold posS
  rw [bit_succ2, half_succ2]
  icases Hpos with ⟨Ha, -, Ha', #Hra'⟩
  iapply h $$ [Hc HO Ha]
  · isplitr; · iexact HI
    isplitr; · iexact Hlev
    isplitl [Hc]; · iexact Hc
    isplitl [HO]; · iexact HO
    iexact Ha
  iintro ⟨HO, Ha, #Hra, Hl⟩
  iapply Hk
  isplitl [HO]; · iexact HO
  isplitl [Hl Hr]
  · iapply (owns_join2 c (sentM d s) (sent w d s c))
    isplitl [Hl]; · iexact Hl
    iexact Hr
  isplitl [Ha']; · iexact Ha'
  isplitr; · iexact Hra'
  isplitl [Ha]; · iexact Ha
  iexact Hra

/-- The wait for the arrival of step `s`: the next step's block is in its slot. -/
theorem rcv_wait (d : Bool) (c : Dev nD) (s : ℕ) (hs : s < 6) (O : CellTallies nD τ sig ℕ) (hO : Above (10 * s + 5) O)
    {sem : DmaSem sig} {sp sp' : Space} {src : Memref sig .tc sp' S8x256x1024 .bf16} {dst : Memref sig .tc sp S8x256x1024 .bf16}
    {hsrc : src.view.WordExact} {hdst : dst.view.WordExact}
    (hsm : SemLoc.dma sem = semOf (.rcv d (bit (s + 1)))) (hN : dst.view.dmaCredit = N)
    {α : Type} {kt : PUnit → Prog (TpuEff nD τ sig (Elt F) Λ₀ .tc) α} {Q : α → sProp 𝕄} :
    iprop(Inv w K ∗ levAts L lv ∗ cred (tallyAt (cell (.rcv d (bit (s + 1))) c) s N) ∗ ow c O ∗ posR d c s)
      ⊢ iprop(((ow c O ∗ hasV c (slot d (bit (s + 1))) fullShare (blk w d (s + 1) c) ∗ reached ER (cell (.cr d) (nb (!d) c)) s
              ∗ posR d c (s + 1) ∗ reached ER (cell (.rcv d (bit s)) c) ((s + 1) / 2)) -∗ WP 𝒱₀ c (kt ⟨⟩) Q)
          -∗ WP 𝒱₀ c (.op (.waitDma2 sem src dst hsrc hdst) kt) Q) := by
  have hd : dut (.rcv d (bit (s + 1))) (s / 2) = {0} := if_pos (by omega)
  have h := waitD (F := F) w 𝒱₀ K c (.rcv d (bit (s + 1))) (s / 2) s (by omega) O hO (src := src) (dst := dst) (hsrc := hsrc) (hdst := hdst) hsm hN hd rfl (kt := kt) (Q := Q)
  rw [pay_rcv] at h
  iintro ⟨#HI, #Hlev, Hc, HO, Hpos⟩ Hk
  unfold posR
  rw [bit_succ2, half_succ2]
  icases Hpos with ⟨Ha', #Hra', Ha⟩
  iapply h $$ [Hc HO Ha]
  · isplitr; · iexact HI
    isplitr; · iexact Hlev
    isplitl [Hc]; · iexact Hc
    isplitl [HO]; · iexact HO
    iexact Ha
  iintro ⟨HO, Ha, #Hra, Hsl, #Hcr⟩
  iapply Hk
  isplitl [HO]; · iexact HO
  isplitl [Hsl]; · iexact Hsl
  isplitr; · iexact Hcr
  isplitl [Ha Ha']
  · isplitl [Ha]; · iexact Ha
    isplitr; · iexact Hra
    iexact Ha'
  iexact Hra'

/-- The credit given back at step `s`: the slot just read goes to the device that sends here. -/
theorem credit_step (d : Bool) (c : Dev nD) (s : ℕ) (hs : s < 5) (O : CellTallies nD τ sig ℕ)
    {dst : Dev nD} (hdst : dst = nb (!d) c) {sem : Sem sig} (hsm : SemLoc.reg sem = semOf (.cr d)) {z : ℤ} (hz : z = ((1 : ℕ) : ℤ))
    {α : Type} {kt : PUnit → Prog (TpuEff nD τ sig (Elt F) Λ₀ .tc) α} {Q : α → sProp 𝕄} :
    iprop(Inv w K ∗ ow c (O + crDue d c s) ∗ dutyTok ER (cell (.cr d) (nb (!d) c)) s 0 ∗ reached ER (cell (.cr d) (nb (!d) c)) s
        ∗ anyV c (slot d (bit s)) ∗ reached ER (cell (.rcv d (bit s)) c) ((s + 1) / 2))
      ⊢ iprop((ow c O -∗ WP 𝒱₀ c (kt ⟨⟩) Q) -∗ WP 𝒱₀ c (.op (.semSignal (Dev.tc dst) sem z) kt) Q) := by
  have h := signal_rule (F := F) w 𝒱₀ K c (nb (!d) c) (.cr d) s s 0 O hdst hsm hz
    (by show (0 : Fin 3) ∈ (if s < 5 then {0} else ∅ : Finset (Fin 3)); rw [if_pos hs]; exact Finset.mem_singleton_self _) rfl (kt := kt) (Q := Q)
  rw [pay_cr, nb_nb_not] at h
  iintro ⟨#HI, HO, Ht, #Hr, Hs, #Hr'⟩ Hk
  iapply h $$ [HO Ht Hs]
  · isplitr; · iexact HI
    isplitl [HO]; · iexact HO
    isplitl [Ht]; · iexact Ht
    isplitl [Hs]
    · isplitl [Hs]; · iexact Hs
      iexact Hr'
    iexact Hr
  iexact Hk

end Side

end Cert.MoeProof
-- ==== Proof.Compute.lean ====
/-
  The kernel body's computing parts, one theorem each: what a part loads, and what it leaves in the accumulator.
  And the grid conditions of the body, in terms of the step.
-/
module

public import proofs.«01_k».proof.Proof.State

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The conditions -/

theorem step_lt (i : grid0.Coords) : (i 0).val < 7 := (i 0).isLt

theorem of_nat7 {p q : ℕ → Prop} [DecidablePred p] [DecidablePred q] (h : ∀ n : Fin 7, p n.val ↔ q n.val) (i : grid0.Coords) : p (i 0).val ↔ q (i 0).val :=
  h ⟨(i 0).val, step_lt i⟩

theorem cond1_iff (i : grid0.Coords) : k0_cond1 i = 1#1 ↔ (i 0).val = 0 :=
  of_nat7 (p := fun n => Scalar.cmpi .ne (Scalar.extui (Scalar.cmpi .eq (BitVec.ofNat 32 n) 0#32) : BitVec 32) 0#32 = 1#1) (q := fun n => n = 0) (by decide +kernel) i
theorem cond3_iff (i : grid0.Coords) : k0_cond3 i = 1#1 ↔ (i 0).val < 6 :=
  of_nat7 (p := fun n => Scalar.cmpi .ne (Scalar.extui (Scalar.cmpi .slt (BitVec.ofNat 32 n) 6#32) : BitVec 32) 0#32 = 1#1) (q := fun n => n < 6) (by decide +kernel) i
theorem cond8_iff (i : grid0.Coords) : k0_cond8 i = 1#1 ↔ (i 0).val < 6 :=
  of_nat7 (p := fun n => Scalar.cmpi .ne (Scalar.extui (Scalar.cmpi .slt (BitVec.ofNat 32 n) 6#32) : BitVec 32) 0#32 = 1#1) (q := fun n => n < 6) (by decide +kernel) i
theorem cond9_iff (i : grid0.Coords) : k0_cond9 i = 1#1 ↔ (i 0).val < 5 :=
  of_nat7 (p := fun n => Scalar.cmpi .ne (Scalar.extui (Scalar.cmpi .slt (BitVec.ofNat 32 n) 5#32) : BitVec 32) 0#32 = 1#1) (q := fun n => n < 5) (by decide +kernel) i
theorem cond10_iff (i : grid0.Coords) : k0_cond10 i = 1#1 ↔ (i 0).val = 6 :=
  of_nat7 (p := fun n => Scalar.cmpi .ne (Scalar.extui (Scalar.cmpi .eq (BitVec.ofNat 32 n) 6#32) : BitVec 32) 0#32 = 1#1) (q := fun n => n = 6) (by decide +kernel) i
theorem cond5_iff (i : grid0.Coords) : k0_cond5 i = 1#1 ↔ (i 0).val = 3 :=
  of_nat7 (p := fun n => Scalar.cmpi .ne (Scalar.extui (Scalar.cmpi .eq (BitVec.ofNat 32 n) 3#32) : BitVec 32) 0#32 = 1#1) (q := fun n => n = 3) (by decide +kernel) i
theorem cond6_iff (i : grid0.Coords) : k0_cond6 i = 1#1 ↔ (i 0).val ≠ 3 :=
  of_nat7 (p := fun n => Scalar.cmpi .ne (Scalar.extui (Scalar.cmpi .ne (BitVec.ofNat 32 n) 3#32) : BitVec 32) 0#32 = 1#1) (q := fun n => n ≠ 3) (by decide +kernel) i
/-- The condition "at step 3" as the body computes it in place. -/
theorem condA_iff (i : grid0.Coords) : Scalar.cmpi .ne (Scalar.extui (Scalar.cmpi .eq (BitVec.ofNat 32 (i 0).val) 3#32) : BitVec 32) 0#32 = 1#1 ↔ (i 0).val = 3 :=
  of_nat7 (p := fun n => Scalar.cmpi .ne (Scalar.extui (Scalar.cmpi .eq (BitVec.ofNat 32 n) 3#32) : BitVec 32) 0#32 = 1#1) (q := fun n => n = 3) (by decide +kernel) i
/-- The condition "after the first step" as the body computes it in place. -/
theorem condB_iff (i : grid0.Coords) : Scalar.cmpi .ne (Scalar.extui (Scalar.cmpi .sge (BitVec.ofNat 32 (i 0).val) 1#32) : BitVec 32) 0#32 = 1#1 ↔ 1 ≤ (i 0).val :=
  of_nat7 (p := fun n => Scalar.cmpi .ne (Scalar.extui (Scalar.cmpi .sge (BitVec.ofNat 32 n) 1#32) : BitVec 32) 0#32 = 1#1) (q := fun n => 1 ≤ n) (by decide +kernel) i

/-! ## The pieces the body loads -/

/-- The left half of the columns of the token block. -/
def xL (X : S2048x512.Idx → Elt F .bf16) : Vec F S2048x256 .bf16 := fun j => X ((Rect.unit (s := S2048x512) ![0, 0] S2048x256.size inb_S2048x512_S2048x256_0_0).toLoadRect.idx j)
/-- The right half of the columns of the token block. -/
def xR (X : S2048x512.Idx → Elt F .bf16) : Vec F S2048x256 .bf16 := fun j => X ((Rect.unit (s := S2048x512) ![0, 256] S2048x256.size inb_S2048x512_S2048x256_0_256).toLoadRect.idx j)
/-- The step's gates of the experts whose top half is held. -/
def gL (G : S1x2048x16.Idx → Elt F .f32) : Vec F S1x2048x8 .f32 := fun j => G ((Rect.unit (s := S1x2048x16) ![0, 0, 0] S1x2048x8.size inb_S1x2048x16_S1x2048x8_0_0_0).toLoadRect.idx j)
/-- The step's gates of the experts whose bottom half is held. -/
def gR (G : S1x2048x16.Idx → Elt F .f32) : Vec F S1x2048x8 .f32 := fun j => G ((Rect.unit (s := S1x2048x16) ![0, 0, 8] S1x2048x8.size inb_S1x2048x16_S1x2048x8_0_0_8).toLoadRect.idx j)

/-- The accumulator after a step's top halves. -/
def accT (X : S2048x512.Idx → Elt F .bf16) (G : S1x2048x16.Idx → Elt F .f32) (T : S8x256x1024.Idx → Elt F .bf16) (O : S2048x1024.Idx → Elt F .f32) : S2048x1024.Idx → Elt F .f32 :=
  k0_pay7 (k0_pay5 (xL X)) O (gL G) T
/-- The accumulator after a step. -/
def accB (X : S2048x512.Idx → Elt F .bf16) (G : S1x2048x16.Idx → Elt F .f32) (T B : S8x256x1024.Idx → Elt F .bf16) (O : S2048x1024.Idx → Elt F .f32) : S2048x1024.Idx → Elt F .f32 :=
  k0_pay8 (k0_pay6 (xR X)) (accT X G T O) (gR G) B
/-- The accumulator after the top half of the block from the other ring. -/
def accZT (X : S2048x512.Idx → Elt F .bf16) (Z : S2048x8.Idx → Elt F .f32) (T : S8x256x1024.Idx → Elt F .bf16) (O : S2048x1024.Idx → Elt F .f32) : S2048x1024.Idx → Elt F .f32 :=
  k0_pay2 (k0_pay5 (xL X)) O Z T
/-- The accumulator after the block from the other ring. -/
def accZ (X : S2048x512.Idx → Elt F .bf16) (Z : S2048x8.Idx → Elt F .f32) (T B : S8x256x1024.Idx → Elt F .bf16) (O : S2048x1024.Idx → Elt F .f32) : S2048x1024.Idx → Elt F .f32 :=
  k0_pay1 (k0_pay6 (xR X)) (k0_pay3 (accZT X Z T O)) Z B

theorem z2 : (![0, 0] : Fin 2 → ℕ) = fun _ => 0 := by decide
theorem z3 : (![0, 0, 0] : Fin 3 → ℕ) = fun _ => 0 := by decide

theorem off8_bit (i : grid0.Coords) (s : ℕ) (hs : (i 0).val = s) : k0_off8 i = ![(bit s).val, 0, 0, 0] := by rw [k0_off8_eq, hs]; rfl

/-- A finished program. -/
theorem wp_done (𝒱₀ : Variants) (c : Dev nD) {α : Type} {a : α} {Q : α → sProp 𝕄} : Q a ⊢ WP (F := F) 𝒱₀ c (.ret a) Q := fupd_intro

section Parts
variable (w : Bool → Dev nD → S8x256x1024.Idx → Elt F .bf16) (𝒱₀ : Variants) (K : GSem nD τ sig → ℕ)
variable (i : grid0.Coords) (a1 : Memref sig .tc .vmem S2048x512 .bf16) (h1 : a1.IsWhole) (a2 : Memref sig .tc .vmem S1x2048x16 .f32) (h2 : a2.IsWhole)
variable (a3 : Memref sig .tc .vmem S2048x8 .f32) (h3 : a3.IsWhole) (a6 : Memref sig .tc .vmem S2048x1024 .f32) (h6 : a6.IsWhole)

/-- The fifth part: the right half of the tokens, and the accumulator after the top halves. -/
theorem part5_spec (c : Dev nD) (s : ℕ) (hs : (i 0).val = s) (q : PosShare TreeShare) (X1 : S2048x512.Idx → Elt F .bf16) (X2 : S1x2048x16.Idx → Elt F .f32)
    (X6 : S2048x1024.Idx → Elt F .f32) (T : S8x256x1024.Idx → Elt F .bf16) :
    iprop(owns (c : Thread nD τ) a1 fullShare X1 ∗ owns (c : Thread nD τ) a2 fullShare X2 ∗ owns (c : Thread nD τ) a6 fullShare X6 ∗ hasV c (slot true (bit s)) q T)
      ⊢ WP 𝒱₀ c (k0_part5 i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0 (k0_pay5 (xL X1)))
        (fun r => iprop(⌜r = ⟨k0_pay6 (xR X1), accT X1 X2 T X6⟩⌝
          ∗ owns (c : Thread nD τ) a1 fullShare X1 ∗ owns (c : Thread nD τ) a2 fullShare X2 ∗ owns (c : Thread nD τ) a6 fullShare X6 ∗ hasV c (slot true (bit s)) q T)) := by
  unfold hasV
  iintro ⟨H1, H2, H6, Hs⟩
  simp only [k0_part5_eq_skeleton]
  unfold k0_part5_skel
  simp only [Prog.lift, Prog.bind_op, Prog.bind_ret, Prog.pure_eq_ret, Prog.bind_assoc]
  iapply (load_rule 𝒱₀ c a1 rfl) $$ H1
  iintro H1
  iapply (load_full 𝒱₀ c z2 a6 rfl) $$ H6
  iintro H6
  iapply (load_rule 𝒱₀ c a2 rfl) $$ H2
  iintro H2
  iapply (load_full 𝒱₀ c z3 (slot true (bit s)) (slotT_of (bit s) _ (off8_bit i s hs) _)) $$ Hs
  iintro Hs
  iapply (wp_done 𝒱₀ c)
  isplitr; · ipureintro; rfl
  isplitl [H1]; · iexact H1
  isplitl [H2]; · iexact H2
  isplitl [H6]; · iexact H6
  iexact Hs

/-- The sixth part: the accumulator after the top halves is stored, and the step's sum computed. -/
theorem part6_spec (c : Dev nD) (s : ℕ) (hs : (i 0).val = s) (q : PosShare TreeShare) (X1 : S2048x512.Idx → Elt F .bf16) (X2 : S1x2048x16.Idx → Elt F .f32)
    (X6 : S2048x1024.Idx → Elt F .f32) (T B : S8x256x1024.Idx → Elt F .bf16) :
    iprop(owns (c : Thread nD τ) a2 fullShare X2 ∗ owns (c : Thread nD τ) a6 fullShare X6 ∗ hasV c (slot false (bit s)) q B)
      ⊢ WP 𝒱₀ c (k0_part6 i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0 (k0_pay6 (xR X1)) (accT X1 X2 T X6))
        (fun r => iprop(⌜r = accB X1 X2 T B X6⌝
          ∗ owns (c : Thread nD τ) a2 fullShare X2 ∗ owns (c : Thread nD τ) a6 fullShare (accT X1 X2 T X6) ∗ hasV c (slot false (bit s)) q B)) := by
  unfold hasV
  iintro ⟨H2, H6, Hs⟩
  simp only [k0_part6_eq_skeleton]
  unfold k0_part6_skel
  simp only [Prog.lift, Prog.bind_op, Prog.bind_ret, Prog.pure_eq_ret, Prog.bind_assoc]
  iapply (load_full 𝒱₀ c z2 a6 rfl) $$ H6
  iintro H6
  iapply (store_full 𝒱₀ c z2) $$ H6
  iintro H6
  iapply (load_full 𝒱₀ c z2 a6 rfl) $$ H6
  iintro H6
  iapply (load_rule 𝒱₀ c a2 rfl) $$ H2
  iintro H2
  iapply (load_full 𝒱₀ c z3 (slot false (bit s)) (slotF_of (bit s) _ (off8_bit i s hs) _)) $$ Hs
  iintro Hs
  iapply (wp_done 𝒱₀ c)
  isplitr; · ipureintro; rfl
  isplitl [H2]; · iexact H2
  isplitl [H6]; · iexact H6
  iexact Hs

/-- The second part: the accumulator after the top half of the block from the other ring is stored. -/
theorem part2_spec (c : Dev nD) (q : PosShare TreeShare) (X1 : S2048x512.Idx → Elt F .bf16) (X3 : S2048x8.Idx → Elt F .f32)
    (X6 : S2048x1024.Idx → Elt F .f32) (T : S8x256x1024.Idx → Elt F .bf16) :
    iprop(owns (c : Thread nD τ) a3 fullShare X3 ∗ owns (c : Thread nD τ) a6 fullShare X6 ∗ hasV c (zM true) q T)
      ⊢ WP 𝒱₀ c (k0_part2 i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0 (k0_pay5 (xL X1)))
        (fun r => iprop(⌜r = ⟨k0_pay3 (accZT X1 X3 T X6), X3⟩⌝
          ∗ owns (c : Thread nD τ) a3 fullShare X3 ∗ owns (c : Thread nD τ) a6 fullShare (accZT X1 X3 T X6) ∗ hasV c (zM true) q T)) := by
  unfold hasV
  iintro ⟨H3, H6, Hs⟩
  simp only [k0_part2_eq_skeleton]
  unfold k0_part2_skel
  simp only [Prog.lift, Prog.bind_op, Prog.bind_ret, Prog.pure_eq_ret, Prog.bind_assoc]
  iapply (load_full 𝒱₀ c z2 a6 rfl) $$ H6
  iintro H6
  iapply (load_full 𝒱₀ c z2 a3 rfl) $$ H3
  iintro H3
  iapply (load_full 𝒱₀ c z3 (zM true) rfl) $$ Hs
  iintro Hs
  iapply (load_full 𝒱₀ c z2 a6 rfl) $$ H6
  iintro H6
  iapply (store_full 𝒱₀ c z2) $$ H6
  iintro H6
  iapply (load_full 𝒱₀ c z2 a6 rfl) $$ H6
  iintro H6
  iapply (load_full 𝒱₀ c z2 a3 rfl) $$ H3
  iintro H3
  iapply (wp_done 𝒱₀ c)
  isplitr; · ipureintro; rfl
  isplitl [H3]; · iexact H3
  isplitl [H6]; · iexact H6
  iexact Hs

end Parts

end Cert.MoeProof
-- ==== Proof.Steps.lean ====
/-
  What a device holds between two steps of the grid (`Mid`), with the rights it has not yet used, and the first
  part of a step's body: the waits for the credits and the two transfers.
-/
module

public import proofs.«01_k».proof.Proof.Compute

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Phi
variable (w : Bool → Dev nD → S8x256x1024.Idx → Elt F .bf16) (𝒱₀ : Variants) (K : GSem nD τ sig → ℕ)

/-- The exchange with the other ring, under way. -/
def zw (d : Bool) (c : Dev nD) : sProp 𝕄 :=
  iprop(cred (tallyAt (cell (.zs d) c) 0 N) ∗ cred (tallyAt (cell (.zr d) c) 0 N) ∗ atPos ER (cell (.zs d) c) 0 ∅ 0 ∗ atPos ER (cell (.zr d) c) 0 ∅ 0
    ∗ hasW c d fullShare.right (w d c))
/-- The exchange with the other ring, done. -/
def zx (d : Bool) (c : Dev nD) : sProp 𝕄 :=
  iprop(hasW c d fullShare (w d c) ∗ atPos ER (cell (.zs d) c) 1 ∅ 0 ∗ atPos ER (cell (.zr d) c) 1 ∅ 0)
/-- The exchange with the other ring before step `t`. -/
def zst (d : Bool) (c : Dev nD) (t : ℕ) : sProp 𝕄 := if t < 4 then zw w d c else iprop(zx w d c ∗ anyV c (zM d))

/-- What is held of direction `d` before step `t`, from step 1 on. -/
def side (d : Bool) (c : Dev nD) (t : ℕ) : sProp 𝕄 :=
  iprop(atPos ER (cell (.cr d) c) (t - 1) ∅ 0 ∗ posS d c t ∗ posR d c t ∗ hasV c (slot d (bit t)) fullShare (blk w d t c)
    ∗ (if t < 6 then cred (tallyAt (cell (.cr d) c) (t - 1) 1) else anyV c (slot d 1)) ∗ zst w d c t)

/-- The rights and credits of the last step: the exit signals. -/
def exits (c : Dev nD) : sProp 𝕄 :=
  iprop(dutyTok ER (cell .ex (nb false c)) 0 0 ∗ dutyTok ER (cell .ex (nb true c)) 0 1 ∗ dutyTok ER (cell .ex (zp c)) 0 2 ∗ cred (tallyAt (cell .ex c) 0 3))
/-- The rights and credits of `n` steps from step `t` on, and of the last step. -/
def tail (c : Dev nD) : ℕ → ℕ → sProp 𝕄
  | 0, _ => exits c
  | n + 1, t => iprop(tk true c t ∗ tk false c t ∗ tail c n (t + 1))
/-- The rights and credits of the steps from `t` on. -/
def todo (c : Dev nD) (t : ℕ) : sProp 𝕄 := tail c (6 - t) t
theorem todo_succ (c : Dev nD) (t : ℕ) (ht : t < 6) : (todo (F := F) c t : sProp 𝕄) = iprop(tk true c t ∗ tk false c t ∗ todo c (t + 1)) := by
  unfold todo
  have h : 6 - t = (6 - (t + 1)) + 1 := by omega
  rw [h]; rfl
theorem todo_six (c : Dev nD) : (todo (F := F) c 6 : sProp 𝕄) = exits c := rfl

/-- The devices met at the barrier have opened their exit semaphores. -/
def near (c : Dev nD) : sProp 𝕄 :=
  iprop(reached ER (cell .ex (nb false c)) 0 ∗ reached ER (cell .ex (nb true c)) 0 ∗ reached ER (cell .ex (zp c)) 0)
instance near_persistent (c : Dev nD) : BI.Persistent (near (F := F) c) := by unfold near; infer_instance

/-- What a device holds before step `t`, for `1 ≤ t ≤ 6`. -/
def Mid (c : Dev nD) (t : ℕ) : sProp 𝕄 :=
  iprop(Inv w K ∗ levAts L lv ∗ near c ∗ side w true c t ∗ side w false c t
    ∗ (atPos ER (cell .bar c) 1 ∅ 0 ∗ atPos ER (cell .ex c) 0 ∅ 0 ∗ atPos ER (cell .ld c) 2 ∅ 0) ∗ todo c t)

/-- What a device holds after the last step. -/
def Fin7 (c : Dev nD) : sProp 𝕄 :=
  iprop(Inv w K ∗ levAts L lv ∗ side w true c 6 ∗ side w false c 6
    ∗ (atPos ER (cell .bar c) 1 ∅ 0 ∗ atPos ER (cell .ex c) 1 ∅ 0 ∗ atPos ER (cell .ld c) 2 ∅ 0))

/-- What the first part of step `u + 1` takes of direction `d`. -/
def preD (d : Bool) (c : Dev nD) (u : ℕ) : sProp 𝕄 :=
  iprop(cred (tallyAt (cell (.cr d) c) u 1) ∗ atPos ER (cell (.cr d) c) u ∅ 0
    ∗ dutyTok ER (cell (.snd d (bit (u + 1))) c) ((u + 1) / 2) 0 ∗ reached ER (cell (.snd d (bit (u + 1))) c) ((u + 1) / 2)
    ∗ dutyTok ER (cell (.rcv d (bit (u + 1 + 1))) (nb d c)) ((u + 1) / 2) 0)
/-- What the first part of step `s` leaves of direction `d`. -/
def midD (d : Bool) (c : Dev nD) (s : ℕ) : sProp 𝕄 :=
  iprop(cred (tallyAt (cell (.snd d (bit s)) c) s N) ∗ hasV c (sentM d s) fullShare.right (sent w d s c))

theorem off_bit1 (o : Fin 1 → ℕ) (s : ℕ) (h : o = ![s % 2]) : o = ![(bit s).val] := h
theorem off_bit4 (o : Fin 4 → ℕ) (s : ℕ) (h : o = ![s % 2, 0, 0, 0]) : o = ![(bit s).val, 0, 0, 0] := h

end Phi

section Parts
variable (w : Bool → Dev nD → S8x256x1024.Idx → Elt F .bf16) (𝒱₀ : Variants) (K : GSem nD τ sig → ℕ)
variable (i : grid0.Coords) (a1 : Memref sig .tc .vmem S2048x512 .bf16) (h1 : a1.IsWhole) (a2 : Memref sig .tc .vmem S1x2048x16 .f32) (h2 : a2.IsWhole)
variable (a3 : Memref sig .tc .vmem S2048x8 .f32) (h3 : a3.IsWhole) (a6 : Memref sig .tc .vmem S2048x1024 .f32) (h6 : a6.IsWhole)

/-- The first part of a step between the first and the last, the exchange's step apart. -/
theorem part4_spec (c : Dev nD) (u : ℕ) (hs : (i 0).val = u + 1) (hu : u + 1 < 6) (hn : u + 1 ≠ 3) (X1 : S2048x512.Idx → Elt F .bf16) :
    iprop(Inv w K ∗ levAts L lv ∗ ow c (due c (u + 1)) ∗ owns (c : Thread nD τ) a1 fullShare X1 ∗ preD true c u ∗ preD false c u
        ∗ hasV c (sentM true (u + 1)) fullShare (sent w true (u + 1) c) ∗ hasV c (sentM false (u + 1)) fullShare (sent w false (u + 1) c))
      ⊢ WP 𝒱₀ c (k0_part4 i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0)
        (fun r => iprop(⌜r.1 = BitVec.ofNat 32 (i 0).val ∧ r.2.1 = c ∧ r.2.2.2.2.2 = k0_pay5 (xL X1)⌝ ∗ owns (c : Thread nD τ) a1 fullShare X1
          ∗ ow c (dueM c (u + 1)) ∗ (atPos ER (cell (.cr true) c) (u + 1) ∅ 0 ∗ midD w true c (u + 1)) ∗ (atPos ER (cell (.cr false) c) (u + 1) ∅ 0 ∗ midD w false c (u + 1)))) := by
  have c1 : ¬ (k0_cond1 i = 1#1) := fun h => by have := (cond1_iff i).mp h; omega
  have cA : ¬ (Scalar.cmpi .ne (Scalar.extui (Scalar.cmpi .eq (BitVec.ofNat 32 (i 0).val) 3#32) : BitVec 32) 0#32 = 1#1) := fun h => by have := (condA_iff i).mp h; omega
  have c3 : k0_cond3 i = 1#1 := (cond3_iff i).mpr (by omega)
  have cB : Scalar.cmpi .ne (Scalar.extui (Scalar.cmpi .sge (BitVec.ofNat 32 (i 0).val) 1#32) : BitVec 32) 0#32 = 1#1 := (condB_iff i).mpr (by omega)
  have c5 : ¬ (k0_cond5 i = 1#1) := fun h => by have := (cond5_iff i).mp h; omega
  have c6 : k0_cond6 i = 1#1 := (cond6_iff i).mpr (by omega)
  have hO : Above (10 * u + 8) (due c (u + 1)) := (above_due c (u + 1) (by omega)).mono (by omega)
  have e4 : k0_off4 i = ![(bit (u + 1)).val] := by rw [k0_off4_eq, hs]; rfl
  have e5 : k0_off5 i = ![(bit (u + 1 + 1)).val] := by rw [k0_off5_eq, hs]; rfl
  have e6 : k0_off6 i = ![(bit (u + 1 + 1)).val, 0, 0, 0] := by rw [k0_off6_eq, hs]; rfl
  have e7 : k0_off7 i = ![(bit (u + 1)).val, 0, 0, 0] := by rw [k0_off7_eq, hs]; rfl
  have eS (d : Bool) : sentM d (u + 1) = slot d (bit (u + 1)) := sentM_ne d _ hn
  unfold preD midD
  iintro ⟨#HI, #Hlev, HO, H1, ⟨Hc, Ha, Ht₁, #Hr, Ht₂⟩, ⟨Hc', Ha', Ht₁', #Hr', Ht₂'⟩, Hs, Hs'⟩
  simp only [k0_part4_eq_skeleton]
  unfold k0_part4_skel
  simp only [semSignalWord, semWaitWord, Prog.lift, Prog.bind_op, Prog.bind_ret, Prog.pure_eq_ret, Prog.bind_assoc, wp_deviceId,
    dif_neg c1, dif_neg cA, dif_pos c3, dif_pos cB, dif_neg c5, dif_pos c6]
  iapply (credit_wait (F := F) w 𝒱₀ K true c u (by omega) crT_of (by decide) (due c (u + 1)) hO) $$ [Hc HO Ha]
  · iframe HI Hlev Hc HO Ha
  iintro ⟨HO, Ha, Hf, #Hcr⟩
  iapply (credit_wait (F := F) w 𝒱₀ K false c u (by omega) crF_of (by decide) (due c (u + 1)) hO) $$ [Hc' HO Ha']
  · iframe HI Hlev Hc' HO Ha'
  iintro ⟨HO, Ha', Hf', #Hcr'⟩
  rw [due_step c (u + 1) (by omega) (by omega)]
  iapply (send_step (F := F) w 𝒱₀ K true c (u + 1) hu (dueM c (u + 1) + sendDue false c (u + 1))
    ((slotT_of (bit (u + 1)) _ e7 _).trans (eS true).symm) (slotT_of (bit (u + 1 + 1)) _ e6 _) (dev8_eq c _) (sndT_of (bit (u + 1)) _ e4 _) (rcvT_of (bit (u + 1 + 1)) _ e5 _))
    $$ [Hs Hf HO Ht₁ Ht₂]
  · iframe HI Hcr Hr Hs Hf HO Ht₁ Ht₂
  iintro ⟨Hc, HO, Hs⟩
  iapply (send_step (F := F) w 𝒱₀ K false c (u + 1) hu (dueM c (u + 1))
    ((slotF_of (bit (u + 1)) _ e7 _).trans (eS false).symm) (slotF_of (bit (u + 1 + 1)) _ e6 _) (dev9_eq c _) (sndF_of (bit (u + 1)) _ e4 _) (rcvF_of (bit (u + 1 + 1)) _ e5 _))
    $$ [Hs' Hf' HO Ht₁' Ht₂']
  · iframe HI Hcr' Hr' Hs' Hf' HO Ht₁' Ht₂'
  iintro ⟨Hc', HO, Hs'⟩
  iapply (load_rule 𝒱₀ c a1 rfl) $$ H1
  iintro H1
  iapply (wp_done 𝒱₀ c)
  isplitr; · ipureintro; exact ⟨rfl, rfl, rfl⟩
  iframe H1 HO Ha Hc Hs Ha' Hc' Hs'

end Parts

end Cert.MoeProof
-- ==== Proof.Parts.lean ====
/-
  The step of the exchange, the last step's first part, and the waits that end a step.
-/
module

public import proofs.«01_k».proof.Proof.Steps

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Parts
variable (w : Bool → Dev nD → S8x256x1024.Idx → Elt F .bf16) (𝒱₀ : Variants) (K : GSem nD τ sig → ℕ)
variable (i : grid0.Coords) (a1 : Memref sig .tc .vmem S2048x512 .bf16) (h1 : a1.IsWhole) (a2 : Memref sig .tc .vmem S1x2048x16 .f32) (h2 : a2.IsWhole)
variable (a3 : Memref sig .tc .vmem S2048x8 .f32) (h3 : a3.IsWhole) (a6 : Memref sig .tc .vmem S2048x1024 .f32) (h6 : a6.IsWhole)

theorem tok_cr (d : Bool) (c : Dev nD) (s : ℕ) (hs : s < 5) : (tk (F := F) d c s : sProp 𝕄)
    = iprop(dutyTok ER (cell (.snd d (bit s)) c) (s / 2) 0 ∗ dutyTok ER (cell (.rcv d (bit (s + 1))) (nb d c)) (s / 2) 0
      ∗ cred (tallyAt (cell (.rcv d (bit (s + 1))) c) s N)
      ∗ iprop(dutyTok ER (cell (.cr d) (nb (!d) c)) s 0 ∗ cred (tallyAt (cell (.cr d) c) s 1))) := by unfold tk; rw [if_pos hs]

/-- The waits for the exchange with the other ring, of one direction. -/
theorem z_waits (d : Bool) (c : Dev nD) {sS sR : DmaSem sig} (hS : SemLoc.dma sS = semOf (.zs d)) (hR : SemLoc.dma sR = semOf (.zr d))
    {src : Memref sig .tc .vmem S8x256x1024 .bf16} {dst : Memref sig .tc .hbm S8x256x1024 .bf16} {hsrc : src.view.WordExact} {hdst : dst.view.WordExact}
    {src' : Memref sig .tc .hbm S8x256x1024 .bf16} {dst' : Memref sig .tc .vmem S8x256x1024 .bf16} {hsrc' : src'.view.WordExact} {hdst' : dst'.view.WordExact}
    (hN : dst.view.dmaCredit = N) (hN' : dst'.view.dmaCredit = N)
    {α : Type} {kt : PUnit → Prog (TpuEff nD τ sig (Elt F) Λ₀ .tc) α} {Q : α → sProp 𝕄} :
    iprop(Inv w K ∗ levAts L lv ∗ ow c (due c 3) ∗ zw w d c)
      ⊢ iprop(((ow c (due c 3) ∗ zx w d c ∗ hasV c (sentM d 3) fullShare (sent w d 3 c)) -∗ WP 𝒱₀ c (kt ⟨⟩) Q)
          -∗ WP 𝒱₀ c (.op (.waitDma2 sS src dst hsrc hdst) fun _ => .op (.waitDma2 sR src' dst' hsrc' hdst') kt) Q) := by
  unfold zw zx hasW
  iintro ⟨#HI, #Hlev, HO, Hc, Hc', Ha, Ha', Hw⟩ Hk
  iapply (waitD (F := F) w 𝒱₀ K c (.zs d) 0 0 (by decide) (due c 3) ((above_due c 3 (by decide)).mono (by show 0 ≤ 34; decide)) hS hN (show dut (.zs d) 0 = {0} from rfl) rfl) $$ [HO Hc Ha]
  · iframe HI Hlev HO Hc Ha
  iintro ⟨HO, Ha, -, Hl⟩
  iapply (waitD (F := F) w 𝒱₀ K c (.zr d) 0 0 (by decide) (due c 3) ((above_due c 3 (by decide)).mono (by show 30 ≤ 34; decide)) hR hN' (show dut (.zr d) 0 = {0} from rfl) rfl) $$ [HO Hc' Ha']
  · iframe HI Hlev HO Hc' Ha'
  iintro ⟨HO, Ha', -, Hz⟩
  iapply Hk
  isplitl [HO]; · iexact HO
  isplitl [Hl Hw Ha Ha']
  · isplitl [Hl Hw]
    · iapply (owns_join2 c (wM d) (w d c))
      isplitl [Hl]; · iapply (Entails.of_eq (show pay w c (.zs d) 0 0 = owns (c : Thread nD τ) (wM d) fullShare.left (w d c) from rfl)); iexact Hl
      iexact Hw
    iframe Ha Ha'
  iapply (Entails.of_eq (show pay w c (.zr d) 0 0 = hasV c (sentM d 3) fullShare (sent w d 3 c) from rfl)); iexact Hz

/-- The first part of the step of the exchange: the block from the other ring has come, and is sent on. -/
theorem part4_three (c : Dev nD) (hs : (i 0).val = 2 + 1) (X1 : S2048x512.Idx → Elt F .bf16) :
    iprop(Inv w K ∗ levAts L lv ∗ ow c (due c 3) ∗ owns (c : Thread nD τ) a1 fullShare X1 ∗ preD true c 2 ∗ preD false c 2 ∗ zw w true c ∗ zw w false c)
      ⊢ WP 𝒱₀ c (k0_part4 i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0)
        (fun r => iprop(⌜r.1 = BitVec.ofNat 32 (i 0).val ∧ r.2.1 = c ∧ r.2.2.2.2.2 = k0_pay5 (xL X1)⌝ ∗ owns (c : Thread nD τ) a1 fullShare X1
          ∗ ow c (dueM c 3) ∗ (atPos ER (cell (.cr true) c) 3 ∅ 0 ∗ midD w true c 3) ∗ (atPos ER (cell (.cr false) c) 3 ∅ 0 ∗ midD w false c 3)
          ∗ zx w true c ∗ zx w false c)) := by
  have c1 : ¬ (k0_cond1 i = 1#1) := fun h => by have := (cond1_iff i).mp h; omega
  have cA : Scalar.cmpi .ne (Scalar.extui (Scalar.cmpi .eq (BitVec.ofNat 32 (i 0).val) 3#32) : BitVec 32) 0#32 = 1#1 := (condA_iff i).mpr hs
  have c3 : k0_cond3 i = 1#1 := (cond3_iff i).mpr (by omega)
  have cB : Scalar.cmpi .ne (Scalar.extui (Scalar.cmpi .sge (BitVec.ofNat 32 (i 0).val) 1#32) : BitVec 32) 0#32 = 1#1 := (condB_iff i).mpr (by omega)
  have c5 : k0_cond5 i = 1#1 := (cond5_iff i).mpr hs
  have c6 : ¬ (k0_cond6 i = 1#1) := fun h => by have := (cond6_iff i).mp h; omega
  have hO : Above (10 * 2 + 8) (due c 3) := (above_due c 3 (by omega)).mono (by omega)
  have e1 : k0_off1 i = ![(bit (2 + 1)).val] := by rw [k0_off1_eq, hs]; rfl
  have e2 : k0_off2 i = ![(bit (2 + 1 + 1)).val] := by rw [k0_off2_eq, hs]; rfl
  have e3 : k0_off3 i = ![(bit (2 + 1 + 1)).val, 0, 0, 0] := by rw [k0_off3_eq, hs]; rfl
  unfold preD midD
  iintro ⟨#HI, #Hlev, HO, H1, ⟨Hc, Ha, Ht₁, #Hr, Ht₂⟩, ⟨Hc', Ha', Ht₁', #Hr', Ht₂'⟩, Hz, Hz'⟩
  simp only [k0_part4_eq_skeleton]
  unfold k0_part4_skel
  simp only [semSignalWord, semWaitWord, Prog.lift, Prog.bind_op, Prog.bind_ret, Prog.pure_eq_ret, Prog.bind_assoc, wp_deviceId,
    dif_neg c1, dif_pos cA, dif_pos c3, dif_pos cB, dif_pos c5, dif_neg c6]
  iapply (z_waits (F := F) w 𝒱₀ K true c (zsT_of _) (zrT_of _) (wM_credit true) (zM_credit true)) $$ [HO Hz]
  · iframe HI Hlev HO Hz
  iintro ⟨HO, Hz, Hs⟩
  iapply (z_waits (F := F) w 𝒱₀ K false c (zsF_of _) (zrF_of _) (wM_credit false) (zM_credit false)) $$ [HO Hz']
  · iframe HI Hlev HO Hz'
  iintro ⟨HO, Hz', Hs'⟩
  iapply (credit_wait (F := F) w 𝒱₀ K true c 2 (by omega) crT_of (by decide) (due c 3) hO) $$ [Hc HO Ha]
  · iframe HI Hlev Hc HO Ha
  iintro ⟨HO, Ha, Hf, #Hcr⟩
  iapply (credit_wait (F := F) w 𝒱₀ K false c 2 (by omega) crF_of (by decide) (due c 3) hO) $$ [Hc' HO Ha']
  · iframe HI Hlev Hc' HO Ha'
  iintro ⟨HO, Ha', Hf', #Hcr'⟩
  rw [due_step c 3 (by omega) (by omega)]
  iapply (send_step (F := F) w 𝒱₀ K true c (2 + 1) (by decide) (dueM c 3 + sendDue false c 3)
    rfl (slotT_of (bit (2 + 1 + 1)) _ e3 _) (dev6_eq c _) (sndT_of (bit (2 + 1)) _ e1 _) (rcvT_of (bit (2 + 1 + 1)) _ e2 _))
    $$ [Hs Hf HO Ht₁ Ht₂]
  · iframe HI Hcr Hr Hs Hf HO Ht₁ Ht₂
  iintro ⟨Hc, HO, Hs⟩
  iapply (send_step (F := F) w 𝒱₀ K false c (2 + 1) (by decide) (dueM c 3)
    rfl (slotF_of (bit (2 + 1 + 1)) _ e3 _) (dev7_eq c _) (sndF_of (bit (2 + 1)) _ e1 _) (rcvF_of (bit (2 + 1 + 1)) _ e2 _))
    $$ [Hs' Hf' HO Ht₁' Ht₂']
  · iframe HI Hcr' Hr' Hs' Hf' HO Ht₁' Ht₂'
  iintro ⟨Hc', HO, Hs'⟩
  iapply (load_rule 𝒱₀ c a1 rfl) $$ H1
  iintro H1
  iapply (wp_done 𝒱₀ c)
  isplitr; · ipureintro; exact ⟨rfl, rfl, rfl⟩
  iframe H1 HO Ha Hc Hs Ha' Hc' Hs' Hz Hz'

/-- The first part of the last step: only the tokens are read. -/
theorem part4_six (c : Dev nD) (hs : (i 0).val = 6) (X1 : S2048x512.Idx → Elt F .bf16) :
    (owns (c : Thread nD τ) a1 fullShare X1 : sProp 𝕄)
      ⊢ WP 𝒱₀ c (k0_part4 i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0)
        (fun r => iprop(⌜r.1 = BitVec.ofNat 32 (i 0).val ∧ r.2.1 = c ∧ r.2.2.2.2.2 = k0_pay5 (xL X1)⌝ ∗ owns (c : Thread nD τ) a1 fullShare X1)) := by
  have c1 : ¬ (k0_cond1 i = 1#1) := fun h => by have := (cond1_iff i).mp h; omega
  have cA : ¬ (Scalar.cmpi .ne (Scalar.extui (Scalar.cmpi .eq (BitVec.ofNat 32 (i 0).val) 3#32) : BitVec 32) 0#32 = 1#1) := fun h => by have := (condA_iff i).mp h; omega
  have c3 : ¬ (k0_cond3 i = 1#1) := fun h => by have := (cond3_iff i).mp h; omega
  iintro H1
  simp only [k0_part4_eq_skeleton]
  unfold k0_part4_skel
  simp only [Prog.lift, Prog.bind_op, Prog.bind_ret, Prog.pure_eq_ret, Prog.bind_assoc, wp_deviceId, dif_neg c1, dif_neg cA, dif_neg c3]
  iapply (load_rule 𝒱₀ c a1 rfl) $$ H1
  iintro H1
  iapply (wp_done 𝒱₀ c)
  isplitr; · ipureintro; exact ⟨rfl, rfl, rfl⟩
  iexact H1

/-- What the end of step `s` takes of direction `d`. -/
def restD (d : Bool) (c : Dev nD) (s : ℕ) : sProp 𝕄 :=
  iprop(posS d c s ∗ posR d c s ∗ cred (tallyAt (cell (.rcv d (bit (s + 1))) c) s N))
/-- What the departure's wait gives. -/
def gone (d : Bool) (c : Dev nD) (s : ℕ) : sProp 𝕄 := iprop(posS d c (s + 1) ∗ hasV c (sentM d s) fullShare (sent w d s c))
/-- What the arrival's wait gives. -/
def came (d : Bool) (c : Dev nD) (s : ℕ) : sProp 𝕄 :=
  iprop(hasV c (slot d (bit (s + 1))) fullShare (blk w d (s + 1) c) ∗ reached ER (cell (.cr d) (nb (!d) c)) s
    ∗ posR d c (s + 1) ∗ reached ER (cell (.rcv d (bit s)) c) ((s + 1) / 2))

/-- The third part: the waits of the clockwise transfer and for the departure of the other. -/
theorem part3_spec (c : Dev nD) (s : ℕ) (hs : (i 0).val = s) (hu : s < 6) (v7 v10 : BitVec 32) (hc : k0_cond8 i = 1#1) :
    iprop(Inv w K ∗ levAts L lv ∗ ow c (dueM c s) ∗ (midD w true c s ∗ restD true c s) ∗ (midD w false c s ∗ posS false c s))
      ⊢ WP 𝒱₀ c (k0_part3 i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0 v7 v10 hc)
        (fun _ => iprop(ow c (dueM c s) ∗ gone w true c s ∗ came w true c s ∗ gone w false c s)) := by
  have e9 : k0_off9 i = ![(bit s).val] := by rw [k0_off9_eq, hs]; rfl
  have e12 : k0_off12 i = ![(bit (s + 1)).val] := by rw [k0_off12_eq, hs]; rfl
  have e11 : k0_off11 i = ![(bit (s + 1)).val, 0, 0, 0] := by rw [k0_off11_eq, hs]; rfl
  have e10 : k0_off10 i = ![(bit s).val, 0, 0, 0] := by rw [k0_off10_eq, hs]; rfl
  have hO := above_dueM c s (by omega)
  unfold midD restD gone came
  iintro ⟨#HI, #Hlev, HO, ⟨⟨Hc, Hs⟩, ⟨Hp, Hq, Hd⟩⟩, ⟨Hc', Hs'⟩, Hp'⟩
  simp only [k0_part3_eq_skeleton]
  unfold k0_part3_skel
  simp only [Prog.lift, Prog.bind_op, Prog.bind_ret, Prog.pure_eq_ret, Prog.bind_assoc]
  iapply (snd_wait (F := F) w 𝒱₀ K true c s hu (dueM c s) (hO.mono (by omega)) (sndT_of (bit s) _ e9 _)
    ((congrArg (fun m : Memref sig .tc .vmem S8x256x1024 .bf16 => m.view.dmaCredit) (slotT_of (bit s) _ e10 _)).trans (slot_credit true _))) $$ [HO Hc Hs Hp]
  · iframe HI Hlev HO Hc Hs Hp
  iintro ⟨HO, Hs, Hp⟩
  iapply (rcv_wait (F := F) w 𝒱₀ K true c s hu (dueM c s) hO (rcvT_of (bit (s + 1)) _ e12 _)
    ((congrArg (fun m : Memref sig .tc .vmem S8x256x1024 .bf16 => m.view.dmaCredit) (slotT_of (bit (s + 1)) _ e11 _)).trans (slot_credit true _))) $$ [HO Hd Hq]
  · iframe HI Hlev HO Hd Hq
  iintro ⟨HO, Hn, #Hcr, Hq, #Hrr⟩
  iapply (snd_wait (F := F) w 𝒱₀ K false c s hu (dueM c s) (hO.mono (by omega)) (sndF_of (bit s) _ e9 _)
    ((congrArg (fun m : Memref sig .tc .vmem S8x256x1024 .bf16 => m.view.dmaCredit) (slotF_of (bit s) _ e10 _)).trans (slot_credit false _))) $$ [HO Hc' Hs' Hp']
  · iframe HI Hlev HO Hc' Hs' Hp'
  iintro ⟨HO, Hs', Hp'⟩
  iapply (wp_done 𝒱₀ c)
  iframe HO Hs Hp Hn Hcr Hq Hrr Hs' Hp'

end Parts

end Cert.MoeProof
-- ==== Proof.After.lean ====
/-
  The kernel body at a step after the first: what it takes and what it leaves.
-/
module

public import proofs.«01_k».proof.Proof.Parts

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Bodies
variable (w : Bool → Dev nD → S8x256x1024.Idx → Elt F .bf16) (𝒱₀ : Variants) (K : GSem nD τ sig → ℕ)
variable (i : grid0.Coords) (a1 : Memref sig .tc .vmem S2048x512 .bf16) (h1 : a1.IsWhole) (a2 : Memref sig .tc .vmem S1x2048x16 .f32) (h2 : a2.IsWhole)
variable (a3 : Memref sig .tc .vmem S2048x8 .f32) (h3 : a3.IsWhole) (a6 : Memref sig .tc .vmem S2048x1024 .f32) (h6 : a6.IsWhole)

/-- A program's part, then the rest. -/
theorem wp_seq (c : Dev nD) {α β : Type} {p : Prog (TpuEff nD τ sig (Elt F) Λ₀ .tc) β} {k : β → Prog (TpuEff nD τ sig (Elt F) Λ₀ .tc) α}
    {P : sProp 𝕄} {R : β → sProp 𝕄} {Q : α → sProp 𝕄} (h : P ⊢ WP 𝒱₀ c p R) : P ⊢ iprop((∀ a, R a -∗ WP 𝒱₀ c (k a) Q) -∗ WP 𝒱₀ c (p >>= k) Q) := by
  have e : WP 𝒱₀ c (p >>= k) Q = WP 𝒱₀ c p (fun a => WP 𝒱₀ c (k a) Q) := wp_bind frame (wpE (defs₀ (F := F)) 𝒱₀ (c : Thread nD τ) none) Set.univ p k Q
  rw [e]
  iintro HP Hk
  iapply (wp_wand_r frame (wpE (defs₀ (F := F)) 𝒱₀ (c : Thread nD τ) none) Set.univ)
  isplitl [HP]; · iapply h; iexact HP
  iexact Hk

/-- What the end of a step leaves of direction `d`. -/
def doneD (d : Bool) (c : Dev nD) (s : ℕ) : sProp 𝕄 :=
  iprop(posS d c (s + 1) ∗ posR d c (s + 1) ∗ hasV c (slot d (bit (s + 1))) fullShare (blk w d (s + 1) c)
    ∗ if s < 5 then iprop(emp) else anyV c (slot d (bit s)))
/-- The right to give the credit of step `s` back. -/
def giveD (d : Bool) (c : Dev nD) (s : ℕ) : sProp 𝕄 := if s < 5 then dutyTok ER (cell (.cr d) (nb (!d) c)) s 0 else iprop(emp)

theorem hasV_any (c : Dev nD) (m : Memref sig .tc .vmem S8x256x1024 .bf16) (X : S8x256x1024.Idx → Elt F .bf16) :
    (hasV c m fullShare X : sProp 𝕄) ⊢ anyV c m := by
  unfold anyV hasV
  iintro H
  iexists X
  iexact H

/-- A step whose transfer is sent from the slots, from its first part on. -/
theorem body_after (c : Dev nD) (s : ℕ) (hs : (i 0).val = s) (hu : s < 6) (hn : s ≠ 3) (P G : sProp 𝕄) (X1 : S2048x512.Idx → Elt F .bf16) (X2 : S1x2048x16.Idx → Elt F .f32)
    (X6 : S2048x1024.Idx → Elt F .f32)
    (hP : P ⊢ WP 𝒱₀ c (k0_part4 i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0)
        (fun r => iprop(⌜r.1 = BitVec.ofNat 32 (i 0).val ∧ r.2.1 = c ∧ r.2.2.2.2.2 = k0_pay5 (xL X1)⌝ ∗ owns (c : Thread nD τ) a1 fullShare X1
          ∗ owns (c : Thread nD τ) a6 fullShare X6 ∗ ow c (dueM c s) ∗ midD w true c s ∗ midD w false c s ∗ G))) :
    iprop(P ∗ Inv w K ∗ levAts L lv ∗ owns (c : Thread nD τ) a2 fullShare X2 ∗ (restD true c s ∗ giveD true c s) ∗ (restD false c s ∗ giveD false c s))
      ⊢ WP 𝒱₀ c (cc0_body i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0)
        (fun _ => iprop(owns (c : Thread nD τ) a1 fullShare X1 ∗ owns (c : Thread nD τ) a2 fullShare X2
          ∗ owns (c : Thread nD τ) a6 fullShare (accB X1 X2 (blk w true s c) (blk w false s c) X6)
          ∗ ow c (due c (s + 1)) ∗ doneD w true c s ∗ doneD w false c s ∗ G)) := by
  have cA : ¬ (Scalar.cmpi .ne (Scalar.extui (Scalar.cmpi .eq (BitVec.ofNat 32 (i 0).val) 3#32) : BitVec 32) 0#32 = 1#1) := fun h => by have := (condA_iff i).mp h; omega
  have c8 : k0_cond8 i = 1#1 := (cond8_iff i).mpr (by omega)
  have c10 : ¬ (k0_cond10 i = 1#1) := fun h => by have := (cond10_iff i).mp h; omega
  have e12 : k0_off12 i = ![(bit (s + 1)).val] := by rw [k0_off12_eq, hs]; rfl
  have e11 : k0_off11 i = ![(bit (s + 1)).val, 0, 0, 0] := by rw [k0_off11_eq, hs]; rfl
  iintro ⟨HP, #HI, #Hlev, H2, ⟨Hr, Hg⟩, ⟨Hr', Hg'⟩⟩
  simp only [cc0_body_eq_skeleton]
  unfold cc0_body_skel
  simp only [semSignalWord, semWaitWord, Prog.lift, Prog.bind_op, Prog.bind_ret, Prog.pure_eq_ret, Prog.bind_assoc]
  iapply (wp_seq 𝒱₀ c hP) $$ HP
  iintro %r ⟨%hr, H1, H6, HO, Hm, Hm', HG⟩
  obtain ⟨arg0, d0, v7, v10, v12, v26⟩ := r
  obtain ⟨h0, hd, hv⟩ := hr
  dsimp only at h0 hd hv
  subst h0; subst hv
  have hd' : d0 = c := hd
  subst hd'
  dsimp only
  unfold midD
  rw [sentM_ne true s hn, sentM_ne false s hn, sent_ne w true s hn, sent_ne w false s hn]
  icases Hm with ⟨Hc, Hs⟩
  icases Hm' with ⟨Hc', Hs'⟩
  iapply (wp_seq 𝒱₀ d0 (part5_spec (F := F) 𝒱₀ i a1 h1 a2 h2 a3 h3 a6 h6 d0 s hs fullShare.right X1 X2 X6 (blk w true s d0))) $$ [H1 H2 H6 Hs]
  · iframe H1 H2 H6 Hs
  iintro %r ⟨%hr, H1, H2, H6, Hs⟩
  subst hr
  dsimp only
  iapply (wp_seq 𝒱₀ d0 (part6_spec (F := F) 𝒱₀ i a1 h1 a2 h2 a3 h3 a6 h6 d0 s hs fullShare.right X1 X2 X6 (blk w true s d0) (blk w false s d0))) $$ [H2 H6 Hs']
  · iframe H2 H6 Hs'
  iintro %r ⟨%hr, H2, H6, Hs'⟩
  subst hr
  iapply (load_full 𝒱₀ d0 z2 a6 rfl) $$ H6
  iintro H6
  iapply (store_full 𝒱₀ d0 z2) $$ H6
  iintro H6
  simp only [dif_neg cA, dif_pos c8, dif_neg c10]
  unfold restD
  icases Hr' with ⟨Hp', Hq', Hd'⟩
  iapply (wp_seq 𝒱₀ d0 (part3_spec (F := F) w 𝒱₀ K i a1 h1 a2 h2 a3 h3 a6 h6 d0 s hs hu _ _ c8)) $$ [HO Hc Hs Hc' Hs' Hr Hp']
  · unfold midD restD
    rw [sentM_ne true s hn, sentM_ne false s hn, sent_ne w true s hn, sent_ne w false s hn]
    iframe HI Hlev HO Hc Hs Hc' Hs' Hr Hp'
  unfold gone came
  rw [sentM_ne true s hn, sentM_ne false s hn, sent_ne w true s hn, sent_ne w false s hn]
  iintro %r ⟨HO, ⟨Hp, Hs⟩, ⟨Hn, #Hcr, Hq, #Hrr⟩, ⟨Hp', Hs'⟩⟩
  iapply (rcv_wait (F := F) w 𝒱₀ K false d0 s hu (dueM d0 s) (above_dueM d0 s (by omega)) (rcvF_of (bit (s + 1)) _ e12 _)
    ((congrArg (fun m : Memref sig .tc .vmem S8x256x1024 .bf16 => m.view.dmaCredit) (slotF_of (bit (s + 1)) _ e11 _)).trans (slot_credit false _))) $$ [HO Hd' Hq']
  · iframe HI Hlev HO Hd' Hq'
  iintro ⟨HO, Hn', #Hcr', Hq', #Hrr'⟩
  unfold doneD giveD
  by_cases h5 : s < 5
  · have c9 : k0_cond9 i = 1#1 := (cond9_iff i).mpr (by omega)
    simp only [dif_pos c9, if_pos h5]
    rw [dueM_lt d0 s h5]
    ihave Hs := (hasV_any d0 _ _) $$ Hs
    ihave Hs' := (hasV_any d0 _ _) $$ Hs'
    iapply (credit_step (F := F) w 𝒱₀ K true d0 s h5 (due d0 (s + 1) + crDue false d0 s) (dev10_eq d0 _) crT_of (by decide)) $$ [HO Hg Hs]
    · iframe HI Hcr Hrr HO Hg Hs
    iintro HO
    iapply (credit_step (F := F) w 𝒱₀ K false d0 s h5 (due d0 (s + 1)) (dev11_eq d0 _) crF_of (by decide)) $$ [HO Hg' Hs']
    · iframe HI Hcr' Hrr' HO Hg' Hs'
    iintro HO
    iapply (wp_done 𝒱₀ d0)
    iframe H1 H2 H6 HO Hp Hq Hn Hp' Hq' Hn' HG
  · have c9 : ¬ (k0_cond9 i = 1#1) := fun h => by have := (cond9_iff i).mp h; omega
    have e5 : s = 5 := by omega
    simp only [dif_neg c9, if_neg h5]
    subst e5
    iapply (wp_done 𝒱₀ d0)
    ihave Hs := (hasV_any d0 _ _) $$ Hs
    ihave Hs' := (hasV_any d0 _ _) $$ Hs'
    iframe H1 H2 H6 Hp Hq Hn Hs Hp' Hq' Hn' Hs' HG
    iexact HO

end Bodies

end Cert.MoeProof
-- ==== Proof.Bodies.lean ====
/-
  The kernel body at the step of the exchange and at the last step, and every later step from one state to the next.
-/
module

public import proofs.«01_k».proof.Proof.After

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Bodies
variable (w : Bool → Dev nD → S8x256x1024.Idx → Elt F .bf16) (𝒱₀ : Variants) (K : GSem nD τ sig → ℕ)
variable (i : grid0.Coords) (a1 : Memref sig .tc .vmem S2048x512 .bf16) (h1 : a1.IsWhole) (a2 : Memref sig .tc .vmem S1x2048x16 .f32) (h2 : a2.IsWhole)
variable (a3 : Memref sig .tc .vmem S2048x8 .f32) (h3 : a3.IsWhole) (a6 : Memref sig .tc .vmem S2048x1024 .f32) (h6 : a6.IsWhole)

/-- The rights a step after the first begins with, from the state before it. -/
theorem side_open (d : Bool) (c : Dev nD) (u : ℕ) (hu : u + 1 < 6) :
    iprop(side w d c (u + 1) ∗ tk d c (u + 1)) ⊢ iprop(preD d c u ∗ hasV c (slot d (bit (u + 1))) fullShare (blk w d (u + 1) c) ∗ restD d c (u + 1)
      ∗ giveD d c (u + 1) ∗ zst w d c (u + 1) ∗ (if u + 1 < 5 then cred (tallyAt (cell (.cr d) c) (u + 1) 1) else iprop(emp))) := by
  unfold side tk preD restD giveD
  rw [if_pos hu, Nat.add_sub_cancel]
  split_ifs with h5
  · unfold posS
    iintro ⟨⟨Ha, ⟨Hs1, #Hs2, Hs3, Hs4⟩, HR, Hv, Hc, Hz⟩, ⟨Ht1, Ht2, Hd, ⟨Ht3, Hc'⟩⟩⟩
    iframe ∗ #
  · unfold posS
    iintro ⟨⟨Ha, ⟨Hs1, #Hs2, Hs3, Hs4⟩, HR, Hv, Hc, Hz⟩, ⟨Ht1, Ht2, Hd, -⟩⟩
    iframe ∗ #

/-- The state after a step, of one direction. -/
theorem side_close (d : Bool) (c : Dev nD) (s : ℕ) (hs : s < 6) :
    iprop(atPos ER (cell (.cr d) c) s ∅ 0 ∗ doneD w d c s ∗ zst w d c (s + 1) ∗ (if s < 5 then cred (tallyAt (cell (.cr d) c) s 1) else iprop(emp)))
      ⊢ side w d c (s + 1) := by
  unfold side doneD
  rw [Nat.add_sub_cancel]
  by_cases h5 : s < 5
  · rw [if_pos h5, if_pos h5, if_pos (by omega)]
    iintro ⟨Ha, ⟨HS, HR, Hv, -⟩, Hz, Hc⟩
    iframe ∗
  · rw [if_neg h5, if_neg h5, if_neg (by omega)]
    have e : s = 5 := by omega
    subst e
    iintro ⟨Ha, ⟨HS, HR, Hv, Hx⟩, Hz, -⟩
    iframe Ha HS HR Hv Hz
    iexact Hx

theorem zst_same (d : Bool) (c : Dev nD) (s : ℕ) (hn : s ≠ 3) : zst w d c (s + 1) = zst w d c s := by
  unfold zst
  by_cases h : s < 4
  · rw [if_pos h, if_pos (by omega)]
  · rw [if_neg h, if_neg (by omega)]

/-- A step after the first, that of the exchange and the last apart. -/
theorem body_mid (c : Dev nD) (u : ℕ) (hs : (i 0).val = u + 1) (hu : u + 1 < 6) (hn : u + 1 ≠ 3) (X1 : S2048x512.Idx → Elt F .bf16) (X2 : S1x2048x16.Idx → Elt F .f32)
    (X6 : S2048x1024.Idx → Elt F .f32) :
    iprop(Mid w K c (u + 1) ∗ ow c (due c (u + 1)) ∗ owns (c : Thread nD τ) a1 fullShare X1 ∗ owns (c : Thread nD τ) a2 fullShare X2 ∗ owns (c : Thread nD τ) a6 fullShare X6)
      ⊢ WP 𝒱₀ c (cc0_body i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0)
        (fun _ => iprop(Mid w K c (u + 1 + 1) ∗ ow c (due c (u + 1 + 1)) ∗ owns (c : Thread nD τ) a1 fullShare X1 ∗ owns (c : Thread nD τ) a2 fullShare X2
          ∗ owns (c : Thread nD τ) a6 fullShare (accB X1 X2 (blk w true (u + 1) c) (blk w false (u + 1) c) X6))) := by
  unfold Mid
  rw [todo_succ c (u + 1) hu]
  iintro ⟨⟨#HI, #Hlev, #Hnear, HT, HB, HP, ⟨Htk, Htk', Htodo⟩⟩, HO, H1, H2, H6⟩
  ihave HT := (side_open (F := F) w true c u hu) $$ [HT Htk]
  · iframe HT Htk
  ihave HB := (side_open (F := F) w false c u hu) $$ [HB Htk']
  · iframe HB Htk'
  icases HT with ⟨Hpre, Hv, Hrest, Hgive, Hz, Hcr⟩
  icases HB with ⟨Hpre', Hv', Hrest', Hgive', Hz', Hcr'⟩
  have key := body_after (F := F) w 𝒱₀ K i a1 h1 a2 h2 a3 h3 a6 h6 c (u + 1) hs hu hn
    iprop(Inv w K ∗ levAts L lv ∗ ow c (due c (u + 1)) ∗ owns (c : Thread nD τ) a1 fullShare X1 ∗ preD true c u ∗ preD false c u
        ∗ hasV c (slot true (bit (u + 1))) fullShare (blk w true (u + 1) c) ∗ hasV c (slot false (bit (u + 1))) fullShare (blk w false (u + 1) c) ∗ owns (c : Thread nD τ) a6 fullShare X6)
    iprop(atPos ER (cell (.cr true) c) (u + 1) ∅ 0 ∗ atPos ER (cell (.cr false) c) (u + 1) ∅ 0) X1 X2 X6 (by
      have h4 := part4_spec (F := F) w 𝒱₀ K i a1 h1 a2 h2 a3 h3 a6 h6 c u hs hu hn X1
      rw [sentM_ne true _ hn, sentM_ne false _ hn, sent_ne w true _ hn, sent_ne w false _ hn] at h4
      iintro ⟨#HI, #Hlev, HO, H1, Hpre, Hpre', Hv, Hv', H6⟩
      iapply (wp_wand_r frame (wpE (defs₀ (F := F)) 𝒱₀ (c : Thread nD τ) none) Set.univ)
      isplitl [HO H1 Hpre Hpre' Hv Hv']
      · iapply h4
        iframe HI Hlev HO H1 Hpre Hpre' Hv Hv'
      iintro %r ⟨%hr, H1, HO, ⟨Ha, Hm⟩, ⟨Ha', Hm'⟩⟩
      isplitr; · ipureintro; exact hr
      iframe ∗)
  iapply (wp_wand_r frame (wpE (defs₀ (F := F)) 𝒱₀ (c : Thread nD τ) none) Set.univ)
  isplitl [HO H1 H2 H6 Hpre Hpre' Hv Hv' Hrest Hgive Hrest' Hgive']
  · iapply key
    iframe HI Hlev HO H1 H2 H6 Hpre Hpre' Hv Hv' Hrest Hgive Hrest' Hgive'
  iintro %r ⟨H1, H2, H6, HO, HD, HD', ⟨Ha, Ha'⟩⟩
  iframe HI Hlev Hnear HO H1 H2 H6 HP Htodo
  isplitl [Ha HD Hz Hcr]
  · iapply (side_close (F := F) w true c (u + 1) hu)
    rw [zst_same w true c _ hn]
    iframe Ha HD Hz Hcr
  · iapply (side_close (F := F) w false c (u + 1) hu)
    rw [zst_same w false c _ hn]
    iframe Ha' HD' Hz' Hcr'

/-- The step of the exchange. -/
theorem body_three (c : Dev nD) (hs : (i 0).val = 3) (X1 : S2048x512.Idx → Elt F .bf16) (X2 : S1x2048x16.Idx → Elt F .f32) (X3 : S2048x8.Idx → Elt F .f32)
    (X6 : S2048x1024.Idx → Elt F .f32) :
    iprop(Mid w K c 3 ∗ ow c (due c 3) ∗ owns (c : Thread nD τ) a1 fullShare X1 ∗ owns (c : Thread nD τ) a2 fullShare X2 ∗ owns (c : Thread nD τ) a3 fullShare X3
        ∗ owns (c : Thread nD τ) a6 fullShare X6)
      ⊢ WP 𝒱₀ c (cc0_body i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0)
        (fun _ => iprop(Mid w K c 4 ∗ ow c (due c 4) ∗ owns (c : Thread nD τ) a1 fullShare X1 ∗ owns (c : Thread nD τ) a2 fullShare X2 ∗ owns (c : Thread nD τ) a3 fullShare X3
          ∗ owns (c : Thread nD τ) a6 fullShare (accZ X1 X3 (w true (zp c)) (w false (zp c)) (accB X1 X2 (blk w true 3 c) (blk w false 3 c) X6)))) := by
  have cA : Scalar.cmpi .ne (Scalar.extui (Scalar.cmpi .eq (BitVec.ofNat 32 (i 0).val) 3#32) : BitVec 32) 0#32 = 1#1 := (condA_iff i).mpr hs
  have c8 : k0_cond8 i = 1#1 := (cond8_iff i).mpr (by omega)
  have c9 : k0_cond9 i = 1#1 := (cond9_iff i).mpr (by omega)
  have c10 : ¬ (k0_cond10 i = 1#1) := fun h => by have := (cond10_iff i).mp h; omega
  have e12 : k0_off12 i = ![(bit (3 + 1)).val] := by rw [k0_off12_eq, hs]; rfl
  have e11 : k0_off11 i = ![(bit (3 + 1)).val, 0, 0, 0] := by rw [k0_off11_eq, hs]; rfl
  have so (d : Bool) : iprop(side w d c 3 ∗ tk d c 3) ⊢ iprop(preD d c 2 ∗ hasV c (slot d (bit 3)) fullShare (blk w d 3 c) ∗ restD d c 3
      ∗ dutyTok ER (cell (.cr d) (nb (!d) c)) 3 0 ∗ zw w d c ∗ cred (tallyAt (cell (.cr d) c) 3 1)) := side_open (F := F) w d c 2 (by decide)
  unfold Mid
  rw [todo_succ c 3 (by decide)]
  iintro ⟨⟨#HI, #Hlev, #Hnear, HT, HB, HP, ⟨Htk, Htk', Htodo⟩⟩, HO, H1, H2, H3, H6⟩
  ihave HT := (so true) $$ [HT Htk]
  · iframe HT Htk
  ihave HB := (so false) $$ [HB Htk']
  · iframe HB Htk'
  icases HT with ⟨Hpre, Hv, Hr, Hg, Hz, Hcr⟩
  icases HB with ⟨Hpre', Hv', Hr', Hg', Hz', Hcr'⟩
  simp only [cc0_body_eq_skeleton]
  unfold cc0_body_skel
  simp only [semSignalWord, semWaitWord, Prog.lift, Prog.bind_op, Prog.bind_ret, Prog.pure_eq_ret, Prog.bind_assoc]
  iapply (wp_seq 𝒱₀ c (part4_three (F := F) w 𝒱₀ K i a1 h1 a2 h2 a3 h3 a6 h6 c hs X1)) $$ [HO H1 Hpre Hpre' Hz Hz']
  · iframe HI Hlev HO H1 Hpre Hpre' Hz Hz'
  iintro %r ⟨%hr, H1, HO, ⟨Ha, Hm⟩, ⟨Ha', Hm'⟩, Hx, Hx'⟩
  obtain ⟨arg0, d0, v7, v10, v12, v26⟩ := r
  obtain ⟨h0, hd, hv⟩ := hr
  dsimp only at h0 hd hv
  subst h0; subst hv
  have hd' : d0 = c := hd
  subst hd'
  dsimp only
  iapply (wp_seq 𝒱₀ d0 (part5_spec (F := F) 𝒱₀ i a1 h1 a2 h2 a3 h3 a6 h6 d0 3 hs fullShare X1 X2 X6 (blk w true 3 d0))) $$ [H1 H2 H6 Hv]
  · iframe H1 H2 H6 Hv
  iintro %r ⟨%hr, H1, H2, H6, Hv⟩
  subst hr
  dsimp only
  iapply (wp_seq 𝒱₀ d0 (part6_spec (F := F) 𝒱₀ i a1 h1 a2 h2 a3 h3 a6 h6 d0 3 hs fullShare X1 X2 X6 (blk w true 3 d0) (blk w false 3 d0))) $$ [H2 H6 Hv']
  · iframe H2 H6 Hv'
  iintro %r ⟨%hr, H2, H6, Hv'⟩
  subst hr
  iapply (load_full 𝒱₀ d0 z2 a6 rfl) $$ H6
  iintro H6
  iapply (store_full 𝒱₀ d0 z2) $$ H6
  iintro H6
  simp only [dif_pos cA, dif_pos c8, dif_neg c10, dif_pos c9]
  unfold midD
  rw [sentM_three, sentM_three, sent_three, sent_three]
  icases Hm with ⟨Hc, Hs⟩
  icases Hm' with ⟨Hc', Hs'⟩
  iapply (wp_seq 𝒱₀ d0 (part2_spec (F := F) 𝒱₀ i a1 h1 a2 h2 a3 h3 a6 h6 d0 fullShare.right X1 X3 (accB X1 X2 (blk w true 3 d0) (blk w false 3 d0) X6) (w true (zp d0)))) $$ [H3 H6 Hs]
  · iframe H3 H6 Hs
  iintro %r ⟨%hr, H3, H6, Hs⟩
  subst hr
  dsimp only
  unfold hasV
  iapply (load_full 𝒱₀ d0 z3 (zM false) rfl) $$ Hs'
  iintro Hs'
  iapply (load_full 𝒱₀ d0 z2 a6 rfl) $$ H6
  iintro H6
  iapply (store_full 𝒱₀ d0 z2) $$ H6
  iintro H6
  unfold restD
  icases Hr' with ⟨Hp', Hq', Hd'⟩
  iapply (wp_seq 𝒱₀ d0 (part3_spec (F := F) w 𝒱₀ K i a1 h1 a2 h2 a3 h3 a6 h6 d0 3 hs (by decide) _ _ c8)) $$ [HO Hc Hs Hc' Hs' Hr Hp']
  · unfold midD restD hasV
    rw [sentM_three, sentM_three, sent_three, sent_three]
    iframe HI Hlev HO Hc Hs Hc' Hs' Hr Hp'
  unfold gone came
  rw [sentM_three, sentM_three, sent_three, sent_three]
  iintro %r ⟨HO, ⟨Hp, Hs⟩, ⟨Hn, #Hcrr, Hq, #Hrr⟩, ⟨Hp', Hs'⟩⟩
  iapply (rcv_wait (F := F) w 𝒱₀ K false d0 3 (by decide) (dueM d0 3) (above_dueM d0 3 (by omega)) (rcvF_of (bit (3 + 1)) _ e12 _)
    ((congrArg (fun m : Memref sig .tc .vmem S8x256x1024 .bf16 => m.view.dmaCredit) (slotF_of (bit (3 + 1)) _ e11 _)).trans (slot_credit false _))) $$ [HO Hd' Hq']
  · iframe HI Hlev HO Hd' Hq'
  iintro ⟨HO, Hn', #Hcrr', Hq', #Hrr'⟩
  rw [dueM_lt d0 3 (by decide)]
  ihave Hv := (hasV_any d0 _ _) $$ Hv
  ihave Hv' := (hasV_any d0 _ _) $$ Hv'
  ihave Hs := (hasV_any d0 _ _) $$ Hs
  ihave Hs' := (hasV_any d0 _ _) $$ Hs'
  iapply (credit_step (F := F) w 𝒱₀ K true d0 3 (by decide) (due d0 (3 + 1) + crDue false d0 3) (dev10_eq d0 _) crT_of (by decide)) $$ [HO Hg Hv]
  · iframe HI Hcrr Hrr HO Hg Hv
  iintro HO
  iapply (credit_step (F := F) w 𝒱₀ K false d0 3 (by decide) (due d0 (3 + 1)) (dev11_eq d0 _) crF_of (by decide)) $$ [HO Hg' Hv']
  · iframe HI Hcrr' Hrr' HO Hg' Hv'
  iintro HO
  iapply (wp_done 𝒱₀ d0)
  have ez (d : Bool) : zst w d d0 4 = iprop(zx w d d0 ∗ anyV d0 (zM d)) := if_neg (by decide)
  iframe HI Hlev Hnear HO H1 H2 H3 HP Htodo
  isplitr [H6]
  · isplitl [Ha Hp Hq Hn Hx Hs Hcr]
    · iapply (side_close (F := F) w true d0 3 (by decide))
      unfold doneD
      rw [ez, if_pos (by decide), if_pos (by decide)]
      iframe Ha Hp Hq Hn Hx Hs Hcr
    · iapply (side_close (F := F) w false d0 3 (by decide))
      unfold doneD
      rw [ez, if_pos (by decide), if_pos (by decide)]
      iframe Ha' Hp' Hq' Hn' Hx' Hs' Hcr'
  iexact H6

/-- The last step. -/
theorem body_six (c : Dev nD) (hs : (i 0).val = 6) (X1 : S2048x512.Idx → Elt F .bf16) (X2 : S1x2048x16.Idx → Elt F .f32)
    (X6 : S2048x1024.Idx → Elt F .f32) :
    iprop(Mid w K c 6 ∗ ow c (due c 6) ∗ owns (c : Thread nD τ) a1 fullShare X1 ∗ owns (c : Thread nD τ) a2 fullShare X2 ∗ owns (c : Thread nD τ) a6 fullShare X6)
      ⊢ WP 𝒱₀ c (cc0_body i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0)
        (fun _ => iprop(Fin7 w K c ∗ ow c 0 ∗ owns (c : Thread nD τ) a1 fullShare X1 ∗ owns (c : Thread nD τ) a2 fullShare X2
          ∗ owns (c : Thread nD τ) a6 fullShare (accB X1 X2 (blk w true 6 c) (blk w false 6 c) X6))) := by
  have cA : ¬ (Scalar.cmpi .ne (Scalar.extui (Scalar.cmpi .eq (BitVec.ofNat 32 (i 0).val) 3#32) : BitVec 32) 0#32 = 1#1) := fun h => by have := (condA_iff i).mp h; omega
  have c8 : ¬ (k0_cond8 i = 1#1) := fun h => by have := (cond8_iff i).mp h; omega
  have c10 : k0_cond10 i = 1#1 := (cond10_iff i).mpr hs
  have eb (d : Bool) : side w d c 6 = iprop(atPos ER (cell (.cr d) c) (6 - 1) ∅ 0 ∗ posS d c 6 ∗ posR d c 6 ∗ hasV c (slot d (bit 6)) fullShare (blk w d 6 c)
    ∗ anyV c (slot d 1) ∗ zst w d c 6) := by unfold side; rw [if_neg (by decide)]
  unfold Mid
  rw [todo_six]
  unfold near exits
  rw [eb, eb]
  iintro ⟨⟨#HI, #Hlev, ⟨#Hn1, #Hn2, #Hn3⟩, ⟨Hca, Hps, Hpr, Hv, Hr⟩, ⟨Hca', Hps', Hpr', Hv', Hr'⟩, ⟨Hb, He, Hl⟩, ⟨Ht1, Ht2, Ht3, Hc⟩⟩, HO, H1, H2, H6⟩
  simp only [cc0_body_eq_skeleton]
  unfold cc0_body_skel
  simp only [semSignalWord, semWaitWord, Prog.lift, Prog.bind_op, Prog.bind_ret, Prog.pure_eq_ret, Prog.bind_assoc]
  iapply (wp_seq 𝒱₀ c (part4_six (F := F) 𝒱₀ i a1 h1 a2 h2 a3 h3 a6 h6 c hs X1)) $$ H1
  iintro %r ⟨%hr, H1⟩
  obtain ⟨arg0, d0, v7, v10, v12, v26⟩ := r
  obtain ⟨h0, hd, hv⟩ := hr
  dsimp only at h0 hd hv
  subst h0; subst hv
  have hd' : d0 = c := hd
  subst hd'
  dsimp only
  iapply (wp_seq 𝒱₀ d0 (part5_spec (F := F) 𝒱₀ i a1 h1 a2 h2 a3 h3 a6 h6 d0 6 hs fullShare X1 X2 X6 (blk w true 6 d0))) $$ [H1 H2 H6 Hv]
  · iframe H1 H2 H6 Hv
  iintro %r ⟨%hr, H1, H2, H6, Hv⟩
  subst hr
  dsimp only
  iapply (wp_seq 𝒱₀ d0 (part6_spec (F := F) 𝒱₀ i a1 h1 a2 h2 a3 h3 a6 h6 d0 6 hs fullShare X1 X2 X6 (blk w true 6 d0) (blk w false 6 d0))) $$ [H2 H6 Hv']
  · iframe H2 H6 Hv'
  iintro %r ⟨%hr, H2, H6, Hv'⟩
  subst hr
  iapply (load_full 𝒱₀ d0 z2 a6 rfl) $$ H6
  iintro H6
  iapply (store_full 𝒱₀ d0 z2) $$ H6
  iintro H6
  simp only [dif_neg cA, dif_neg c8, dif_pos c10]
  have ed : due d0 6 = ((0 + tallyAt (cell .ex (zp d0)) 0 1) + tallyAt (cell .ex (nb true d0)) 0 1) + tallyAt (cell .ex (nb false d0)) 0 1 := rfl
  rw [ed]
  iapply (signal_rule (F := F) w 𝒱₀ K d0 (nb false d0) .ex 0 0 0 ((0 + tallyAt (cell .ex (zp d0)) 0 1) + tallyAt (cell .ex (nb true d0)) 0 1) (dev12_eq d0 _) ex_of (by decide) (Finset.mem_univ _) rfl) $$ [HO Ht1]
  · iframe HI Hn1 HO Ht1
    iempintro
  iintro HO
  iapply (signal_rule (F := F) w 𝒱₀ K d0 (nb true d0) .ex 0 0 1 (0 + tallyAt (cell .ex (zp d0)) 0 1) (dev13_eq d0 _) ex_of (by decide) (Finset.mem_univ _) rfl) $$ [HO Ht2]
  · iframe HI Hn2 HO Ht2
    iempintro
  iintro HO
  iapply (signal_rule (F := F) w 𝒱₀ K d0 (zp d0) .ex 0 0 2 0 (dev14_eq d0 _) ex_of (by decide) (Finset.mem_univ _) rfl) $$ [HO Ht3]
  · iframe HI Hn3 HO Ht3
    iempintro
  iintro HO
  iapply (waitR (F := F) w 𝒱₀ K d0 .ex 0 0 (by decide) 0 (Above.zero _) 3 (by decide) ex_of (by decide)) $$ [HO Hc He]
  · iframe HI Hlev HO Hc He
  iintro ⟨HO, He, -, -⟩
  iapply (wp_done 𝒱₀ d0)
  unfold Fin7
  rw [eb, eb]
  iframe HI Hlev HO H1 H2 Hca Hps Hpr Hv Hr Hca' Hps' Hpr' Hv' Hr' Hb He Hl
  iexact H6

end Bodies

end Cert.MoeProof
-- ==== Proof.First.lean ====
/-
  The kernel body at the first step: the barrier, the start of the exchange with the other ring, the copies of the
  device's own block, the first transfers.
-/
module

public import proofs.«01_k».proof.Proof.Bodies
public import Idealize.ShloMosaic.Lib.Ring

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Zero
variable (w : Bool → Dev nD → S8x256x1024.Idx → Elt F .bf16) (𝒱₀ : Variants) (K : GSem nD τ sig → ℕ)
variable (i : grid0.Coords) (a1 : Memref sig .tc .vmem S2048x512 .bf16) (h1 : a1.IsWhole) (a2 : Memref sig .tc .vmem S1x2048x16 .f32) (h2 : a2.IsWhole)
variable (a3 : Memref sig .tc .vmem S2048x8 .f32) (h3 : a3.IsWhole) (a6 : Memref sig .tc .vmem S2048x1024 .f32) (h6 : a6.IsWhole)

/-- What a device holds of direction `d` at the start for the barrier and the exchange. -/
def zstart (d : Bool) (c : Dev nD) : sProp 𝕄 :=
  iprop(hasW c d fullShare (w d c) ∗ anyV c (zM d)
    ∗ cred (tallyAt (cell (.zr d) c) 0 N) ∗ atPos ER (cell (.zs d) c) 0 ∅ 0 ∗ atPos ER (cell (.zr d) c) 0 ∅ 0
    ∗ dutyTok ER (cell (.zs d) c) 0 0 ∗ dutyTok ER (cell (.zr d) (zp c)) 0 0 ∗ reached ER (cell (.zs d) c) 0 ∗ reached ER (cell (.zr d) c) 0)
/-- What a device holds of direction `d` at the start for the ring. -/
def rstart (d : Bool) (c : Dev nD) : sProp 𝕄 :=
  iprop(atPos ER (cell (.cr d) c) 0 ∅ 0 ∗ reached ER (cell (.cr d) c) 0 ∗ posS d c 0 ∗ posR d c 0 ∗ reached ER (cell (.rcv d 1) c) 0)
/-- What a device holds at the start for the barrier and the copies. -/
def bstart (c : Dev nD) : sProp 𝕄 :=
  iprop((atPos ER (cell .bar c) 0 ∅ 0 ∗ cred (tallyAt (cell .bar c) 0 3) ∗ reached ER (cell .ex c) 0)
    ∗ (dutyTok ER (cell .bar (nb false c)) 0 0 ∗ reached ER (cell .bar (nb false c)) 0)
    ∗ (dutyTok ER (cell .bar (nb true c)) 0 1 ∗ reached ER (cell .bar (nb true c)) 0)
    ∗ (dutyTok ER (cell .bar (zp c)) 0 2 ∗ reached ER (cell .bar (zp c)) 0)
    ∗ (atPos ER (cell .ld c) 0 ∅ 0 ∗ reached ER (cell .ld c) 0 ∗ dutyTok ER (cell .ld c) 0 0 ∗ dutyTok ER (cell .ld c) 1 0))
/-- What a device holds before the first step. -/
def Start (c : Dev nD) : sProp 𝕄 :=
  iprop(Inv w K ∗ levAts L lv ∗ bstart c ∗ atPos ER (cell .ex c) 0 ∅ 0
    ∗ (zstart w true c ∗ rstart true c ∗ anyV c (slot true 0) ∗ anyV c (slot true 1)) ∗ (zstart w false c ∗ rstart false c ∗ anyV c (slot false 0) ∗ anyV c (slot false 1)) ∗ todo c 0)

/-- The exchange's transfer of one direction. -/
theorem z_send (d : Bool) (c : Dev nD) (O : CellTallies nD τ sig ℕ)
    {src : Memref sig .tc .hbm S8x256x1024 .bf16} {dst : Memref sig .tc .vmem S8x256x1024 .bf16} {n : Dev nD}
    {sS sem : SemLoc sig} {hsc : dst.view.ref.isScScratch = false} {hsrc : src.view.WordExact} {hdst : dst.view.WordExact}
    {hsem : DmaTarget.Typed .hbm sem (.remote (Dev.tc n) dst sS hsc)}
    (es : src = wM d) (ed : dst = zM d) (en : n = zp c) (e₁ : sS = semOf (.zs d)) (e₂ : sem = semOf (.zr d))
    {α : Type} {kt : PUnit → Prog (TpuEff nD τ sig (Elt F) Λ₀ .tc) α} {Q : α → sProp 𝕄} :
    iprop(Inv w K ∗ hasW c d fullShare (w d c) ∗ anyV (zp c) (zM d) ∗ ow c (O + tallyAt (cell (.zr d) (zp c)) 0 N)
        ∗ dutyTok ER (cell (.zs d) c) 0 0 ∗ reached ER (cell (.zs d) c) 0 ∗ dutyTok ER (cell (.zr d) (zp c)) 0 0 ∗ reached ER (cell (.zr d) (zp c)) 0)
      ⊢ iprop(((cred (tallyAt (cell (.zs d) c) 0 N) ∗ ow c O ∗ hasW c d fullShare.right (w d c)) -∗ WP 𝒱₀ c (kt ⟨⟩) Q)
          -∗ WP 𝒱₀ c (.op (.enqueueDma src (.remote (Dev.tc n) dst sS hsc) sem hsrc hdst hsem) kt) Q) := by
  have hN : dst.view.amount sem = N := by subst e₂; subst ed; exact zM_credit d
  have key := send_rule (F := F) w 𝒱₀ K c (zp c) (wM d) (zM d) (.zs d) (.zr d) 0 0 0 0 O fullShare.left
    (w d c) iprop(emp) es ed en e₁ e₂ hN (hsc := hsc) (hsrc := hsrc) (hdst := hdst) (hsem := hsem)
    (Finset.mem_singleton_self _) (Finset.mem_singleton_self _) rfl rfl (Entails.of_eq rfl)
    (by
      have e : pay w (zp c) (.zr d) 0 0 = hasV (zp c) (zM d) fullShare (w d c) := by
        show hasV (zp c) (zM d) fullShare (w d (zp (zp c))) = _
        rw [zp_zp]
      rw [e]
      iintro ⟨H, -⟩
      iexact H) (kt := kt) (Q := Q)
  iintro ⟨#HI, Hs, Hd, HO, Ht₁, #Hr₁, Ht₂, #Hr₂⟩ Hk
  ihave Hs := (owns_split c (wM d) (w d c)) $$ Hs
  icases Hs with ⟨Hl, Hr⟩
  iapply key $$ [Hl Hd HO Ht₁ Ht₂]
  · iframe HI Hl Hd HO Ht₁ Hr₁ Ht₂ Hr₂
  iintro ⟨Hc, HO⟩
  iapply Hk
  iframe Hc HO Hr

/-- The copy of the device's own block into its first slot. -/
theorem ld_copy (d : Bool) (r : ℕ) (hr : r = if d then 0 else 1) (c : Dev nD)
    {src : Memref sig .tc .hbm S8x256x1024 .bf16} {dst : Memref sig .tc .vmem S8x256x1024 .bf16}
    {sem : SemLoc sig} {hsrc : src.view.WordExact} {hdst : dst.view.WordExact} {hsem : DmaTarget.Typed .hbm sem (DmaTarget.here dst : DmaTarget nD τ sig .tc .vmem S8x256x1024 .bf16)}
    {sem' : DmaSem sig} {src' : Memref sig .tc .hbm S8x256x1024 .bf16} {dst' : Memref sig .tc .vmem S8x256x1024 .bf16} {hsrc' : src'.view.WordExact} {hdst' : dst'.view.WordExact}
    (es : src = wM d) (ed : dst = slot d 0) (e₂ : sem = semOf .ld) (ed' : dst' = slot d 0) (e₂' : SemLoc.dma sem' = semOf .ld)
    (O : CellTallies nD τ sig ℕ) (hO : Above 0 O)
    {α : Type} {kt : PUnit → Prog (TpuEff nD τ sig (Elt F) Λ₀ .tc) α} {Q : α → sProp 𝕄} :
    iprop(Inv w K ∗ levAts L lv ∗ ow c O ∗ hasW c d fullShare.right (w d c) ∗ anyV c (slot d 0) ∗ atPos ER (cell .ld c) r ∅ 0 ∗ dutyTok ER (cell .ld c) r 0 ∗ reached ER (cell .ld c) r)
      ⊢ iprop(((ow c O ∗ hasW c d fullShare.right (w d c) ∗ hasV c (slot d 0) fullShare (w d c) ∗ atPos ER (cell .ld c) (r + 1) ∅ 0 ∗ reached ER (cell .ld c) (r + 1)) -∗ WP 𝒱₀ c (kt ⟨⟩) Q)
          -∗ WP 𝒱₀ c (.op (.enqueueDma src (.here dst) sem hsrc hdst hsem) fun _ => .op (.waitDma2 sem' src' dst' hsrc' hdst') kt) Q) := by
  have hN : dst.view.amount sem = N := by subst e₂; subst ed; exact slot_credit d _
  have hN' : dst'.view.dmaCredit = N := by subst ed'; exact slot_credit d _
  have hp : pay w c .ld r 0 = iprop(hasV c (slot d 0) fullShare (w d c) ∗ hasW c d fullShare.right (w d c)) := by
    subst hr; cases d <;> rfl
  have hd : dut .ld r = {0} := by subst hr; cases d <;> rfl
  have h := waitD (F := F) w 𝒱₀ K c .ld r 0 (by decide) O hO (src := src') (dst := dst') (hsrc := hsrc') (hdst := hdst') e₂' hN' hd rfl (kt := kt) (Q := Q)
  rw [hp] at h
  iintro ⟨#HI, #Hlev, HO, Hw, Hs, Ha, Ht, #Hr⟩ Hk
  iapply (copy_rule (F := F) w 𝒱₀ K c (wM d) (slot d 0) .ld r 0 fullShare.right (w d c) es ed e₂ hN (by rw [hd]; exact Finset.mem_singleton_self _) rfl (Entails.of_eq hp.symm)) $$ [Hw Hs Ht]
  · iframe HI Hw Hs Ht Hr
  iintro Hc
  iapply h $$ [HO Ha Hc]
  · iframe HI Hlev HO Ha Hc
  iintro ⟨HO, Ha, #Hra, Hs, Hw⟩
  iapply Hk
  iframe HO Hw Hs Ha Hra

theorem off0_bit : (![0, 0, 0, 0] : Fin 4 → ℕ) = ![(0 : Fin 2).val, 0, 0, 0] := rfl

/-- The first part's beginning at the first step. -/
theorem part1_spec (c : Dev nD) (v7 v10 v12 : BitVec 32) (hc : k0_cond1 i = 1#1) :
    iprop(Inv w K ∗ levAts L lv ∗ ow c (due0 c) ∗ bstart c ∗ zstart w true c ∗ zstart w false c
        ∗ (anyV c (slot true 0) ∗ anyV c (slot true 1) ∗ reached ER (cell (.rcv true 1) c) 0) ∗ (anyV c (slot false 1) ∗ reached ER (cell (.rcv false 1) c) 0))
      ⊢ WP 𝒱₀ c (k0_part1 i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0 c v7 v10 v12 hc)
        (fun _ => iprop(ow c (dueX c) ∗ near c ∗ zw w true c ∗ zw w false c ∗ free true c 0 ∗ free false c 0 ∗ hasV c (slot true 0) fullShare (w true c)
          ∗ atPos ER (cell .bar c) 1 ∅ 0 ∗ atPos ER (cell .ld c) 1 ∅ 0 ∗ reached ER (cell .ld c) 1 ∗ dutyTok ER (cell .ld c) 1 0)) := by
  have pb (d : Bool) : pay w (nb (!d) c) .bar 0 (dIx d) = iprop(anyV c (slot d 1) ∗ reached ER (cell (.rcv d 1) c) 0 ∗ reached ER (cell .ex c) 0) := by
    have e : pay w (nb (!d) c) .bar 0 (dIx d) = barPay d (nb (!d) c) := by cases d <;> rfl
    rw [e]; unfold barPay; rw [nb_nb_not]
  have pz : pay w (zp c) .bar 0 2 = iprop(anyV c (zM true) ∗ anyV c (zM false) ∗ reached ER (cell (.zr true) c) 0 ∗ reached ER (cell (.zr false) c) 0 ∗ reached ER (cell .ex c) 0) := by
    show zbarPay (zp c) = _
    unfold zbarPay; rw [zp_zp]
  have hw3 : bigSep (dut .bar 0) (fun u => pay w c .bar 0 u) = iprop(barPay true c ∗ barPay false c ∗ zbarPay c) := by
    show bigSep Finset.univ (fun u : Fin 3 => pay w c .bar 0 u) = _
    rw [Ring.bigSep_fin3]; rfl
  have hwait := fun (α : Type) (kt : PUnit → Prog (TpuEff nD τ sig (Elt F) Λ₀ .tc) α) (Q : α → sProp 𝕄) =>
    waitR (F := F) w 𝒱₀ K c .bar 0 0 (by decide) (dueB c) (above_dueB c) (z := (3#32 : BitVec 32).toInt) 3 (by decide) bar_of (by decide) (kt := kt) (Q := Q)
  rw [hw3] at hwait
  unfold bstart zstart
  iintro ⟨#HI, #Hlev, HO, ⟨⟨Hb, Hc, #Hex⟩, ⟨Ht1, #Hr1⟩, ⟨Ht2, #Hr2⟩, ⟨Ht3, #Hr3⟩, ⟨Hl, #Hrl, Htl, Htl'⟩⟩,
    ⟨Hw, Hz, Hzc, Hzs, Hzr, Hzt, Hzt', #Hzre, #Hzre'⟩, ⟨Xw, Xz, Xzc, Xzs, Xzr, Xzt, Xzt', #Xzre, #Xzre'⟩, ⟨Hs0, Hs1, #Hq⟩, ⟨Hs1', #Hq'⟩⟩
  simp only [k0_part1_eq_skeleton]
  unfold k0_part1_skel
  simp only [semSignalWord, semWaitWord, Prog.lift, Prog.bind_op, Prog.bind_ret, Prog.pure_eq_ret, Prog.bind_assoc]
  have ed : due0 c = ((dueB c + tallyAt (cell .bar (zp c)) 0 1) + tallyAt (cell .bar (nb true c)) 0 1) + tallyAt (cell .bar (nb false c)) 0 1 := rfl
  rw [ed]
  iapply (signal_rule (F := F) w 𝒱₀ K c (nb false c) .bar 0 0 0 ((dueB c + tallyAt (cell .bar (zp c)) 0 1) + tallyAt (cell .bar (nb true c)) 0 1) (dev1_eq c _) bar_of (by decide) (Finset.mem_univ _) rfl) $$ [HO Ht1 Hs1]
  · iframe HI HO Ht1
    isplitl [Hs1]
    · iapply (Entails.of_eq (pb true).symm)
      iframe Hs1 Hq Hex
    iexact Hr1
  iintro HO
  iapply (signal_rule (F := F) w 𝒱₀ K c (nb true c) .bar 0 0 1 (dueB c + tallyAt (cell .bar (zp c)) 0 1) (dev2_eq c _) bar_of (by decide) (Finset.mem_univ _) rfl) $$ [HO Ht2 Hs1']
  · iframe HI HO Ht2
    isplitl [Hs1']
    · iapply (Entails.of_eq (pb false).symm)
      iframe Hs1' Hq' Hex
    iexact Hr2
  iintro HO
  iapply (signal_rule (F := F) w 𝒱₀ K c (zp c) .bar 0 0 2 (dueB c) (dev3_eq c _) bar_of (by decide) (Finset.mem_univ _) rfl) $$ [HO Ht3 Hz Xz]
  · iframe HI HO Ht3
    isplitl [Hz Xz]
    · iapply (Entails.of_eq pz.symm)
      iframe Hz Xz Hzre' Xzre' Hex
    iexact Hr3
  iintro HO
  iapply (hwait _ _ _) $$ [HO Hb Hc]
  · iframe HI Hlev HO Hb Hc
  unfold barPay zbarPay
  iintro ⟨HO, Hb, -, ⟨Hf, #Hfr, #Hn1⟩, ⟨Hf', #Hfr', #Hn2⟩, ⟨Hz, Xz, #Hzr1, #Hzr2, #Hn3⟩⟩
  have eB : dueB c = (dueX c + tallyAt (cell (.zr false) (zp c)) 0 N) + tallyAt (cell (.zr true) (zp c)) 0 N := rfl
  rw [eB]
  iapply (z_send (F := F) w 𝒱₀ K true c (dueX c + tallyAt (cell (.zr false) (zp c)) 0 N) rfl rfl (dev4_eq c _) (zsT_of _) (zrT_of _)) $$ [HO Hw Hz Hzt Hzt']
  · iframe HI HO Hw Hz Hzt Hzt' Hzre Hzr1
  iintro ⟨Hzsc, HO, Hw⟩
  iapply (z_send (F := F) w 𝒱₀ K false c (dueX c) rfl rfl (dev5_eq c _) (zsF_of _) (zrF_of _)) $$ [HO Xw Xz Xzt Xzt']
  · iframe HI HO Xw Xz Xzt Xzt' Xzre Hzr2
  iintro ⟨Xzsc, HO, Xw⟩
  iapply (ld_copy (F := F) w 𝒱₀ K true 0 rfl c rfl (slotT_of 0 _ off0_bit _) ld_of (slotT_of 0 _ off0_bit _) ld_of (dueX c) ((above_dueX c).mono (by decide))) $$ [HO Hw Hs0 Hl Htl]
  · iframe HI Hlev HO Hw Hs0 Hl Htl Hrl
  iintro ⟨HO, Hw, Hs0, Hl, #Hrl'⟩
  iapply (wp_done 𝒱₀ c)
  unfold zw near free
  iframe HO Hn1 Hn2 Hn3 Hb Hl Htl' Hs0 Hzsc Hzc Hzs Hzr Hw Xzsc Xzc Xzs Xzr Xw Hrl'
  isplitl [Hf]
  · isplitl [Hf]; · iexact Hf
    iexact Hfr
  · isplitl [Hf']; · iexact Hf'
    iexact Hfr'

/-- What the first part of the first step leaves aside of the rings. -/
def aside (c : Dev nD) : sProp 𝕄 :=
  iprop(near c ∗ zw w true c ∗ zw w false c ∗ atPos ER (cell .bar c) 1 ∅ 0 ∗ atPos ER (cell .ld c) 2 ∅ 0)

/-- The rights of the first transfer in direction `d`. -/
def pre0 (d : Bool) (c : Dev nD) : sProp 𝕄 :=
  iprop(reached ER (cell (.cr d) c) 0 ∗ dutyTok ER (cell (.snd d (bit 0)) c) (0 / 2) 0 ∗ reached ER (cell (.snd d (bit 0)) c) (0 / 2)
    ∗ dutyTok ER (cell (.rcv d (bit (0 + 1))) (nb d c)) (0 / 2) 0)

/-- The first part of the first step. -/
theorem part4_zero (c : Dev nD) (hs : (i 0).val = 0) (X1 : S2048x512.Idx → Elt F .bf16) (X6 : S2048x1024.Idx → Elt F .f32) :
    iprop((Inv w K ∗ levAts L lv ∗ ow c (due0 c) ∗ bstart c ∗ zstart w true c ∗ zstart w false c
        ∗ (anyV c (slot true 0) ∗ anyV c (slot true 1) ∗ reached ER (cell (.rcv true 1) c) 0) ∗ (anyV c (slot false 1) ∗ reached ER (cell (.rcv false 1) c) 0))
        ∗ anyV c (slot false 0) ∗ pre0 true c ∗ pre0 false c
        ∗ owns (c : Thread nD τ) a1 fullShare X1 ∗ owns (c : Thread nD τ) a6 fullShare X6)
      ⊢ WP 𝒱₀ c (k0_part4 i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0)
        (fun r => iprop(⌜r.1 = BitVec.ofNat 32 (i 0).val ∧ r.2.1 = c ∧ r.2.2.2.2.2 = k0_pay5 (xL X1)⌝ ∗ owns (c : Thread nD τ) a1 fullShare X1
          ∗ owns (c : Thread nD τ) a6 fullShare (k0_pay4 (F := F)) ∗ ow c (dueM c 0) ∗ midD w true c 0 ∗ midD w false c 0 ∗ aside w c)) := by
  have c1 : k0_cond1 i = 1#1 := (cond1_iff i).mpr hs
  have cA : ¬ (Scalar.cmpi .ne (Scalar.extui (Scalar.cmpi .eq (BitVec.ofNat 32 (i 0).val) 3#32) : BitVec 32) 0#32 = 1#1) := fun h => by have := (condA_iff i).mp h; omega
  have c3 : k0_cond3 i = 1#1 := (cond3_iff i).mpr (by omega)
  have cB : ¬ (Scalar.cmpi .ne (Scalar.extui (Scalar.cmpi .sge (BitVec.ofNat 32 (i 0).val) 1#32) : BitVec 32) 0#32 = 1#1) := fun h => by have := (condB_iff i).mp h; omega
  have c5 : ¬ (k0_cond5 i = 1#1) := fun h => by have := (cond5_iff i).mp h; omega
  have c6 : k0_cond6 i = 1#1 := (cond6_iff i).mpr (by omega)
  have e4 : k0_off4 i = ![(bit 0).val] := by rw [k0_off4_eq, hs]; rfl
  have e5 : k0_off5 i = ![(bit (0 + 1)).val] := by rw [k0_off5_eq, hs]; rfl
  have e6 : k0_off6 i = ![(bit (0 + 1)).val, 0, 0, 0] := by rw [k0_off6_eq, hs]; rfl
  have e7 : k0_off7 i = ![(bit 0).val, 0, 0, 0] := by rw [k0_off7_eq, hs]; rfl
  iintro ⟨H, Hs0', Hpre, Hpre', H1, H6⟩
  ihave #HI : Inv w K $$ [H]
  · icases H with ⟨#HI, -⟩
    iexact HI
  ihave #Hlev : levAts L lv $$ [H]
  · icases H with ⟨-, #HI, -⟩
    iexact HI
  simp only [k0_part4_eq_skeleton]
  unfold k0_part4_skel
  simp only [semSignalWord, semWaitWord, Prog.lift, Prog.bind_op, Prog.bind_ret, Prog.pure_eq_ret, Prog.bind_assoc, wp_deviceId,
    dif_pos c1, dif_neg cA, dif_pos c3, dif_neg cB, dif_neg c5, dif_pos c6]
  iapply (wp_seq 𝒱₀ c (part1_spec (F := F) w 𝒱₀ K i a1 h1 a2 h2 a3 h3 a6 h6 c _ _ _ c1)) $$ H
  iintro %r ⟨HO, Hnear, Hz, Hz', Hf, Hf', Hs0, Hb, Hl, #Hrl, Htl⟩
  unfold zw
  icases Hz' with ⟨Z1, Z2, Z3, Z4, Hw'⟩
  iapply (ld_copy (F := F) w 𝒱₀ K false 1 rfl c rfl (slotF_of 0 _ off0_bit _) ld_of (slotF_of 0 _ off0_bit _) ld_of (dueX c) ((above_dueX c).mono (by decide))) $$ [HO Hw' Hs0' Hl Htl]
  · iframe HI Hlev HO Hw' Hs0' Hl Htl Hrl
  iintro ⟨HO, Hw', Hs0', Hl, -⟩
  iapply (load_full 𝒱₀ c z2 a6 rfl) $$ H6
  iintro H6
  iapply (store_full 𝒱₀ c z2) $$ H6
  iintro H6
  unfold pre0
  icases Hpre with ⟨#Hcr, Ht₁, #Hr, Ht₂⟩
  icases Hpre' with ⟨#Hcr', Ht₁', #Hr', Ht₂'⟩
  rw [dueX_eq c]
  iapply (send_step (F := F) w 𝒱₀ K true c 0 (by decide) (dueM c 0 + sendDue false c 0)
    (slotT_of (bit 0) _ e7 _) (slotT_of (bit (0 + 1)) _ e6 _) (dev8_eq c _) (sndT_of (bit 0) _ e4 _) (rcvT_of (bit (0 + 1)) _ e5 _))
    $$ [Hs0 Hf HO Ht₁ Ht₂]
  · iframe HI Hcr Hr Hf HO Ht₁ Ht₂
    iexact Hs0
  iintro ⟨Hc, HO, Hs⟩
  iapply (send_step (F := F) w 𝒱₀ K false c 0 (by decide) (dueM c 0)
    (slotF_of (bit 0) _ e7 _) (slotF_of (bit (0 + 1)) _ e6 _) (dev9_eq c _) (sndF_of (bit 0) _ e4 _) (rcvF_of (bit (0 + 1)) _ e5 _))
    $$ [Hs0' Hf' HO Ht₁' Ht₂']
  · iframe HI Hcr' Hr' Hf' HO Ht₁' Ht₂'
    iexact Hs0'
  iintro ⟨Hc', HO, Hs'⟩
  iapply (load_rule 𝒱₀ c a1 rfl) $$ H1
  iintro H1
  iapply (wp_done 𝒱₀ c)
  isplitr; · ipureintro; exact ⟨rfl, rfl, rfl⟩
  unfold aside midD zw
  iframe H1 H6 HO Hc Hs Hc' Hs' Hnear Hz Z1 Z2 Z3 Z4 Hw' Hb Hl

/-- The first step. -/
theorem body_zero (c : Dev nD) (hs : (i 0).val = 0) (X1 : S2048x512.Idx → Elt F .bf16) (X2 : S1x2048x16.Idx → Elt F .f32)
    (X6 : S2048x1024.Idx → Elt F .f32) :
    iprop(Start w K c ∗ ow c (due c 0) ∗ owns (c : Thread nD τ) a1 fullShare X1 ∗ owns (c : Thread nD τ) a2 fullShare X2 ∗ owns (c : Thread nD τ) a6 fullShare X6)
      ⊢ WP 𝒱₀ c (cc0_body i a1 h1 a2 h2 a3 h3 (Memref.whole main_v86) (Memref.isWhole_whole _) (Memref.whole main_v87) (Memref.isWhole_whole _) a6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scoped0)
        (fun _ => iprop(Mid w K c 1 ∗ ow c (due c 1) ∗ owns (c : Thread nD τ) a1 fullShare X1 ∗ owns (c : Thread nD τ) a2 fullShare X2
          ∗ owns (c : Thread nD τ) a6 fullShare (accB X1 X2 (blk w true 0 c) (blk w false 0 c) (k0_pay4 (F := F))))) := by
  have key := body_after (F := F) w 𝒱₀ K i a1 h1 a2 h2 a3 h3 a6 h6 c 0 hs (by decide) (by decide) _ _ X1 X2 _ (part4_zero (F := F) w 𝒱₀ K i a1 h1 a2 h2 a3 h3 a6 h6 c hs X1 X6)
  have sc (d : Bool) : iprop(atPos ER (cell (.cr d) c) 0 ∅ 0 ∗ doneD w d c 0 ∗ zst w d c (0 + 1) ∗ cred (tallyAt (cell (.cr d) c) 0 1)) ⊢ side w d c (0 + 1) :=
    side_close (F := F) w d c 0 (by decide)
  have eg (d : Bool) : (giveD (F := F) d c 0 : sProp 𝕄) = dutyTok ER (cell (.cr d) (nb (!d) c)) 0 0 := if_pos (by decide)
  have ezst (d : Bool) : zst w d c (0 + 1) = zw w d c := if_pos (by decide)
  unfold Start Mid
  rw [todo_succ c 0 (by decide), tok_cr (F := F) true c 0 (by decide), tok_cr (F := F) false c 0 (by decide)]
  unfold rstart posS
  iintro ⟨⟨#HI, #Hlev, Hb, He, ⟨Hz, ⟨Ha, #Hra, ⟨S1, #S2, S3, S4⟩, HR, #Hq⟩, Hs0, Hs1⟩, ⟨Hz', ⟨Ha', #Hra', ⟨S1', #S2', S3', S4'⟩, HR', #Hq'⟩, Hs0', Hs1'⟩,
    ⟨⟨T1, T2, T3, T4, T5⟩, ⟨T1', T2', T3', T4', T5'⟩, Htodo⟩⟩, HO, H1, H2, H6⟩
  iapply (wp_wand_r frame (wpE (defs₀ (F := F)) 𝒱₀ (c : Thread nD τ) none) Set.univ)
  isplitl [HO H1 H2 H6 Hb Hz Hz' Hs0 Hs1 Hs0' Hs1' S1 S3 S4 HR T1 T2 T3 T4 S1' S3' S4' HR' T1' T2' T3' T4']
  · iapply key
    rw [eg true, eg false]
    unfold pre0 restD posS
    iframe HI Hlev HO H1 H2 H6 Hb Hz Hz' Hs0 Hs1 Hs0' Hs1' S1 S2 S3 S4 HR T1 T2 T3 T4 S1' S2' S3' S4' HR' T1' T2' T3' T4' Hq Hq' Hra Hra'
  unfold aside
  iintro %r ⟨H1, H2, H6, HO, HD, HD', ⟨Hnear, Hz, Hz', Hb, Hl⟩⟩
  iframe HI Hlev Hnear HO H1 H2 H6 Hb He Hl Htodo
  isplitl [Ha HD Hz T5]
  · iapply (sc true)
    rw [ezst]
    iframe Ha HD Hz T5
  · iapply (sc false)
    rw [ezst]
    iframe Ha' HD' Hz' T5'

end Zero

end Cert.MoeProof
-- ==== Proof.Ends.lean ====
/-
  The two ends of the run on one device: its semaphores opened, the scoped buffers cut into slots, and, at the end,
  the semaphores closed at zero and the buffers whole again.
-/
module

public import proofs.«01_k».proof.Proof.First

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The scoped buffers -/

/-- The buffer of direction `d` that holds its two slots. -/
def scr (d : Bool) : Ref sig .tc := match d with | true => cc0_scratch0 | false => cc0_scratch1
/-- The buffer that receives the other ring's block. -/
def zscr (d : Bool) : Ref sig .tc := match d with | true => cc0_scratch2 | false => cc0_scratch3

/-- The scoped buffers of direction `d`, in parts. -/
def sb (d : Bool) (c : Dev nD) : sProp 𝕄 := iprop(anyV c (slot d 0) ∗ anyV c (slot d 1) ∗ anyV c (zM d))

/-- The elements of slot `b`. -/
def rowsOf (b : Fin 2) : Finset S2x8x256x1024.Idx := (Rect.unit (s := S2x8x256x1024) ![b.val, 0, 0, 0] S1x8x256x1024.size (slot_inb b)).set
theorem slot_rows (b : Fin 2) (i : S2x8x256x1024.Idx) :
    i ∈ rowsOf b ↔ (i 0).val = b.val := by
  unfold rowsOf
  rw [Rect.mem_set_unit]
  constructor
  · intro h
    have h0 := h 0
    have e1 : (![b.val, 0, 0, 0] : Fin 4 → ℕ) 0 = b.val := rfl
    have e2 : S1x8x256x1024.size 0 = 1 := rfl
    have h0' : b.val ≤ (i 0).val ∧ (i 0).val < b.val + 1 := h0
    omega
  · intro h a
    match a with
    | 0 =>
      show b.val ≤ (i 0).val ∧ (i 0).val < b.val + 1
      omega
    | 1 => exact ⟨Nat.zero_le _, (Nat.zero_add 8).symm ▸ (i 1).isLt⟩
    | 2 => exact ⟨Nat.zero_le _, (Nat.zero_add 256).symm ▸ (i 2).isLt⟩
    | 3 => exact ⟨Nat.zero_le _, (Nat.zero_add 1024).symm ▸ (i 3).isLt⟩

theorem rows_disj : Disjoint (rowsOf 0) (rowsOf 1) := by
  rw [Finset.disjoint_left]
  intro i h0 h1
  have h0' := (slot_rows 0 i).mp h0
  have h1' := (slot_rows 1 i).mp h1
  rw [h0'] at h1'; exact absurd h1' (by decide)
theorem rows_cover : rowsOf 0 ∪ rowsOf 1 = Finset.univ := by
  refine Finset.eq_univ_of_forall fun i => ?_
  rw [Finset.mem_union, slot_rows, slot_rows]
  have h : (i 0).val < 2 := (i 0).isLt
  show (i 0).val = 0 ∨ (i 0).val = 1
  omega

/-- The elements of a slot of the buffer. -/
theorem slot_setT (b : Fin 2) : (slot true b).view.set = rowsOf b := by
  have h : (slot true b).view.set = (((View.whole cc0_scratch0).slice (Rect.unit (s := S2x8x256x1024) ![b.val, 0, 0, 0] S1x8x256x1024.size (slot_inb b)))).set :=
    View.set_reshape _ _
  rw [h]; exact View.set_slice_whole cc0_scratch0 _
theorem slot_disjT : Disjoint (slot true 0).view.set (slot true 1).view.set := by
  rw [slot_setT, slot_setT]
  exact rows_disj
theorem slot_coverT : (slot true 0).view.set ∪ (slot true 1).view.set = Finset.univ := by
  rw [slot_setT, slot_setT]
  exact rows_cover
theorem cutT (c : Dev nD) : iprop(∃ f : Buf (Elt F) ((c : Thread nD τ).loc cc0_scratch0), ((c : Thread nD τ).loc cc0_scratch0) ↦{fullShare} f)
    ⊢ (iprop(anyV c (slot true 0) ∗ anyV c (slot true 1)) : sProp 𝕄) := by
  iintro ⟨%f, H⟩
  ihave H := (show (((c : Thread nD τ).loc cc0_scratch0) ↦{fullShare} f : sProp 𝕄)
      ⊢ iprop((((c : Thread nD τ).loc cc0_scratch0) ↦[(slot true 0).view.set]{fullShare} f) ∗ ((c : Thread nD τ).loc cc0_scratch0) ↦[(slot true 1).view.set]{fullShare} f) from by
    have h := (pointsTo_union (Ix := ℕ) (Name := ℕ) (U := UU) (Lvl := ℕ) (ℓ := (c : Thread nD τ).loc cc0_scratch0) (q := fullShare) (f := f) slot_disjT).1
    exact (Entails.of_eq (congrArg (fun S => (((c : Thread nD τ).loc cc0_scratch0) ↦[S]{fullShare} f : sProp 𝕄)) slot_coverT.symm)).trans h) $$ H
  icases H with ⟨H0, H1⟩
  isplitl [H0]
  · iexists (slot true 0).view.read (Elt F) f
    iapply (owns_intro (c : Thread nD τ) (slot true 0) fullShare f)
    iexact H0
  · iexists (slot true 1).view.read (Elt F) f
    iapply (owns_intro (c : Thread nD τ) (slot true 1) fullShare f)
    iexact H1
theorem glueT (c : Dev nD) : (iprop(anyV c (slot true 0) ∗ anyV c (slot true 1)) : sProp 𝕄)
    ⊢ iprop(∃ f : Buf (Elt F) ((c : Thread nD τ).loc cc0_scratch0), ((c : Thread nD τ).loc cc0_scratch0) ↦{fullShare} f) := by
  unfold anyV hasV owns
  iintro ⟨⟨%X, %f, -, H0⟩, ⟨%Y, %g, -, H1⟩⟩
  iexists (slot true 1).view.set.piecewise g f
  have h := pointsTo_join (Ix := ℕ) (Name := ℕ) (U := UU) (Lvl := ℕ) (Val := Elt F) (ℓ := (c : Thread nD τ).loc cc0_scratch0) (q := fullShare) (f := f) (g := g) slot_disjT
  iapply (h.trans (Entails.of_eq (congrArg (fun S => (((c : Thread nD τ).loc cc0_scratch0) ↦[S]{fullShare} ((slot true 1).view.set.piecewise g f) : sProp 𝕄)) slot_coverT)))
  isplitl [H0]
  · iexact H0
  · iexact H1
theorem zcutT (c : Dev nD) : iprop(∃ f : Buf (Elt F) ((c : Thread nD τ).loc cc0_scratch2), ((c : Thread nD τ).loc cc0_scratch2) ↦{fullShare} f)
    ⊢ (anyV c (zM true) : sProp 𝕄) := by
  iintro ⟨%f, H⟩
  iexists f
  iapply (Entails.of_eq (owns_whole (c : Thread nD τ) cc0_scratch2 fullShare f).symm)
  iexact H
theorem zglueT (c : Dev nD) : (anyV c (zM true) : sProp 𝕄)
    ⊢ iprop(∃ f : Buf (Elt F) ((c : Thread nD τ).loc cc0_scratch2), ((c : Thread nD τ).loc cc0_scratch2) ↦{fullShare} f) := by
  iintro ⟨%f, H⟩
  iexists f
  iapply (Entails.of_eq (owns_whole (c : Thread nD τ) cc0_scratch2 fullShare f))
  iexact H

/-- The elements of a slot of the buffer. -/
theorem slot_setF (b : Fin 2) : (slot false b).view.set = rowsOf b := by
  have h : (slot false b).view.set = (((View.whole cc0_scratch1).slice (Rect.unit (s := S2x8x256x1024) ![b.val, 0, 0, 0] S1x8x256x1024.size (slot_inb b)))).set :=
    View.set_reshape _ _
  rw [h]; exact View.set_slice_whole cc0_scratch1 _
theorem slot_disjF : Disjoint (slot false 0).view.set (slot false 1).view.set := by
  rw [slot_setF, slot_setF]
  exact rows_disj
theorem slot_coverF : (slot false 0).view.set ∪ (slot false 1).view.set = Finset.univ := by
  rw [slot_setF, slot_setF]
  exact rows_cover
theorem cutF (c : Dev nD) : iprop(∃ f : Buf (Elt F) ((c : Thread nD τ).loc cc0_scratch1), ((c : Thread nD τ).loc cc0_scratch1) ↦{fullShare} f)
    ⊢ (iprop(anyV c (slot false 0) ∗ anyV c (slot false 1)) : sProp 𝕄) := by
  iintro ⟨%f, H⟩
  ihave H := (show (((c : Thread nD τ).loc cc0_scratch1) ↦{fullShare} f : sProp 𝕄)
      ⊢ iprop((((c : Thread nD τ).loc cc0_scratch1) ↦[(slot false 0).view.set]{fullShare} f) ∗ ((c : Thread nD τ).loc cc0_scratch1) ↦[(slot false 1).view.set]{fullShare} f) from by
    have h := (pointsTo_union (Ix := ℕ) (Name := ℕ) (U := UU) (Lvl := ℕ) (ℓ := (c : Thread nD τ).loc cc0_scratch1) (q := fullShare) (f := f) slot_disjF).1
    exact (Entails.of_eq (congrArg (fun S => (((c : Thread nD τ).loc cc0_scratch1) ↦[S]{fullShare} f : sProp 𝕄)) slot_coverF.symm)).trans h) $$ H
  icases H with ⟨H0, H1⟩
  isplitl [H0]
  · iexists (slot false 0).view.read (Elt F) f
    iapply (owns_intro (c : Thread nD τ) (slot false 0) fullShare f)
    iexact H0
  · iexists (slot false 1).view.read (Elt F) f
    iapply (owns_intro (c : Thread nD τ) (slot false 1) fullShare f)
    iexact H1
theorem glueF (c : Dev nD) : (iprop(anyV c (slot false 0) ∗ anyV c (slot false 1)) : sProp 𝕄)
    ⊢ iprop(∃ f : Buf (Elt F) ((c : Thread nD τ).loc cc0_scratch1), ((c : Thread nD τ).loc cc0_scratch1) ↦{fullShare} f) := by
  unfold anyV hasV owns
  iintro ⟨⟨%X, %f, -, H0⟩, ⟨%Y, %g, -, H1⟩⟩
  iexists (slot false 1).view.set.piecewise g f
  have h := pointsTo_join (Ix := ℕ) (Name := ℕ) (U := UU) (Lvl := ℕ) (Val := Elt F) (ℓ := (c : Thread nD τ).loc cc0_scratch1) (q := fullShare) (f := f) (g := g) slot_disjF
  iapply (h.trans (Entails.of_eq (congrArg (fun S => (((c : Thread nD τ).loc cc0_scratch1) ↦[S]{fullShare} ((slot false 1).view.set.piecewise g f) : sProp 𝕄)) slot_coverF)))
  isplitl [H0]
  · iexact H0
  · iexact H1
theorem zcutF (c : Dev nD) : iprop(∃ f : Buf (Elt F) ((c : Thread nD τ).loc cc0_scratch3), ((c : Thread nD τ).loc cc0_scratch3) ↦{fullShare} f)
    ⊢ (anyV c (zM false) : sProp 𝕄) := by
  iintro ⟨%f, H⟩
  iexists f
  iapply (Entails.of_eq (owns_whole (c : Thread nD τ) cc0_scratch3 fullShare f).symm)
  iexact H
theorem zglueF (c : Dev nD) : (anyV c (zM false) : sProp 𝕄)
    ⊢ iprop(∃ f : Buf (Elt F) ((c : Thread nD τ).loc cc0_scratch3), ((c : Thread nD τ).loc cc0_scratch3) ↦{fullShare} f) := by
  iintro ⟨%f, H⟩
  iexists f
  iapply (Entails.of_eq (owns_whole (c : Thread nD τ) cc0_scratch3 fullShare f))
  iexact H

/-- The scoped buffers cut into the parts the plan hands around. -/
theorem scoped_cut (c : Dev nD) : (Pipeline.scopedRest spec0 c : sProp 𝕄) ⊢ iprop(sb true c ∗ sb false c) := by
  rw [scopedRest0_eq]
  unfold sb
  iintro ⟨H0, H1, H2, H3⟩
  ihave H0 := (cutT (F := F) c) $$ H0
  ihave H1 := (cutF (F := F) c) $$ H1
  ihave H2 := (zcutT (F := F) c) $$ H2
  ihave H3 := (zcutF (F := F) c) $$ H3
  icases H0 with ⟨H00, H01⟩
  icases H1 with ⟨H10, H11⟩
  iframe H00 H01 H2 H10 H11 H3
/-- And put together again. -/
theorem scoped_glue (c : Dev nD) : iprop(sb true c ∗ sb false c) ⊢ (Pipeline.scopedRest spec0 c : sProp 𝕄) := by
  rw [scopedRest0_eq]
  unfold sb
  iintro ⟨⟨H00, H01, H2⟩, ⟨H10, H11, H3⟩⟩
  isplitl [H00 H01]
  · iapply (glueT (F := F) c); iframe H00 H01
  isplitl [H10 H11]
  · iapply (glueF (F := F) c); iframe H10 H11
  isplitl [H2]
  · iapply (zglueT (F := F) c); iexact H2
  · iapply (zglueF (F := F) c); iexact H3

/-! ## The semaphores -/

/-- The plan's semaphores, one by one. -/
theorem univ_Kd (Φ : Kd → sProp 𝕄) : bigSep Finset.univ Φ = iprop(Φ Kd.bar ∗ Φ Kd.ex ∗ Φ (Kd.cr true) ∗ Φ (Kd.cr false) ∗ Φ (Kd.snd true 0) ∗ Φ (Kd.snd true 1) ∗ Φ (Kd.snd false 0) ∗ Φ (Kd.snd false 1) ∗ Φ (Kd.rcv true 0) ∗ Φ (Kd.rcv true 1) ∗ Φ (Kd.rcv false 0) ∗ Φ (Kd.rcv false 1) ∗ Φ (Kd.zs true) ∗ Φ (Kd.zs false) ∗ Φ (Kd.zr true) ∗ Φ (Kd.zr false) ∗ Φ Kd.ld) :=
  bigSep_univ_eq_bigSepL ([.bar, .ex, .cr true, .cr false, .snd true 0, .snd true 1, .snd false 0, .snd false 1, .rcv true 0, .rcv true 1, .rcv false 0, .rcv false 1, .zs true, .zs false, .zr true, .zr false, .ld] : List Kd) (by decide) (by decide) Φ

section
variable (w : Bool → Dev nD → S8x256x1024.Idx → Elt F .bf16) (K : GSem nD τ sig → ℕ)

/-- A semaphore with no duty left closes at zero. -/
theorem close_at (k : Kd) (c : Dev nD) : iprop(Inv w K ∗ atPos ER (cell k c) (last k) ∅ 0) ⊢ (|={Set.univ}=> semVal (cell k c) 0 : sProp 𝕄) := by
  refine BIBase.Entails.trans (sep_mono_left (Inv_at w K k c)) ?_
  exact Rounds.cell_close ER (Rd w) (Set.mem_univ _) id fun r hr => by rw [duties_cell]; exact dut_last k r hr
/-- A dormant semaphore at zero opens. -/
theorem open_at (k : Kd) (c : Dev nD) : iprop(Inv w K ∗ openTok ER (cell k c) ∗ semVal (cell k c) 0)
    ⊢ (|={Set.univ}=> iprop(atPos ER (cell k c) 0 ∅ 0 ∗ reached ER (cell k c) 0) : sProp 𝕄) := by
  refine BIBase.Entails.trans (sep_mono_left (Inv_at w K k c)) ?_
  exact Rounds.cell_open ER (Rd w) (g := cell k c) (Set.mem_univ (K (cell k c)))

theorem close_all (c : Dev nD) : iprop(Inv w K ∗ bigSep Finset.univ fun k : Kd => atPos ER (cell k c) (last k) ∅ 0)
    ⊢ (|={Set.univ}=> bigSep Finset.univ fun k : Kd => semVal (cell k c) 0 : sProp 𝕄) :=
  (bigSep_with_persistent (R := Inv w K) fun k _ => close_at w K k c).trans (bigSep_fupd _ _)
theorem open_all (s : Finset Kd) (c : Dev nD) : iprop(Inv w K ∗ bigSep s fun k : Kd => iprop(openTok ER (cell k c) ∗ semVal (cell k c) 0))
    ⊢ (|={Set.univ}=> bigSep s fun k : Kd => iprop(atPos ER (cell k c) 0 ∅ 0 ∗ reached ER (cell k c) 0) : sProp 𝕄) :=
  (bigSep_with_persistent (R := Inv w K) fun k _ => open_at w K k c).trans (bigSep_fupd _ _)

/-- What a device holds when the run is over. -/
def Closed (c : Dev nD) : sProp 𝕄 :=
  iprop((bigSep Finset.univ fun k : Kd => semVal (cell k c) 0) ∗ hasW c true fullShare (w true c) ∗ hasW c false fullShare (w false c) ∗ sb true c ∗ sb false c)

theorem fin_parts (c : Dev nD) : Fin7 w K c ⊢ iprop((Inv w K ∗ bigSep Finset.univ fun k : Kd => atPos ER (cell k c) (last k) ∅ 0)
    ∗ hasW c true fullShare (w true c) ∗ hasW c false fullShare (w false c) ∗ sb true c ∗ sb false c) := by
  have es (d : Bool) : side w d c 6 = iprop(atPos ER (cell (.cr d) c) 5 ∅ 0
      ∗ (atPos ER (cell (.snd d 0) c) 3 ∅ 0 ∗ reached ER (cell (.snd d 0) c) 3 ∗ atPos ER (cell (.snd d 1) c) 3 ∅ 0 ∗ reached ER (cell (.snd d 1) c) 3)
      ∗ (atPos ER (cell (.rcv d 0) c) 3 ∅ 0 ∗ reached ER (cell (.rcv d 0) c) 3 ∗ atPos ER (cell (.rcv d 1) c) 3 ∅ 0)
      ∗ hasV c (slot d 0) fullShare (blk w d 6 c) ∗ anyV c (slot d 1)
      ∗ (hasW c d fullShare (w d c) ∗ atPos ER (cell (.zs d) c) 1 ∅ 0 ∗ atPos ER (cell (.zr d) c) 1 ∅ 0) ∗ anyV c (zM d)) := rfl
  unfold Fin7
  rw [es, es, univ_Kd]
  iintro ⟨#HI, -, ⟨Hcr, ⟨Hs0, -, Hs1, -⟩, ⟨Hr0, -, Hr1⟩, Hv, Hv1, ⟨HW, Hzs, Hzr⟩, Hz⟩,
    ⟨Hcr', ⟨Hs0', -, Hs1', -⟩, ⟨Hr0', -, Hr1'⟩, Hv', Hv1', ⟨HW', Hzs', Hzr'⟩, Hz'⟩, ⟨Hb, He, Hl⟩⟩
  ihave Hv := (hasV_any c _ _) $$ Hv
  ihave Hv' := (hasV_any c _ _) $$ Hv'
  unfold sb
  iframe HW HW' Hv Hv1 Hz Hv' Hv1' Hz'
  iframe HI
  isplitl [Hb]; · iexact Hb
  isplitl [He]; · iexact He
  isplitl [Hcr]; · iexact Hcr
  isplitl [Hcr']; · iexact Hcr'
  isplitl [Hs0]; · iexact Hs0
  isplitl [Hs1]; · iexact Hs1
  isplitl [Hs0']; · iexact Hs0'
  isplitl [Hs1']; · iexact Hs1'
  isplitl [Hr0]; · iexact Hr0
  isplitl [Hr1]; · iexact Hr1
  isplitl [Hr0']; · iexact Hr0'
  isplitl [Hr1']; · iexact Hr1'
  isplitl [Hzs]; · iexact Hzs
  isplitl [Hzs']; · iexact Hzs'
  isplitl [Hzr]; · iexact Hzr
  isplitl [Hzr']; · iexact Hzr'
  iexact Hl

/-- The end of the run on a device. -/
theorem fin_close (c : Dev nD) : Fin7 w K c ⊢ (|={Set.univ}=> Closed w c : sProp 𝕄) := by
  refine (fin_parts w K c).trans ?_
  unfold Closed
  iintro ⟨H, Hr⟩
  imod (close_all w K c) $$ H with H
  imodintro
  iframe H Hr

end

end Cert.MoeProof
-- ==== Proof.Pipe.lean ====
/-
  The kernel as a pipeline of seven points: what the windows hold, what a device holds between two points, and the
  body's part at each point.
-/
module

public import proofs.«01_k».proof.Proof.Ends
public import proofs.«01_k».proof.Proof.Gen.KernelIdeal.Points
public import proofs.«01_k».proof.Proof.Gen.KernelIdeal.Launch
public import Idealize.ShloMosaic.Lib.Pipeline.FrameBody

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Pipe
variable (W : Dev nD → Valuation τ sig (Elt F))

/-- The blocks the devices start with: the two halves of their weights. -/
def wts (d : Bool) (c : Dev nD) : S8x256x1024.Idx → Elt F .bf16 := match d with
  | true => W c (Proc.devRef .tc main_v86)
  | false => W c (Proc.devRef .tc main_v87)

/-- The arrays of the windows. -/
def arr (c : Dev nD) (v : Fin 4) : Buf (Elt F) ((cfg0.win v).arr.view.loc (c : Thread nD τ)) :=
  W c (Proc.devRef .tc (Pipeline.arrRef spec0 v))

/-- The tokens. -/
def x1 (c : Dev nD) (t : Fin cfg0.N) : S2048x512.Idx → Elt F .bf16 := ((cfg0.win 0).blk t).view.read (Elt F) (arr W c 0)
/-- The gates of the ring's blocks at a point. -/
def x2 (c : Dev nD) (t : Fin cfg0.N) : S1x2048x16.Idx → Elt F .f32 := ((cfg0.win 1).blk t).view.read (Elt F) (arr W c 1)
/-- The gates of the other ring's block. -/
def x3 (c : Dev nD) (t : Fin cfg0.N) : S2048x8.Idx → Elt F .f32 := ((cfg0.win 2).blk t).view.read (Elt F) (arr W c 2)

theorem pt_lt (s : ℕ) : s % 7 < cfg0.N := by
  have h : cfg0.N = 7 := N_0
  rw [h]; exact Nat.mod_lt _ (by decide)
/-- The point of a step. -/
def pt (s : ℕ) : Fin cfg0.N := ⟨s % 7, pt_lt s⟩

/-- One step on the accumulator. -/
def stepV (c : Dev nD) (s : ℕ) (X : S2048x1024.Idx → Elt F .f32) : S2048x1024.Idx → Elt F .f32 :=
  accB (x1 W c (pt s)) (x2 W c (pt s)) (blk (wts W) true s c) (blk (wts W) false s c) X
/-- The accumulator after each step. -/
def acc (c : Dev nD) : ℕ → S2048x1024.Idx → Elt F .f32
  | 0 => stepV W c 0 (k0_pay4 (F := F))
  | s + 1 => if s + 1 = 3 then accZ (x1 W c (pt 3)) (x3 W c (pt 3)) (wts W true (zp c)) (wts W false (zp c)) (stepV W c (s + 1) (acc c s))
      else stepV W c (s + 1) (acc c s)

/-- What a device holds before step `s`. -/
def hold (K : GSem nD τ sig → ℕ) (c : Dev nD) : ℕ → sProp 𝕄
  | 0 => Start (wts W) K c
  | 7 => Closed (wts W) c
  | s => Mid (wts W) K c s

/-- The data of the pipeline. -/
def dat (c : Dev nD) : Dat τ (Elt F) ℕ ℕ UU ℕ cfg0 c where
  A := arr W c
  after v := match v with
    | 0 => x1 W c
    | 1 => x2 W c
    | 2 => x3 W c
    | 3 => fun t => acc W c t.val
  Φ t := iprop((∃ K, hold W K c t.val) ∗ ∃ r, prngReg c r)
  q _ := fullShare
  owed t := due c t.val

theorem owesAt_of (c : Dev nD) (t : Fin (cfg0.N + 1)) (ι : ℕ) : ow c (due c t.val) ⊢ ((dat W c).owesAt ι t : sProp 𝕄) := by
  unfold ow Dat.owesAt Pipeline.owesWithin
  iintro ⟨%R, HO⟩
  iexists R
  isplitr
  · ipureintro; exact fun _ _ => Or.inl trivial
  iexact HO
theorem ow_of (c : Dev nD) (t : Fin (cfg0.N + 1)) (ι : ℕ) : ((dat W c).owesAt ι t : sProp 𝕄) ⊢ ow c (due c t.val) := by
  unfold ow Dat.owesAt Pipeline.owesWithin
  iintro ⟨%R, -, HO⟩
  iexists R
  iexact HO

theorem before0 (c : Dev nD) (t : Fin cfg0.N) (d) : (dat W c).before 0 t d = x1 W c t :=
  (dat W c).before_in_eq_fetched 0 rfl (fun _ => rfl) (fun _ _ _ => rfl) (fun _ => rfl) t d
theorem before1 (c : Dev nD) (t : Fin cfg0.N) (d) : (dat W c).before 1 t d = x2 W c t :=
  (dat W c).before_in_eq_fetched 1 rfl (fun _ => rfl) (fun _ _ _ => rfl) (fun _ => rfl) t d
theorem before2 (c : Dev nD) (t : Fin cfg0.N) (d) : (dat W c).before 2 t d = x3 W c t :=
  (dat W c).before_in_eq_fetched 2 rfl (fun _ => rfl) (fun _ _ _ => rfl) (fun _ => rfl) t d
theorem before3 (c : Dev nD) (t : Fin cfg0.N) (ht : t.val ≠ 0) (d) : (dat W c).before 3 t d = acc W c (t.val - 1) := by
  have h7 : t.val < 7 := lt_of_lt_of_eq t.isLt N_0
  exact (dat W c).before_out_acc 3 rfl t ht (by
    rw [Bool.eq_false_iff]
    intro h
    have := (flush0_3 _).mp h
    dsimp only at this
    omega) (fun _ => rfl) d

theorem coord_val : ∀ t : Fin cfg0.N, ((grid0.coords t) 0).val = t.val := by decide

theorem pt_eq (t : Fin cfg0.N) : pt t.val = t := Fin.ext (Nat.mod_eq_of_lt (lt_of_lt_of_eq t.isLt N_0))

/-- The body's run at a point, in the shape the pipeline asks for. -/
theorem body_point (c : Dev nD) (t : Fin cfg0.N) (Y : S2048x1024.Idx → Elt F .f32) (hY : t.val ≠ 0 → Y = acc W c (t.val - 1)) (K : GSem nD τ sig → ℕ) :
    iprop(hold W K c t.val ∗ ow c (due c t.val) ∗ owns (c : Thread nD τ) (st0_0 t) fullShare (x1 W c t) ∗ owns (c : Thread nD τ) (st0_1 t) fullShare (x2 W c t)
        ∗ owns (c : Thread nD τ) (st0_2 t) fullShare (x3 W c t) ∗ owns (c : Thread nD τ) (st0_3 t) fullShare Y)
      ⊢ WP Variants.none c (bodyAt0 t)
        (fun _ => iprop(hold W K c (t.val + 1) ∗ ow c (due c (t.val + 1)) ∗ owns (c : Thread nD τ) (st0_0 t) fullShare (x1 W c t)
          ∗ owns (c : Thread nD τ) (st0_1 t) fullShare (x2 W c t) ∗ owns (c : Thread nD τ) (st0_2 t) fullShare (x3 W c t)
          ∗ owns (c : Thread nD τ) (st0_3 t) fullShare (acc W c t.val))) := by
  have h7 : t.val < 7 := lt_of_lt_of_eq t.isLt N_0
  have hc := coord_val t
  have hp := pt_eq t
  by_cases h0 : t.val = 0
  · have key := body_zero (F := F) (wts W) Variants.none K (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) c (by omega) (x1 W c t) (x2 W c t) Y
    have ea : acc W c t.val = accB (x1 W c t) (x2 W c t) (blk (wts W) true 0 c) (blk (wts W) false 0 c) (k0_pay4 (F := F)) := by
      rw [h0] at hp
      rw [h0]; show stepV W c 0 _ = _
      unfold stepV; rw [hp]
    have e1 : hold W K c t.val = Start (wts W) K c := by rw [h0]; rfl
    have e2 : hold W K c (t.val + 1) = Mid (wts W) K c 1 := by rw [h0]; rfl
    rw [ea, e1, e2, h0]
    iintro ⟨H, HO, H1, H2, H3, H6⟩
    iapply (wp_wand_r frame (wpE (defs₀ (F := F)) Variants.none (c : Thread nD τ) none) Set.univ)
    isplitl [H HO H1 H2 H6]
    · iapply key
      iframe H HO H1 H2 H6
    iintro %r ⟨H, HO, H1, H2, H6⟩
    iframe H HO H1 H2 H3 H6
  obtain ⟨u, hu⟩ : ∃ u, t.val = u + 1 := ⟨t.val - 1, by omega⟩
  have hY' : Y = acc W c u := by rw [hY h0, hu]; rfl
  subst hY'
  by_cases h3 : t.val = 3
  · have key := body_three (F := F) (wts W) Variants.none K (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) c (by omega) (x1 W c t) (x2 W c t) (x3 W c t) (acc W c u)
    obtain rfl : u = 2 := by omega
    rw [h3] at hp
    have ea : acc W c t.val = accZ (x1 W c t) (x3 W c t) (wts W true (zp c)) (wts W false (zp c))
        (accB (x1 W c t) (x2 W c t) (blk (wts W) true 3 c) (blk (wts W) false 3 c) (acc W c 2)) := by
      rw [h3]
      show (if 2 + 1 = 3 then _ else _) = _
      rw [if_pos rfl, hp]
      unfold stepV; rw [hp]
    have e1 : hold W K c t.val = Mid (wts W) K c 3 := by rw [h3]; rfl
    have e2 : hold W K c (t.val + 1) = Mid (wts W) K c 4 := by rw [h3]; rfl
    rw [ea, e1, e2, h3]
    exact key
  have ea : acc W c t.val = accB (x1 W c t) (x2 W c t) (blk (wts W) true t.val c) (blk (wts W) false t.val c) (acc W c u) := by
    rw [hu] at hp h3
    rw [hu]
    show (if u + 1 = 3 then _ else _) = _
    rw [if_neg h3]
    unfold stepV; rw [hp]
  rw [ea]
  by_cases h6 : t.val = 6
  · have key := body_six (F := F) (wts W) Variants.none K (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) c (by omega) (x1 W c t) (x2 W c t) (acc W c u)
    have e1 : hold W K c t.val = Mid (wts W) K c 6 := by rw [h6]; rfl
    have e2 : hold W K c (t.val + 1) = Closed (wts W) c := by rw [h6]; rfl
    have e3 : due c (6 + 1) = 0 := rfl
    rw [e1, e2, h6, e3]
    iintro ⟨H, HO, H1, H2, H3, H6⟩
    iapply (wp_fupd frame (wpE (defs₀ (F := F)) Variants.none (c : Thread nD τ) none) Set.univ)
    iapply (wp_wand_r frame (wpE (defs₀ (F := F)) Variants.none (c : Thread nD τ) none) Set.univ)
    isplitl [H HO H1 H2 H6]
    · iapply key
      iframe H HO H1 H2 H6
    iintro %r ⟨H, HO, H1, H2, H6⟩
    imod (fin_close (wts W) K c) $$ H with H
    imodintro
    iframe H HO H1 H2 H3 H6
  · have key := body_mid (F := F) (wts W) Variants.none K (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) c u (by omega) (by omega) (by omega) (x1 W c t) (x2 W c t) (acc W c u)
    have e1 : ∀ s, 1 ≤ s → s ≤ 6 → hold W K c s = Mid (wts W) K c s := fun s h1 h6 => by
      match s, h1, h6 with
      | 1, _, _ => rfl
      | 2, _, _ => rfl
      | 3, _, _ => rfl
      | 4, _, _ => rfl
      | 5, _, _ => rfl
      | 6, _, _ => rfl
    rw [e1 t.val (by omega) (by omega), e1 (t.val + 1) (by omega) (by omega), hu]
    iintro ⟨H, HO, H1, H2, H3, H6⟩
    iapply (wp_wand_r frame (wpE (defs₀ (F := F)) Variants.none (c : Thread nD τ) none) Set.univ)
    isplitl [H HO H1 H2 H6]
    · iapply key
      iframe H HO H1 H2 H6
    iintro %r ⟨H, HO, H1, H2, H6⟩
    iframe H HO H1 H2 H3 H6

/-- The body at every point. -/
theorem body (c : Dev nD) : BodyObligation (dat W c) defs₀ Variants.none 0 Set.univ := fun t => by
  rw [bigSep_W0, bigSep_W0]
  simp only [before0, before1, before2]
  show iprop(iprop((∃ K, hold W K c t.val) ∗ ∃ r, prngReg c r) ∗ (dat W c).owesAt 0 t.castSucc
      ∗ (∃ _d, owns (c : Thread nD τ) (st0_0 t) fullShare (x1 W c t)) ∗ (∃ _d, owns (c : Thread nD τ) (st0_1 t) fullShare (x2 W c t))
      ∗ (∃ _d, owns (c : Thread nD τ) (st0_2 t) fullShare (x3 W c t)) ∗ (∃ d, owns (c : Thread nD τ) (st0_3 t) fullShare ((dat W c).before 3 t d)))
    ⊢ WP Variants.none c (bodyAt0 t) (fun _ => iprop(iprop((∃ K, hold W K c (t.val + 1)) ∗ ∃ r, prngReg c r) ∗ (dat W c).owesAt 0 t.succ
      ∗ owns (c : Thread nD τ) (st0_0 t) fullShare (x1 W c t) ∗ owns (c : Thread nD τ) (st0_1 t) fullShare (x2 W c t)
      ∗ owns (c : Thread nD τ) (st0_2 t) fullShare (x3 W c t) ∗ owns (c : Thread nD τ) (st0_3 t) fullShare (acc W c t.val)))
  iintro ⟨⟨⟨%K, H⟩, Hp⟩, HO, ⟨%d0, H1⟩, ⟨%d1, H2⟩, ⟨%d2, H3⟩, ⟨%d3, H6⟩⟩
  ihave HO := (ow_of W c t.castSucc 0) $$ HO
  iapply (wp_wand_r frame (wpE (defs₀ (F := F)) Variants.none (c : Thread nD τ) none) Set.univ)
  isplitl [H HO H1 H2 H3 H6]
  · iapply (body_point W c t _ (fun h => before3 W c t h d3) K)
    isplitl [H]; · iexact H
    isplitl [HO]; · iexact HO
    iframe H1 H2 H3 H6
  iintro %r ⟨H, HO, H1, H2, H3, H6⟩
  iframe Hp H1 H2 H3 H6
  isplitl [H]
  · iexists K
    iexact H
  iapply (owesAt_of W c t.succ 0)
  iexact HO

end Pipe

end Cert.MoeProof
-- ==== Proof.Fund.lean ====
/-
  What the launch deals: the rights to pay, each to its payer, the credits of the units owed to a device, and a
  device's start from them.
-/
module

public import proofs.«01_k».proof.Proof.Pipe

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The rights to pay -/

/-- The payments of a device, named by a step, a direction and a place: those of the six transfers' steps, those of
    the barriers (6), those of the exchange and the copies (7). -/
abbrev J : Type := Fin 8 × Bool × Fin 3

/-- The semaphore paid. -/
def jk (j : J) : Kd :=
  if j.1.val < 6 then (if j.2.2 = 0 then .snd j.2.1 (bit j.1.val) else if j.2.2 = 1 then .rcv j.2.1 (bit (j.1.val + 1)) else .cr j.2.1)
  else if j.1.val = 6 then (if j.2.1 then .bar else .ex)
  else if j.2.2 = 0 then .zs j.2.1 else if j.2.2 = 1 then .zr j.2.1 else .ld
/-- The round paid. -/
def jr (j : J) : ℕ :=
  if j.1.val < 6 then (if j.2.2 = 2 then j.1.val else j.1.val / 2) else if j.1.val = 6 then 0 else if j.2.2 = 2 then (if j.2.1 then 0 else 1) else 0
/-- The payer's place. -/
def ju (j : J) : Fin 3 := if j.1.val = 6 then j.2.2 else 0
/-- The device paid. -/
def jt (j : J) : Dev nD ≃ Dev nD :=
  if j.1.val < 6 then (if j.2.2 = 0 then Equiv.refl _ else if j.2.2 = 1 then nbE j.2.1 else nbE (!j.2.1))
  else if j.1.val = 6 then (if j.2.2 = 0 then nbE false else if j.2.2 = 1 then nbE true else zpE)
  else if j.2.2 = 1 then zpE else Equiv.refl _

theorem jk_inj : Function.Injective fun j : J => (jk j, jr j, ju j) := by decide +kernel

/-- The rights to pay. -/
def payT : Finset (GSem nD τ sig × ℕ × Fin 3) :=
  Finset.univ.map ⟨fun cj : Dev nD × J => (cell (jk cj.2) cj.1, jr cj.2, ju cj.2), fun a b h =>
    Prod.ext (congrArg (fun t : GSem nD τ sig × ℕ × Fin 3 => t.1.1.1) h)
      (jk_inj (Prod.ext (semOf_inj (congrArg (fun t : GSem nD τ sig × ℕ × Fin 3 => t.1.2) h)) (congrArg (fun t : GSem nD τ sig × ℕ × Fin 3 => t.2) h)))⟩

/-- The right of one payment of device `c`. -/
def tokJ (c : Dev nD) (j : J) : sProp 𝕄 := dutyTok ER (cell (jk j) (jt j c)) (jr j) (ju j)
/-- The rights of device `c`. -/
def toks (c : Dev nD) : sProp 𝕄 := bigSep Finset.univ (tokJ (F := F) c)

/-- Who pays, from who is paid. -/
def jE : Dev nD × J ≃ Dev nD × J :=
  ⟨fun p => (jt p.2 p.1, p.2), fun p => ((jt p.2).symm p.1, p.2), fun p => Prod.ext ((jt p.2).symm_apply_apply p.1) rfl, fun p => Prod.ext ((jt p.2).apply_symm_apply p.1) rfl⟩
/-- Each right to its payer. -/
theorem toks_deal : bigSep payT (fun x => (dutyTok ER x.1 x.2.1 x.2.2 : sProp 𝕄)) = bigSep Finset.univ fun c : Dev nD => toks c := by
  unfold payT toks
  rw [bigSep_map]
  refine (bigSep_univ_equiv jE _).trans ?_
  exact bigSep_univ_prod (fun p : Dev nD × J => tokJ (F := F) p.1 p.2)

/-- The rights of one step and direction. -/
def tok3 (c : Dev nD) (s : Fin 8) (d : Bool) : sProp 𝕄 := iprop(tokJ c (s, d, 0) ∗ tokJ c (s, d, 1) ∗ tokJ c (s, d, 2))
theorem toks_list (c : Dev nD) : (toks c : sProp 𝕄) = iprop((tok3 c 0 true ∗ tok3 c 0 false) ∗ (tok3 c 1 true ∗ tok3 c 1 false) ∗ (tok3 c 2 true ∗ tok3 c 2 false) ∗ (tok3 c 3 true ∗ tok3 c 3 false) ∗ (tok3 c 4 true ∗ tok3 c 4 false) ∗ (tok3 c 5 true ∗ tok3 c 5 false) ∗ (tok3 c 6 true ∗ tok3 c 6 false) ∗ (tok3 c 7 true ∗ tok3 c 7 false)) := by
  have h3 (s : Fin 8) : (bigSep Finset.univ fun p : Bool × Fin 3 => tokJ (F := F) c (s, p)) = iprop(tok3 c s true ∗ tok3 c s false) := by
    rw [bigSep_univ_prod (fun p : Bool × Fin 3 => tokJ (F := F) c (s, p)),
      bigSep_univ_eq_bigSepL [true, false] (by decide) (by decide) (fun d : Bool => bigSep Finset.univ fun u : Fin 3 => tokJ (F := F) c (s, d, u))]
    show iprop((bigSep Finset.univ fun u : Fin 3 => tokJ (F := F) c (s, true, u)) ∗ bigSep Finset.univ fun u : Fin 3 => tokJ (F := F) c (s, false, u)) = _
    rw [Ring.bigSep_fin3, Ring.bigSep_fin3]; rfl
  unfold toks
  rw [bigSep_univ_prod (tokJ (F := F) c), bigSep_congr fun s _ => h3 s]
  exact bigSep_univ_eq_bigSepL [0, 1, 2, 3, 4, 5, 6, 7] (by decide) (by decide) fun s : Fin 8 => iprop(tok3 (F := F) c s true ∗ tok3 c s false)

/-! ## The credits -/

/-- What every device owes the semaphore `k` of one device each, a device receives. -/
theorem cred_of (k : Kd) (e : Dev nD ≃ Dev nD) (i n : ℕ) (c : Dev nD) :
    (Pipeline.launchCred (fun d => tallyAt (cell k (e d)) i n) c : sProp 𝕄) ⊢ cred (tallyAt (cell k c) i n) :=
  Pipeline.launchCred_tallyAt (semOf k) e e.symm e.apply_symm_apply e.symm_apply_apply i n c
/-- One more thing owed. -/
theorem cred_more (B : Dev nD → CellTallies nD τ sig ℕ) (k : Kd) (e : Dev nD ≃ Dev nD) (i n : ℕ) (c : Dev nD) :
    (Pipeline.launchCred (fun d => B d + tallyAt (cell k (e d)) i n) c : sProp 𝕄) ⊢ iprop(Pipeline.launchCred B c ∗ cred (tallyAt (cell k c) i n)) := by
  rw [Pipeline.launchCred_add B (fun d => tallyAt (cell k (e d)) i n) c]
  exact BI.sep_mono_r (cred_of k e i n c)

/-- The credits of a step's arrivals, and of the slots given back. -/
def credS (c : Dev nD) (s : ℕ) : sProp 𝕄 := iprop(cred (tallyAt (cell (.rcv true (bit (s + 1))) c) s N) ∗ cred (tallyAt (cell (.rcv false (bit (s + 1))) c) s N))
def credC (c : Dev nD) (s : ℕ) : sProp 𝕄 := iprop(cred (tallyAt (cell (.cr true) c) s 1) ∗ cred (tallyAt (cell (.cr false) c) s 1))

theorem cred_S (B : Dev nD → CellTallies nD τ sig ℕ) (s : ℕ) (c : Dev nD) :
    (Pipeline.launchCred (fun d => dueS d s (B d)) c : sProp 𝕄) ⊢ iprop(Pipeline.launchCred B c ∗ credS c s) := by
  unfold credS
  have h1 := cred_more (F := F) (fun d => B d + sendDue false d s) (.rcv true (bit (s + 1))) (nbE true) s N c
  have h2 := cred_more (F := F) B (.rcv false (bit (s + 1))) (nbE false) s N c
  refine h1.trans ((sep_mono_left h2).trans ?_)
  iintro ⟨⟨H, H2⟩, H1⟩
  iframe H H1 H2
theorem cred_C (B : Dev nD → CellTallies nD τ sig ℕ) (s : ℕ) (c : Dev nD) :
    (Pipeline.launchCred (fun d => dueC d s (B d)) c : sProp 𝕄) ⊢ iprop(Pipeline.launchCred B c ∗ credC c s) := by
  unfold credC
  have h1 := cred_more (F := F) (fun d => B d + crDue false d s) (.cr true) (nbE false) s 1 c
  have h2 := cred_more (F := F) B (.cr false) (nbE true) s 1 c
  refine h1.trans ((sep_mono_left h2).trans ?_)
  iintro ⟨⟨H, H2⟩, H1⟩
  iframe H H1 H2

theorem cred_three (g : GSem nD τ sig) : (iprop(cred (tallyAt g 0 1) ∗ cred (tallyAt g 0 1) ∗ cred (tallyAt g 0 1)) : sProp 𝕄) ⊢ cred (tallyAt g 0 3) := by
  refine (sep_mono_right (cred_add _ _).2).trans ((cred_add _ _).2.trans (Entails.of_eq ?_))
  rw [tallyAt_add, tallyAt_add]

/-- The credits of device `c`. -/
def creds (c : Dev nD) : sProp 𝕄 :=
  iprop(cred (tallyAt (cell .bar c) 0 3) ∗ cred (tallyAt (cell (.zr true) c) 0 N) ∗ cred (tallyAt (cell (.zr false) c) 0 N)
    ∗ (credS c 0 ∗ credC c 0) ∗ (credS c 1 ∗ credC c 1) ∗ (credS c 2 ∗ credC c 2) ∗ (credS c 3 ∗ credC c 3) ∗ (credS c 4 ∗ credC c 4) ∗ credS c 5 ∗ cred (tallyAt (cell .ex c) 0 3))

theorem creds_exit (c : Dev nD) : (Pipeline.launchCred due6 c : sProp 𝕄) ⊢ cred (tallyAt (cell .ex c) 0 3) := by
  have h1 := cred_more (F := F) (fun d => (0 + tallyAt (cell .ex (zp d)) 0 1) + tallyAt (cell .ex (nb true d)) 0 1) .ex (nbE false) 0 1 c
  have h2 := cred_more (F := F) (fun d => 0 + tallyAt (cell .ex (zp d)) 0 1) .ex (nbE true) 0 1 c
  have h3 := cred_more (F := F) (fun _ => 0) .ex zpE 0 1 c
  refine BIBase.Entails.trans ?_ (cred_three (F := F) (cell .ex c))
  refine h1.trans ((sep_mono_left (h2.trans (sep_mono_left h3))).trans ?_)
  iintro ⟨⟨⟨-, H3⟩, H2⟩, H1⟩
  iframe H1 H2 H3

/-- The launch's credits of a device. -/
theorem creds_of (c : Dev nD) : (Pipeline.launchCred due0 c : sProp 𝕄) ⊢ creds c := by
  have b1 := cred_more (F := F) (fun d => (dueB d + tallyAt (cell .bar (zp d)) 0 1) + tallyAt (cell .bar (nb true d)) 0 1) .bar (nbE false) 0 1 c
  have b1' : (Pipeline.launchCred due0 c : sProp 𝕄) ⊢ _ := b1
  have b2 := cred_more (F := F) (fun d => dueB d + tallyAt (cell .bar (zp d)) 0 1) .bar (nbE true) 0 1 c
  have b3 := cred_more (F := F) dueB .bar zpE 0 1 c
  have z1 := cred_more (F := F) (fun d => dueX d + tallyAt (cell (.zr false) (zp d)) 0 N) (.zr true) zpE 0 N c
  have z1' : (Pipeline.launchCred dueB c : sProp 𝕄) ⊢ _ := z1
  have z2 := cred_more (F := F) dueX (.zr false) zpE 0 N c
  have h5 := (cred_S (F := F) due6 5 c).trans (sep_mono_left (creds_exit c))
  have h4 := (cred_S (F := F) (fun d => dueC d 4 (due5 d)) 4 c).trans (sep_mono_left ((cred_C (F := F) due5 4 c).trans (sep_mono_left h5)))
  have h3 := (cred_S (F := F) (fun d => dueC d 3 (due4 d)) 3 c).trans (sep_mono_left ((cred_C (F := F) due4 3 c).trans (sep_mono_left h4)))
  have h2 := (cred_S (F := F) (fun d => dueC d 2 (due3 d)) 2 c).trans (sep_mono_left ((cred_C (F := F) due3 2 c).trans (sep_mono_left h3)))
  have h1 := (cred_S (F := F) (fun d => dueC d 1 (due2 d)) 1 c).trans (sep_mono_left ((cred_C (F := F) due2 1 c).trans (sep_mono_left h2)))
  have h0 := (cred_S (F := F) (fun d => dueC d 0 (due1 d)) 0 c).trans (sep_mono_left ((cred_C (F := F) due1 0 c).trans (sep_mono_left h1)))
  have h0' : (Pipeline.launchCred dueX c : sProp 𝕄) ⊢ _ := h0
  unfold creds
  refine (b1'.trans (sep_mono_left (b2.trans (sep_mono_left (b3.trans (sep_mono_left (z1'.trans (sep_mono_left (z2.trans (sep_mono_left h0')))))))))).trans ?_
  iintro ⟨⟨⟨⟨⟨⟨⟨⟨⟨⟨⟨⟨⟨⟨⟨⟨He, H5⟩, Hc4⟩, H4⟩, Hc3⟩, H3⟩, Hc2⟩, H2⟩, Hc1⟩, H1⟩, Hc0⟩, H0⟩, Hz2⟩, Hz1⟩, Hb3⟩, Hb2⟩, Hb1⟩
  isplitl [Hb1 Hb2 Hb3]
  · iapply (cred_three (F := F) (cell .bar c))
    iframe Hb1 Hb2 Hb3
  iframe Hz1 Hz2 H0 Hc0 H1 Hc1 H2 Hc2 H3 Hc3 H4 Hc4 H5 He

/-- The rights and credits of a step. -/
theorem tk_of (c : Dev nD) (s : Fin 8) (hs : s.val < 5) : iprop((tok3 c s true ∗ tok3 c s false) ∗ credS c s.val ∗ credC c s.val) ⊢ (iprop(tk true c s.val ∗ tk false c s.val) : sProp 𝕄) := by
  have e (d : Bool) : (tok3 c s d : sProp 𝕄) = iprop(dutyTok ER (cell (.snd d (bit s.val)) c) (s.val / 2) 0 ∗ dutyTok ER (cell (.rcv d (bit (s.val + 1))) (nb d c)) (s.val / 2) 0
      ∗ dutyTok ER (cell (.cr d) (nb (!d) c)) s.val 0) := by
    revert s; intro s hs
    match s, hs with
    | 0, _ => rfl
    | 1, _ => rfl
    | 2, _ => rfl
    | 3, _ => rfl
    | 4, _ => rfl
  rw [e, e]
  unfold tk credS credC
  rw [if_pos hs, if_pos hs]
  iintro ⟨⟨⟨H1, H2, H3⟩, ⟨H1', H2', H3'⟩⟩, ⟨Hs, Hs'⟩, ⟨Hc, Hc'⟩⟩
  iframe ∗
theorem tk_five (c : Dev nD) : iprop((tok3 c 5 true ∗ tok3 c 5 false) ∗ credS c 5) ⊢ (iprop(tk true c 5 ∗ tk false c 5) : sProp 𝕄) := by
  have e (d : Bool) : (tok3 c 5 d : sProp 𝕄) = iprop(dutyTok ER (cell (.snd d (bit 5)) c) (5 / 2) 0 ∗ dutyTok ER (cell (.rcv d (bit (5 + 1))) (nb d c)) (5 / 2) 0
      ∗ dutyTok ER (cell (.cr d) (nb (!d) c)) 5 0) := rfl
  rw [e, e]
  unfold tk credS
  rw [if_neg (by decide), if_neg (by decide)]
  iintro ⟨⟨⟨H1, H2, -⟩, ⟨H1', H2', -⟩⟩, ⟨Hs, Hs'⟩⟩
  iframe ∗

/-- The rights of the barriers, the exchange and the copies. -/
def tokE (c : Dev nD) : sProp 𝕄 :=
  iprop((dutyTok ER (cell .bar (nb false c)) 0 0 ∗ dutyTok ER (cell .bar (nb true c)) 0 1 ∗ dutyTok ER (cell .bar (zp c)) 0 2)
    ∗ (dutyTok ER (cell (.zs true) c) 0 0 ∗ dutyTok ER (cell (.zr true) (zp c)) 0 0 ∗ dutyTok ER (cell .ld c) 0 0)
    ∗ (dutyTok ER (cell (.zs false) c) 0 0 ∗ dutyTok ER (cell (.zr false) (zp c)) 0 0 ∗ dutyTok ER (cell .ld c) 1 0))
/-- The credits of the barrier and the exchange. -/
def crE (c : Dev nD) : sProp 𝕄 :=
  iprop(cred (tallyAt (cell .bar c) 0 3) ∗ cred (tallyAt (cell (.zr true) c) 0 N) ∗ cred (tallyAt (cell (.zr false) c) 0 N))

theorem deal (c : Dev nD) : iprop(toks c ∗ creds c) ⊢ (iprop(tokE c ∗ crE c ∗ todo c 0) : sProp 𝕄) := by
  have e6 : (iprop(tok3 c 6 true ∗ tok3 c 6 false) : sProp 𝕄)
      = iprop((dutyTok ER (cell .bar (nb false c)) 0 0 ∗ dutyTok ER (cell .bar (nb true c)) 0 1 ∗ dutyTok ER (cell .bar (zp c)) 0 2)
        ∗ (dutyTok ER (cell .ex (nb false c)) 0 0 ∗ dutyTok ER (cell .ex (nb true c)) 0 1 ∗ dutyTok ER (cell .ex (zp c)) 0 2)) := rfl
  have e7 : (iprop(tok3 c 7 true ∗ tok3 c 7 false) : sProp 𝕄)
      = iprop((dutyTok ER (cell (.zs true) c) 0 0 ∗ dutyTok ER (cell (.zr true) (zp c)) 0 0 ∗ dutyTok ER (cell .ld c) 0 0)
        ∗ (dutyTok ER (cell (.zs false) c) 0 0 ∗ dutyTok ER (cell (.zr false) (zp c)) 0 0 ∗ dutyTok ER (cell .ld c) 1 0)) := rfl
  have et : (todo c 0 : sProp 𝕄) = iprop(tk true c 0 ∗ tk false c 0 ∗ tk true c 1 ∗ tk false c 1 ∗ tk true c 2 ∗ tk false c 2 ∗ tk true c 3 ∗ tk false c 3 ∗ tk true c 4 ∗ tk false c 4 ∗ tk true c 5 ∗ tk false c 5 ∗ exits c) := rfl
  rw [toks_list, e6, e7, et]
  unfold creds tokE crE exits
  iintro ⟨⟨T0, T1, T2, T3, T4, T5, ⟨Tb, ⟨Tx1, Tx2, Tx3⟩⟩, Tz⟩, ⟨Cb, Cz, Cz', ⟨S0, C0⟩, ⟨S1, C1⟩, ⟨S2, C2⟩, ⟨S3, C3⟩, ⟨S4, C4⟩, S5, Ce⟩⟩
  ihave H0 := (tk_of (F := F) c 0 (by decide)) $$ [T0 S0 C0]
  · iframe T0 S0 C0
  icases H0 with ⟨A0, B0⟩
  ihave H1 := (tk_of (F := F) c 1 (by decide)) $$ [T1 S1 C1]
  · iframe T1 S1 C1
  icases H1 with ⟨A1, B1⟩
  ihave H2 := (tk_of (F := F) c 2 (by decide)) $$ [T2 S2 C2]
  · iframe T2 S2 C2
  icases H2 with ⟨A2, B2⟩
  ihave H3 := (tk_of (F := F) c 3 (by decide)) $$ [T3 S3 C3]
  · iframe T3 S3 C3
  icases H3 with ⟨A3, B3⟩
  ihave H4 := (tk_of (F := F) c 4 (by decide)) $$ [T4 S4 C4]
  · iframe T4 S4 C4
  icases H4 with ⟨A4, B4⟩
  ihave H5 := (tk_five (F := F) c) $$ [T5 S5]
  · iframe T5 S5
  icases H5 with ⟨A5, B5⟩
  isplitl [Tb Tz]
  · iframe Tb Tz
  isplitl [Cb Cz Cz']
  · iframe Cb Cz Cz'
  isplitl [A0]; · iexact A0
  isplitl [B0]; · iexact B0
  isplitl [A1]; · iexact A1
  isplitl [B1]; · iexact B1
  isplitl [A2]; · iexact A2
  isplitl [B2]; · iexact B2
  isplitl [A3]; · iexact A3
  isplitl [B3]; · iexact B3
  isplitl [A4]; · iexact A4
  isplitl [B4]; · iexact B4
  isplitl [A5]; · iexact A5
  isplitl [B5]; · iexact B5
  iframe Tx1 Tx2 Tx3 Ce

/-! ## The start of a device -/

section
variable (w : Bool → Dev nD → S8x256x1024.Idx → Elt F .bf16) (K : GSem nD τ sig → ℕ)

/-- The opening barrier's semaphores have begun their round. -/
def bars : sProp 𝕄 := bigSep Finset.univ fun c : Dev nD => reached ER (cell .bar c) 0
instance bars_persistent : BI.Persistent (bars (F := F)) := by unfold bars; infer_instance
theorem bars_at (c : Dev nD) : (bars : sProp 𝕄) ⊢ reached ER (cell .bar c) 0 :=
  bigSep_elim (Φ := fun c : Dev nD => reached ER (cell .bar c) 0) (Finset.mem_univ c)

/-- The semaphores of the kernel's own, one by one. -/
theorem rest_Kd (Φ : Kd → sProp 𝕄) : bigSep (Finset.univ.erase Kd.bar) Φ = iprop(Φ Kd.ex ∗ Φ (Kd.cr true) ∗ Φ (Kd.cr false) ∗ Φ (Kd.snd true 0) ∗ Φ (Kd.snd true 1) ∗ Φ (Kd.snd false 0) ∗ Φ (Kd.snd false 1) ∗ Φ (Kd.rcv true 0) ∗ Φ (Kd.rcv true 1) ∗ Φ (Kd.rcv false 0) ∗ Φ (Kd.rcv false 1) ∗ Φ (Kd.zs true) ∗ Φ (Kd.zs false) ∗ Φ (Kd.zr true) ∗ Φ (Kd.zr false) ∗ Φ Kd.ld) :=
  bigSep_eq_bigSepL_of_eq ([Kd.ex, (Kd.cr true), (Kd.cr false), (Kd.snd true 0), (Kd.snd true 1), (Kd.snd false 0), (Kd.snd false 1), (Kd.rcv true 0), (Kd.rcv true 1), (Kd.rcv false 0), (Kd.rcv false 1), (Kd.zs true), (Kd.zs false), (Kd.zr true), (Kd.zr false), Kd.ld] : List Kd) (by decide) (by decide) Φ

/-- What the launch leaves with a device: the names of the invariants, its place at the barrier, the rights to open its
    own semaphores, the rights to pay, the credits. -/
def Kept (c : Dev nD) : sProp 𝕄 :=
  iprop(Inv w K ∗ bars ∗ atPos ER (cell .bar c) 0 ∅ 0 ∗ (bigSep (Finset.univ.erase Kd.bar) fun k => openTok ER (cell k c)) ∗ toks c ∗ creds c)
/-- The same with its own semaphores open. -/
def Opened (c : Dev nD) : sProp 𝕄 :=
  iprop(Inv w K ∗ levAts L lv ∗ bars ∗ atPos ER (cell .bar c) 0 ∅ 0
    ∗ (bigSep (Finset.univ.erase Kd.bar) fun k => iprop(atPos ER (cell k c) 0 ∅ 0 ∗ reached ER (cell k c) 0)) ∗ toks c ∗ creds c)

theorem opened (c : Dev nD) : iprop(Kept w K c ∗ (bigSep (Finset.univ.erase Kd.bar) fun k => semVal (cell k c) 0) ∗ levAts L lv)
    ⊢ (|={Set.univ}=> Opened w K c : sProp 𝕄) := by
  unfold Kept Opened
  iintro ⟨⟨#HI, #Hb, Ha, Ho, Ht, Hc⟩, Hs, #Hlev⟩
  ihave H := (show iprop((bigSep (Finset.univ.erase Kd.bar) fun k => openTok ER (cell k c)) ∗ bigSep (Finset.univ.erase Kd.bar) fun k => semVal (cell k c) 0)
      ⊢ (bigSep (Finset.univ.erase Kd.bar) fun k => iprop(openTok ER (cell k c) ∗ semVal (cell k c) 0) : sProp 𝕄) from Entails.of_eq (by rw [bigSep_sep'])) $$ [Ho Hs]
  · iframe Ho Hs
  imod (open_all w K (Finset.univ.erase Kd.bar) c) $$ [H] with H
  · iframe HI H
  imodintro
  iframe HI Hlev Hb Ha H Ht Hc

theorem started (c : Dev nD) : iprop(Opened w K c ∗ hasW c true fullShare (w true c) ∗ hasW c false fullShare (w false c) ∗ sb true c ∗ sb false c)
    ⊢ Start w K c := by
  have es (d : Bool) : (rstart d c : sProp 𝕄) = iprop(atPos ER (cell (.cr d) c) 0 ∅ 0 ∗ reached ER (cell (.cr d) c) 0
      ∗ (atPos ER (cell (.snd d 0) c) 0 ∅ 0 ∗ reached ER (cell (.snd d 0) c) 0 ∗ atPos ER (cell (.snd d 1) c) 0 ∅ 0 ∗ reached ER (cell (.snd d 1) c) 0)
      ∗ (atPos ER (cell (.rcv d 0) c) 0 ∅ 0 ∗ reached ER (cell (.rcv d 0) c) 0 ∗ atPos ER (cell (.rcv d 1) c) 0 ∅ 0)
      ∗ reached ER (cell (.rcv d 1) c) 0) := rfl
  unfold Opened Start bstart zstart sb
  rw [rest_Kd, es, es]
  iintro ⟨⟨#HI, #Hlev, #Hb, Ha, ⟨⟨Aex, #Rex⟩, ⟨Acr, #Rcr⟩, ⟨Acr', #Rcr'⟩, ⟨As0, #Rs0⟩, ⟨As1, #Rs1⟩, ⟨As0', #Rs0'⟩, ⟨As1', #Rs1'⟩,
      ⟨Ar0, #Rr0⟩, ⟨Ar1, #Rr1⟩, ⟨Ar0', #Rr0'⟩, ⟨Ar1', #Rr1'⟩, ⟨Azs, #Rzs⟩, ⟨Azs', #Rzs'⟩, ⟨Azr, #Rzr⟩, ⟨Azr', #Rzr'⟩, ⟨Ald, #Rld⟩⟩, Ht, Hc⟩,
    HW, HW', ⟨Hv0, Hv1, Hz⟩, ⟨Hv0', Hv1', Hz'⟩⟩
  ihave #Hb1 := (bars_at (F := F) (nb false c)) $$ Hb
  ihave #Hb2 := (bars_at (F := F) (nb true c)) $$ Hb
  ihave #Hb3 := (bars_at (F := F) (zp c)) $$ Hb
  ihave H := (deal (F := F) c) $$ [Ht Hc]
  · iframe Ht Hc
  unfold tokE crE
  icases H with ⟨⟨⟨Tb1, Tb2, Tb3⟩, ⟨Tzs, Tzr, Tld⟩, ⟨Tzs', Tzr', Tld'⟩⟩, ⟨Cb, Cz, Cz'⟩, Htodo⟩
  isplitr; · iexact HI
  isplitr; · iexact Hlev
  isplitl [Ha Cb Tb1 Tb2 Tb3 Ald Tld Tld']
  · iframe Ha Cb Rex Tb1 Hb1 Tb2 Hb2 Tb3 Hb3 Ald Rld Tld Tld'
  isplitl [Aex]; · iexact Aex
  isplitl [HW Hz Cz Azs Azr Tzs Tzr Acr As0 As1 Ar0 Ar1 Hv0 Hv1]
  · isplitl [HW Hz Cz Azs Azr Tzs Tzr]
    · iframe HW Hz Cz Azs Azr Tzs Tzr Rzs Rzr
    isplitl [Acr As0 As1 Ar0 Ar1]
    · iframe Acr Rcr As0 Rs0 As1 Rs1 Ar0 Rr0 Ar1 Rr1
    iframe Hv0 Hv1
  isplitl [HW' Hz' Cz' Azs' Azr' Tzs' Tzr' Acr' As0' As1' Ar0' Ar1' Hv0' Hv1']
  · isplitl [HW' Hz' Cz' Azs' Azr' Tzs' Tzr']
    · iframe HW' Hz' Cz' Azs' Azr' Tzs' Tzr' Rzs' Rzr'
    isplitl [Acr' As0' As1' Ar0' Ar1']
    · iframe Acr' Rcr' As0' Rs0' As1' Rs1' Ar0' Rr0' Ar1' Rr1'
    iframe Hv0' Hv1'
  iexact Htodo

end

end Cert.MoeProof
-- ==== Proof.Run.lean ====
/-
  The launch and the whole run: the region of the kernel among the host's segments, the semaphores' invariants and the
  rights dealt, and what every final memory holds.
-/
module

public import proofs.«01_k».proof.Proof.Fund
public import proofs.«01_k».proof.Proof.Gen.KernelIdeal.Regions

@[expose] public section

set_option synthInstance.maxSize 4096

noncomputable section

namespace Cert.MoeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Run
variable (m : (ℓ : Loc nD τ sig) → Buf (Elt F) ℓ) (ρ : Dev nD → PrngReg)

/-- The contents the kernel starts from. -/
abbrev Wm (c : Dev nD) : Valuation τ sig (Elt F) := V28 m c

/-- The proof data of the program's one pipeline. -/
def pdats : (p : Fin 1) → (c : Dev nD) → Dat τ (Elt F) ℕ ℕ UU ℕ (cfgs p) c :=
  fun _ c => dat (Wm m) c

/-- What the kernel leaves in its result, and in the two arrays it reads. -/
def outs : Outs (F := F) := fun _ r c => Function.update (V28 m c) main_v88 ((dat (Wm m) c).arrAt 3 cfg0.N) r
/-- The contents at the end. -/
abbrev Wn (c : Dev nD) : Valuation τ sig (Elt F) := V29 m (outs m) c

theorem outs_ne (k : ℕ) (r : Ref sig .tc) (c : Dev nD) (h : (Proc.devRef .tc r : DevRef τ sig) ≠ Proc.devRef .tc main_v88) : outs m k r c = V28 m c r :=
  Function.update_of_ne h _ _
theorem Wn_86 (c : Dev nD) : Wn m c (Proc.devRef .tc main_v86) = Wm m c (Proc.devRef .tc main_v86) := by
  show Function.update (Function.update _ _ _) _ _ _ = _
  rw [Function.update_of_ne (StableHlo.devRef_ne_of_ne (by decide)), Function.update_self]
  exact outs_ne m 29 main_v86 c (StableHlo.devRef_ne_of_ne (by decide))
theorem Wn_87 (c : Dev nD) : Wn m c (Proc.devRef .tc main_v87) = Wm m c (Proc.devRef .tc main_v87) := by
  show Function.update _ _ _ _ = _
  rw [Function.update_self]
  exact outs_ne m 29 main_v87 c (StableHlo.devRef_ne_of_ne (by decide))
theorem Wn_88 (c : Dev nD) : Wn m c (Proc.devRef .tc main_v88) = (dat (Wm m) c).arrAt 3 cfg0.N := by
  show Function.update (Function.update (Function.update _ _ _) _ _) _ _ _ = _
  rw [Function.update_of_ne (StableHlo.devRef_ne_of_ne (by decide)), Function.update_of_ne (StableHlo.devRef_ne_of_ne (by decide)), Function.update_self]
  exact Function.update_self _ _ _
theorem Wn_ne (c : Dev nD) (b : DevRef τ sig) (h8 : b ≠ Proc.devRef .tc main_v88) (h6 : b ≠ Proc.devRef .tc main_v86) (h7 : b ≠ Proc.devRef .tc main_v87) :
    Wn m c b = Wm m c b := by
  show Function.update (Function.update (Function.update _ _ _) _ _) _ _ _ = _
  rw [Function.update_of_ne h7, Function.update_of_ne h6, Function.update_of_ne h8]

/-! ## The kernel's own semaphores and buffers -/

/-- The semaphores of the kernel's own. -/
def osem0 : {k : Kd // k ≠ Kd.bar} → SemLoc sig := fun k => semOf k.1
theorem own0 : Pipeline.OwnSemFacts spec0 osem0 := by decide

theorem own_eq (c : Dev nD) : (Pipeline.ownSems0 osem0 c : sProp 𝕄) = bigSep (Finset.univ.erase Kd.bar) fun k => semVal (cell k c) 0 := by
  unfold Pipeline.ownSems0
  rw [show (Finset.univ.erase Kd.bar : Finset Kd) = Finset.univ.map (Function.Embedding.subtype fun k : Kd => k ≠ Kd.bar) from by decide, bigSep_map]
  rfl

theorem unscoped_one : ∀ sm : SemLoc sig, sm.isScoped .tc = false → sm = .reg barS := by decide
theorem unscoped_eq (c : Dev nD) : (unscopedSems0 c : sProp 𝕄) = semVal (cell .bar c) 0 := by
  unfold unscopedSems0
  rw [show (Finset.univ.filter fun sm : SemLoc sig => ¬ sm.isScoped .tc) = {SemLoc.reg barS} from by decide, BI.bigSep_singleton]
  rfl

/-- The buffers the kernel reads itself: the two halves of its weights. -/
abbrev Hs : Finset (DevRef τ sig) := {Proc.devRef .tc main_v86, Proc.devRef .tc main_v87}
/-- The unscoped buffers that no window stages. -/
abbrev Sr : Finset (DevRef τ sig) := Pipeline.ucRefs τ sig \ Pipeline.arrRefs (τ := τ) spec0

theorem held_Hs (c : Dev nD) (V : Valuation τ sig (Elt F)) : (StableHlo.held (c : Thread nD τ) Hs V : sProp 𝕄)
    = iprop(hasW c true fullShare (V (Proc.devRef .tc main_v86)) ∗ hasW c false fullShare (V (Proc.devRef .tc main_v87))) := by
  unfold StableHlo.held
  rw [bigSep_eq_bigSepL_of_eq [Proc.devRef .tc main_v86, Proc.devRef .tc main_v87] (by decide) (by decide)]
  show _ = iprop(owns (c : Thread nD τ) (Memref.whole main_v86) fullShare _ ∗ owns (c : Thread nD τ) (Memref.whole main_v87) fullShare _)
  rw [owns_whole, owns_whole]
  rfl

/-! ## The region -/

def Tk (c : Dev nD) : sProp 𝕄 := iprop(∃ K, Kept (wts (Wm m)) K c)
def Xk (c : Dev nD) : sProp 𝕄 := iprop(∃ K, Opened (wts (Wm m)) K c)
def Yk (c : Dev nD) : sProp 𝕄 := semVal (cell .bar c) 0

theorem hopen0 (c : Dev nD) : iprop(Tk m c ∗ Pipeline.ownSems0 osem0 c ∗ levAts L lv) ⊢ (|={Set.univ}=> Xk m c : sProp 𝕄) := by
  rw [own_eq]
  unfold Tk Xk
  iintro ⟨⟨%K, H⟩, Hs, Hlev⟩
  imod (opened (wts (Wm m)) K c) $$ [H Hs Hlev] with H
  · iframe H Hs Hlev
  imodintro
  iexists K
  iexact H

theorem hin0 (c : Dev nD) : iprop(Pipeline.scopedRest (Pipeline.pin (pcfgs (F := F)) adm 0).spec c ∗ (∃ r, prngReg c r) ∗ StableHlo.held (c.tc : Thread nD τ) Hs (Wm m c) ∗ Xk m c)
    ⊢ (pdats m 0 c).Φ 0 := by
  show _ ⊢ iprop((∃ K, Start (wts (Wm m)) K c) ∗ ∃ r, prngReg c r)
  rw [held_Hs]
  unfold Xk
  iintro ⟨Hs, Hp, ⟨HW, HW'⟩, ⟨%K, H⟩⟩
  ihave Hs := (scoped_cut (F := F) c) $$ Hs
  icases Hs with ⟨Hs, Hs'⟩
  isplitr [Hp]
  · iexists K
    iapply (started (wts (Wm m)) K c)
    iframe H Hs Hs'
    isplitl [HW]; · iexact HW
    iexact HW'
  iexact Hp

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (Wn m c) ∗ Pipeline.ownSems0 osem0 c ∗ Yk c) := by
  show iprop((∃ K, hold (Wm m) K c cfg0.N) ∗ ∃ r, prngReg c r) ⊢ _
  rw [own_eq, held_Hs, Wn_86, Wn_87, show cfg0.N = 7 from N_0]
  show iprop((∃ K, Closed (wts (Wm m)) c) ∗ ∃ r, prngReg c r) ⊢ _
  unfold Closed Yk
  rw [bigSep_univ_at _ Kd.bar]
  iintro ⟨⟨%K, ⟨Hb, Ho⟩, HW, HW', Hs, Hs'⟩, Hp⟩
  isplitl [Hs Hs']
  · iapply (scoped_glue (F := F) c)
    iframe Hs Hs'
  iframe Hp Ho Hb
  isplitl [HW]; · iexact HW
  iexact HW'

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_due0 (c : Dev nD) : Above 0 (due0 c) := by
  unfold due0
  exact ((((above_dueB c).mono (by decide)).add (Above.tally _ _ _ _ (by decide) (by decide))).add (Above.tally _ _ _ _ (by decide) (by decide))).add
    (Above.tally _ _ _ _ (by decide) (by decide))
theorem above_all (c : Dev nD) (t : ℕ) : Above 0 (due c t) := by
  rcases Nat.eq_zero_or_pos t with rfl | h
  · exact above_due0 c
  · exact (above_due c t h).mono (Nat.zero_le _)

/-- No wait of the kernel is at a staging semaphore. -/
theorem stage_none : ∀ (w : Fin 4) (s : Fin (spec0 w).nbuf), kdOf (.dma ((spec0 w).sem s)) = none := by decide
theorem stage_lv (c : Dev nD) (w : Fin 4) (s : Fin (spec0 w).nbuf) : lv ((c : Thread nD τ), .dma ((spec0 w).sem s)) 0 = 0 := by
  unfold lv; rw [stage_none]; rfl

theorem share0 (c : Dev nD) (v : Fin 4) : (dat (Wm m) c).share v = fullShare := (dat (Wm m) c).share_full (fun _ => rfl) v

theorem arr_in (c : Dev nD) (t : ℕ) : ∀ v : Fin 4, v ≠ 3 → (dat (Wm m) c).arrAt v t = Wm m c (Proc.devRef .tc (Pipeline.arrRef spec0 v))
  | 0, _ => (dat (Wm m) c).arrAt_in 0 rfl t
  | 1, _ => (dat (Wm m) c).arrAt_in 1 rfl t
  | 2, _ => (dat (Wm m) c).arrAt_in 2 rfl t
  | 3, h => absurd rfl h
theorem arr_ends (c : Dev nD) : ∀ v : Fin 4, (dat (Wm m) c).arrAt v cfg0.N = Wn m c (Proc.devRef .tc (Pipeline.arrRef spec0 v))
  | 0 => (arr_in m c _ 0 (by decide)).trans (Wn_ne m c _ (StableHlo.devRef_ne_of_ne (by decide)) (StableHlo.devRef_ne_of_ne (by decide)) (StableHlo.devRef_ne_of_ne (by decide))).symm
  | 1 => (arr_in m c _ 1 (by decide)).trans (Wn_ne m c _ (StableHlo.devRef_ne_of_ne (by decide)) (StableHlo.devRef_ne_of_ne (by decide)) (StableHlo.devRef_ne_of_ne (by decide))).symm
  | 2 => (arr_in m c _ 2 (by decide)).trans (Wn_ne m c _ (StableHlo.devRef_ne_of_ne (by decide)) (StableHlo.devRef_ne_of_ne (by decide)) (StableHlo.devRef_ne_of_ne (by decide))).symm
  | 3 => (Wn_88 m c).symm

theorem rest0 (c : Dev nD) (b : DevRef τ sig) (hb : b ∈ Sr \ Hs) : Wn m c b = Wm m c b := by
  obtain ⟨h1, h2⟩ := Finset.mem_sdiff.mp hb
  refine Wn_ne m c b ?_ ?_ ?_
  · rintro rfl
    exact (Finset.mem_sdiff.mp h1).2 (by decide)
  · rintro rfl; exact h2 (by decide)
  · rintro rfl; exact h2 (by decide)

set_option backward.isDefEq.respectTransparency.types false in
/-- The kernel's region. -/
def reg : Pipeline.RegionSeg (pcfgs (F := F)) adm (pdats m) 0 defs₀ Variants.none L lv 0 :=
  Pipeline.RegionSeg.ofTalk (pcfgs (F := F)) adm (pdats m) 0 defs₀ Variants.none L lv 0 osem0 own0
    Hs Sr (by decide) kit0 rfl (fun c => (body (Wm m) c).loose)
    (fun _ => 0) due0 (fun c => (show due0 c = 0 + due0 c from (zero_add _).symm)) (fun c => by show due c cfg0.N = 0; rw [show cfg0.N = 7 from N_0]; rfl) (fun _ => rfl) (share0 m)
    (Wm m) (Wn m) (rest0 m)
    (Tk m) Yk (Xk m) Yk (hopen0 m) (hin0 m) (hout0 m)
    (fun c => by iintro H; imodintro; iexact H)
    (fun _ => 0)
    ⟨fun c v s => by rw [L_tc]; decide, fun c v s => le_of_eq (stage_lv c v s), fun c t g i h => above_all c t.val g i h⟩
    (fun _ => iprop(emp))
    (fun c v => rfl) (arr_ends m)

/-- What rides beside the buffers up to the kernel. -/
def Eb (c : Dev nD) : sProp 𝕄 := iprop(Tk m c ∗ (∃ r, prngReg c r) ∗ ∃ R, owes (c : Thread nD τ) (due0 c) R)
/-- What rides beside them after it. -/
def Ea (c : Dev nD) : sProp 𝕄 := iprop(Yk c ∗ ∃ R, owes (c : Thread nD τ) (0 : CellTallies nD τ sig ℕ) R)
def E : Fin 2 → Dev nD → sProp 𝕄
  | 0 => Eb m
  | 1 => Ea

theorem arr_sub : Pipeline.arrRefs (τ := τ) spec0 ⊆ Pipeline.ucRefs τ sig :=
  Pipeline.arrRefs_sub_ucRefs spec0 (by decide)
theorem held_cut (c : Dev nD) (V : Valuation τ sig (Elt F)) : (StableHlo.held (c : Thread nD τ) (Pipeline.ucRefs τ sig) V : sProp 𝕄)
    = iprop(StableHlo.held (c : Thread nD τ) (Pipeline.arrRefs (τ := τ) spec0) V ∗ StableHlo.held (c : Thread nD τ) Sr V) :=
  StableHlo.held_sub_split (c : Thread nD τ) arr_sub V

theorem reg_pre (c : Dev nD) : iprop(StableHlo.held (c : Thread nD τ) (Pipeline.ucRefs τ sig) (V28 m c) ∗ E m 0 c) ⊢ (reg m).pre c := by
  show iprop(_ ∗ Eb m c) ⊢ iprop(StableHlo.held (c.tc : Thread nD τ) (Pipeline.arrRefs (τ := τ) spec0) (Wm m c) ∗ (∃ r, prngReg c r)
    ∗ (StableHlo.held (c.tc : Thread nD τ) Sr (Wm m c) ∗ emp) ∗ Tk m c ∗ ∃ Wd, owes (c : Thread nD τ) (0 + due0 c) Wd)
  rw [held_cut, zero_add]
  unfold Eb
  iintro ⟨⟨Ha, Hr⟩, HT, Hp, HO⟩
  iframe Ha Hp Hr HT HO

theorem reg_post (c : Dev nD) : (reg m).post c ⊢ iprop(StableHlo.held (c : Thread nD τ) (Pipeline.ucRefs τ sig) (Wn m c) ∗ E m 1 c) := by
  show iprop(StableHlo.held (c.tc : Thread nD τ) (Pipeline.arrRefs (τ := τ) spec0) (Wn m c) ∗ (∃ r, prngReg c r)
    ∗ (StableHlo.held (c.tc : Thread nD τ) Sr (Wn m c) ∗ emp) ∗ Yk c ∗ ∃ Wd, owes (c : Thread nD τ) (0 : CellTallies nD τ sig ℕ) Wd) ⊢ iprop(_ ∗ Ea c)
  rw [held_cut]
  unfold Ea
  iintro ⟨Ha, -, ⟨Hr, -⟩, HT, HO⟩
  iframe Ha Hr HT HO

/-! ## The launch -/

/-- The barriers of the devices. -/
def barE : Dev nD ↪ GSem nD τ sig := ⟨fun c => cell .bar c, fun _ _ h => congrArg (fun g : GSem nD τ sig => g.1.1) h⟩
/-- The semaphores of the kernel's own, on every device. -/
def ownE : Dev nD × {k : Kd // k ≠ Kd.bar} ↪ GSem nD τ sig :=
  ⟨fun p => cell p.2.1 p.1, fun a b h => Prod.ext (congrArg (fun g : GSem nD τ sig => g.1.1) h) (Subtype.ext (semOf_inj (congrArg Prod.snd h)))⟩
abbrev barG : Finset (GSem nD τ sig) := Finset.univ.map barE
abbrev ownG : Finset (GSem nD τ sig) := Finset.univ.map ownE

theorem apart : Disjoint barG ownG := by
  rw [Finset.disjoint_left]
  rintro g h₁ h₂
  obtain ⟨c, -, rfl⟩ := Finset.mem_map.mp h₁
  obtain ⟨p, -, h⟩ := Finset.mem_map.mp h₂
  exact p.2.2 (semOf_inj (congrArg Prod.snd h))
theorem cell_mem (p : Dev nD × Kd) : cell p.2 p.1 ∈ (barG ∪ ownG : Finset (GSem nD τ sig)) := by
  obtain ⟨c, k⟩ := p
  by_cases h : k = Kd.bar
  · subst h; exact Finset.mem_union_left _ (Finset.mem_map_of_mem barE (Finset.mem_univ c))
  · exact Finset.mem_union_right _ (Finset.mem_map_of_mem ownE (Finset.mem_univ (c, (⟨k, h⟩ : {k : Kd // k ≠ Kd.bar}))))

/-- One resource handed whole to the first device. -/
def atFirst (X : sProp 𝕄) (c : Dev nD) : sProp 𝕄 := if c = 0 then X else iprop(emp)
theorem atFirst_all (X : sProp 𝕄) : bigSep Finset.univ (atFirst X) = X := by
  rw [bigSep_univ_at _ (0 : Dev nD), bigSep_congr (s := Finset.univ.erase (0 : Dev nD)) (Ψ := fun _ => (BI.emp : sProp 𝕄))
      fun c hc => by unfold atFirst; rw [if_neg (Finset.ne_of_mem_erase hc)]; rfl, BI.bigSep_emp_const]
  unfold atFirst; rw [if_pos rfl]
  exact BI.equiv_iff.mp sep_emp

/-- What the protocol starts from. -/
def u₀ : UU :=
  (Rounds.initOf (Pipeline.cells (cfgs) cellOf_inj) (Pipeline.launchToks (cfgs) cellOf_inj), launchOf barG ownG payT)
def G : Dev nD → sProp 𝕄 := atFirst (BI.own (ER (launchOf barG ownG payT)))

/-- The invariants of all semaphores, and the barriers' first round. -/
def recs (κ : GSem nD τ sig → ℕ) : sProp 𝕄 :=
  iprop((bigSep (barG ∪ ownG) fun g => cellInv ER (Rd (wts (Wm m))) (κ g) g) ∗ bigSep barG fun g => reached ER g 0)
instance recs_persistent (κ : GSem nD τ sig → ℕ) : BI.Persistent (recs m κ) := by unfold recs; infer_instance
theorem recs_inv (κ : GSem nD τ sig → ℕ) : recs m κ ⊢ iprop(Inv (wts (Wm m)) κ ∗ bars) := by
  unfold recs Inv bars
  refine BI.sep_mono ?_ (Entails.of_eq (bigSep_map (s := Finset.univ) barE (Φ := fun g : GSem nD τ sig => (reached ER g 0 : sProp 𝕄))))
  exact bigSep_intro_persistent fun p _ => bigSep_elim (cell_mem p)

/-- A device's own share of what is dealt. -/
def own1 (c : Dev nD) : sProp 𝕄 :=
  iprop(atPos ER (cell .bar c) 0 ∅ 0 ∗ (bigSep (Finset.univ.erase Kd.bar) fun k => openTok ER (cell k c)) ∗ toks c)
/-- What else it has from the launch. -/
def own2 (c : Dev nD) : sProp 𝕄 :=
  iprop(StableHlo.held (c : Thread nD τ) (Pipeline.ucRefs τ sig) (V0 m c) ∗ creds c ∗ (∃ r, prngReg c r) ∗ ∃ R, owes (c : Thread nD τ) (due0 c) R)

theorem start_of (κ : GSem nD τ sig → ℕ) (c : Dev nD) :
    iprop(recs m κ ∗ (own1 c ∗ own2 m c)) ⊢ iprop(StableHlo.held (c : Thread nD τ) (Pipeline.ucRefs τ sig) (V0 m c) ∗ E m 0 c) := by
  show _ ⊢ iprop(_ ∗ Eb m c)
  refine (sep_mono_left (recs_inv m κ)).trans ?_
  unfold own1 own2 Eb Tk Kept
  iintro ⟨⟨HI, Hb⟩, ⟨Ha, Ho, Ht⟩, Hh, Hc, Hp, HO⟩
  iframe Hh Hp HO
  iexists κ
  iframe HI Hb Ha Ho Ht Hc

theorem init :
    iprop((bigSep Finset.univ fun c : Dev nD => iprop(unscopedBufs c (fun b => m ((c : Thread nD τ).loc b)) ∗ unscopedSems0 c
          ∗ owes (c : Thread nD τ) (due0 c) ∅ ∗ Pipeline.launchCred due0 c ∗ prngReg c (ρ c) ∗ G c)) ∗ levAts L lv)
      ⊢ (|={Set.univ}=> bigSep Finset.univ fun c : Dev nD => iprop(StableHlo.held (c : Thread nD τ) (Pipeline.ucRefs τ sig) (V0 m c) ∗ E m 0 c) : sProp 𝕄) := by
  have hone (c : Dev nD) : iprop(unscopedBufs c (fun b => m ((c : Thread nD τ).loc b)) ∗ unscopedSems0 c
        ∗ owes (c : Thread nD τ) (due0 c) ∅ ∗ Pipeline.launchCred due0 c ∗ prngReg c (ρ c) ∗ G c)
      ⊢ (iprop(own2 m c ∗ (semVal (cell .bar c) 0 ∗ G c)) : sProp 𝕄) := by
    rw [show (unscopedBufs c (fun b => m ((c : Thread nD τ).loc b)) : sProp 𝕄) = StableHlo.held (c : Thread nD τ) (Pipeline.ucRefs τ sig) (V0 m c) from
      Pipeline.unscopedBufs_held c (V0 m c), unscoped_eq]
    unfold own2
    iintro ⟨Hh, Hu, HO, Hc, Hp, HG⟩
    ihave Hc := (creds_of (F := F) c) $$ Hc
    iframe Hh Hc Hu HG
    isplitl [Hp]
    · iexists (ρ c); iexact Hp
    iexists ∅; iexact HO
  have hv : bigSep Finset.univ (fun c : Dev nD => (semVal (cell .bar c) 0 : sProp 𝕄)) ⊢ bigSep barG (fun g => (semVal g 0 : sProp 𝕄)) :=
    Entails.of_eq (bigSep_map (s := Finset.univ) barE (Φ := fun g : GSem nD τ sig => (semVal g 0 : sProp 𝕄))).symm
  have hat : bigSep barG (fun g => (atPos ER g 0 ∅ 0 : sProp 𝕄)) ⊢ bigSep Finset.univ (fun c : Dev nD => (atPos ER (cell .bar c) 0 ∅ 0 : sProp 𝕄)) :=
    Entails.of_eq (bigSep_map (s := Finset.univ) barE (Φ := fun g : GSem nD τ sig => (atPos ER g 0 ∅ 0 : sProp 𝕄)))
  have hop : bigSep ownG (fun g => (openTok ER g : sProp 𝕄))
      ⊢ bigSep Finset.univ (fun c : Dev nD => (bigSep (Finset.univ.erase Kd.bar) fun k => openTok ER (cell k c) : sProp 𝕄)) :=
    Entails.of_eq (by
      rw [bigSep_map, bigSep_univ_prod (fun p : Dev nD × {k : Kd // k ≠ Kd.bar} => (openTok ER (ownE p) : sProp 𝕄))]
      refine bigSep_congr fun c _ => ?_
      rw [show (Finset.univ.erase Kd.bar : Finset Kd) = Finset.univ.map (Function.Embedding.subtype fun k : Kd => k ≠ Kd.bar) from by decide, bigSep_map]
      rfl)
  have hall : iprop((bigSep Finset.univ fun c : Dev nD => iprop(unscopedBufs c (fun b => m ((c : Thread nD τ).loc b)) ∗ unscopedSems0 c
          ∗ owes (c : Thread nD τ) (due0 c) ∅ ∗ Pipeline.launchCred due0 c ∗ prngReg c (ρ c) ∗ G c)) ∗ levAts L lv)
      ⊢ (iprop((bigSep Finset.univ (own2 m)) ∗ (bigSep Finset.univ fun c : Dev nD => semVal (cell .bar c) 0) ∗ bigSep Finset.univ (G (F := F))) : sProp 𝕄) := by
    rw [← bigSep_sep', ← bigSep_sep']
    exact sep_elim_left.trans (bigSep_mono fun c _ => hone c)
  refine hall.trans ?_
  iintro ⟨HB, Hv, HG⟩
  ihave Hu := (show bigSep Finset.univ (G (F := F)) ⊢ BI.own (ER (launchOf barG ownG payT)) from
    Entails.of_eq (atFirst_all (F := F) (BI.own (ER (launchOf barG ownG payT))))) $$ HG
  imod (Rounds.fund_launch ER (Rd (wts (Wm m))) apart (fun g _ h => h) payT) $$ [Hv Hu] with ⟨%κ, -, #Hinv, #Hr, Hat, Hopen, Htok⟩
  · isplitl [Hv]
    · iapply hv $$ Hv
    · iexact Hu
  imodintro
  iapply (bigSep_with_persistent (R := recs m κ) (Φ := fun c => iprop(own1 c ∗ own2 m c)) fun c _ => start_of m κ c)
  isplitr
  · unfold recs
    isplitr; · iexact Hinv
    iexact Hr
  iapply (Entails.of_eq (show iprop(((bigSep Finset.univ fun c : Dev nD => atPos ER (cell .bar c) 0 ∅ 0)
      ∗ (bigSep Finset.univ fun c : Dev nD => bigSep (Finset.univ.erase Kd.bar) fun k => openTok ER (cell k c)) ∗ bigSep Finset.univ fun c : Dev nD => toks c)
      ∗ bigSep Finset.univ (own2 m)) = (bigSep Finset.univ fun c : Dev nD => iprop(own1 c ∗ own2 m c) : sProp 𝕄) from by
    unfold own1; rw [bigSep_sep', bigSep_sep', bigSep_sep']))
  isplitr [HB]
  · isplitl [Hat]; · iapply hat $$ Hat
    isplitl [Hopen]; · iapply hop $$ Hopen
    iapply (Entails.of_eq (toks_deal (F := F))) $$ Htok
  · iexact HB

/-! ## The run -/

def Tn (c : Dev nD) : sProp 𝕄 := iprop(StableHlo.held (c : Thread nD τ) (Pipeline.ucRefs τ sig) (Wn m c) ∗ semVal (cell .bar c) 0)

theorem at_end (c : Dev nD) (s' : Phys nD τ sig (Elt F)) : iprop(Tn m c ∗ SI s')
    ⊢ (|={Set.univ}=> iprop(⌜(∀ b ∈ Pipeline.ucRefs τ sig, s'.mem.mem (c, b) = Wn m c b) ∧ s'.mem.sem (cell .bar c) = 0⌝ ∗ SI s') : sProp 𝕄) := by
  unfold Tn StableHlo.held
  iintro ⟨⟨Hh, Hb⟩, HSI⟩
  ihave Hr := (pointsTo_read_all (Pipeline.ucRefs τ sig) (fun b => ((c : Thread nD τ).1, b)) (Wn m c) s') $$ [Hh HSI]
  · isplitl [Hh] <;> iassumption
  icases Hr with ⟨%h, HSI⟩
  icombine HSI Hb gives %hb
  imodintro
  isplitr
  · ipureintro
    exact ⟨fun b hb => h b hb, by simpa using hb⟩
  iexact HSI

theorem uc_mem (r : Ref sig .tc) (h : r.isScoped = false) : (Proc.devRef .tc r : DevRef τ sig) ∈ Pipeline.ucRefs τ sig :=
  Finset.mem_filter.mpr ⟨StableHlo.devRef_mem_tcRefs r, by simpa using h⟩

set_option backward.isDefEq.respectTransparency.types false in
/-- The run of the program on all devices: it ends, with every argument as it was, the result as the pipeline leaves it,
    and every semaphore at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v88) = (dat (Wm m) c).arrAt 3 cfg0.N) ∧ r.2.sem = fun _ => 0) := by
  refine Pipeline.θ_run_regions_kit_dev_sems (pcfgs (F := F)) adm (pdats m) 0 cellOf_inj EP defs₀ Variants.none L lv m ρ main
    (segs m Variants.none L lv (E m) 0 (pdats m) (reg m))
    (fun c Q => by
      rewrite [main_chain c, Pipeline.Seg.run_eq_chain,
        show (segs m Variants.none L lv (E m) 0 (pdats m) (reg m) c).map Pipeline.Seg.prog = [
          StableHlo.seq hostOps0, StableHlo.seq hostOps0_1, StableHlo.seq hostOps0_2, StableHlo.seq hostOps0_3, StableHlo.seq hostOps0_4,
          StableHlo.seq hostOps0_5, StableHlo.seq hostOps0_6, StableHlo.seq hostOps0_7, StableHlo.seq (hostOps0_8 c), StableHlo.seq hostOps0_9,
          StableHlo.seq hostOps0_10, StableHlo.seq hostOps0_11, StableHlo.seq hostOps0_12, StableHlo.seq hostOps0_13, StableHlo.seq hostOps0_14,
          StableHlo.seq hostOps0_15, StableHlo.seq hostOps0_16, StableHlo.seq hostOps0_17, StableHlo.seq hostOps0_18, StableHlo.seq hostOps0_19,
          StableHlo.seq hostOps0_20, StableHlo.seq hostOps0_21, StableHlo.seq hostOps0_22, StableHlo.seq hostOps0_23, StableHlo.seq hostOps0_24,
          StableHlo.seq hostOps0_25, StableHlo.seq hostOps0_26, StableHlo.seq hostOps0_27,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    due0 L_of_ne G u₀ ?_
    (T₀ := fun c => iprop(StableHlo.held (c : Thread nD τ) (Pipeline.ucRefs τ sig) (V0 m c) ∗ E m 0 c))
    (Tₙ := Tn m)
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
      reg_pre m c, (reg_post m c).trans ?_⟩)
    (hinit := init m ρ) (QY := fun c s => (∀ b ∈ Pipeline.ucRefs τ sig, s.mem (c, b) = Wn m c b) ∧ s.sem (cell .bar c) = 0)
    (hfin := at_end m) (hQ := fun s h hs => ⟨fun c => ?_, ?_⟩)
  · unfold u₀ G
    iintro Hu
    ihave H := (ownU_pair _ _) $$ Hu
    icases H with ⟨HP, HX⟩
    imodintro
    isplitl [HP]; · iexact HP
    rw [atFirst_all]; iexact HX
  · show iprop(_ ∗ Ea c) ⊢ iprop(Tn m c ∗ _)
    unfold Ea Tn Yk
    iintro ⟨Hh, Hb, HO⟩
    iframe Hh Hb HO
  · have hm := (h c).1
    exact ⟨(hm _ (uc_mem main_arg0 (by decide))).trans (V29_main_arg0 m (outs m) c), (hm _ (uc_mem main_arg1 (by decide))).trans (V29_main_arg1 m (outs m) c),
      (hm _ (uc_mem main_arg2 (by decide))).trans (V29_main_arg2 m (outs m) c), (hm _ (uc_mem main_arg3 (by decide))).trans (V29_main_arg3 m (outs m) c),
      (hm _ (uc_mem main_v88 (by decide))).trans (Wn_88 m c)⟩
  · refine sem_eq_zero hs fun c sm hsm => ?_
    obtain rfl := unscoped_one sm hsm
    exact (h c).2

end Run

end Cert.MoeProof
-- ==== Proof.Same.lean ====
/-
  The two versions of the kernel are one text: each definition of the one is the other's, part by part.
-/
module

public import proofs.«01_k».proof.Proof.Gen.KernelIdeal
public import proofs.«01_k».proof.Proof.Gen.Kernel
public import Idealize.ShloMosaic.PureOps.BitExact

@[expose] public section

set_option maxHeartbeats 0
set_option synthInstance.maxHeartbeats 0
set_option maxRecDepth 10000

noncomputable section

namespace Cert.MoeProof

open Idealize.ShloMosaic Idealize.SL.Sem

/-- The bodies. -/
theorem body_same : Cert.Kernel.cc0_body (F := Bits) = Cert.KernelIdeal.cc0_body (F := Bits) := rfl

/-- The tables of bodies. -/
theorem defs₀_same : Cert.Kernel.defs₀ (F := Bits) = Cert.KernelIdeal.defs₀ (F := Bits) := by
  unfold Cert.Kernel.defs₀ Cert.KernelIdeal.defs₀
  refine congrArg (Defs.onTc (nD := 8) (τ := Cert.KernelIdeal.τ) (sig := Cert.KernelIdeal.sig) (Λ := Cert.KernelIdeal.Λ₀)) ?_
  funext ℓ a
  match ℓ, a with
  | 0, (t, s) => rfl

/-- The tables the programs run under. -/
theorem defs_same : Cert.Kernel.defs (F := Bits) = Cert.KernelIdeal.defs (F := Bits) := by
  unfold Cert.Kernel.defs Cert.KernelIdeal.defs
  rw [defs₀_same]
  rfl

/-- The host programs' three parts, and the host programs. -/
theorem part2_same : Cert.Kernel.main_part2 (F := Bits) = Cert.KernelIdeal.main_part2 (F := Bits) := rfl
theorem part0_same : Cert.Kernel.main_part0 (F := Bits) = Cert.KernelIdeal.main_part0 (F := Bits) := rfl
theorem part1_same : Cert.Kernel.main_part1 (F := Bits) = Cert.KernelIdeal.main_part1 (F := Bits) := rfl
theorem main_same : Cert.Kernel.main (F := Bits) = Cert.KernelIdeal.main (F := Bits) := by
  unfold Cert.Kernel.main Cert.KernelIdeal.main
  rw [part0_same, part1_same, part2_same]
  rfl

end Cert.MoeProof

end
-- ==== Proof.Frames.lean ====
/-
  The claims that the programs run: both versions of the kernel from the one run over any floats, and the reference,
  which is a host program and declares no semaphore.
-/
module

public import proofs.«01_k».proof.Defs
public import proofs.«01_k».proof.Proof.Run
public import proofs.«01_k».proof.Proof.Same
public import proofs.«01_k».proof.Proof.Gen.Kernel
public import proofs.«01_k».proof.Proof.Gen.ReferenceIdeal.Run

@[expose] public section

noncomputable section

namespace Cert.MoeProof

open Idealize.ShloMosaic Idealize.SL.Sem

open Cert.KernelIdeal in
/-- The run as the claims put it: the arguments as they were and every counter at zero, over any floats. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono
    (fun _ h => ⟨fun c => ⟨(h.1 c).1, (h.1 c).2.1, (h.1 c).2.2.1, (h.1 c).2.2.2.1⟩, h.2⟩)
    (run_main (F := F) m ρ)

/-- The kernel over ideal floats runs, leaves its arguments alone and ends with every counter at zero. -/
theorem frame_kernelIdeal : Cert.quiescent_KernelIdeal := fun m ρ _ => run_frame (F := Ideal) m ρ

/-- The same over machine floats: the two programs are one text. -/
theorem frame_kernel : Cert.quiescent_Kernel := fun m ρ _ => by
  rw [defs_same, main_same]
  exact run_frame (F := Bits) m ρ

/-- The reference runs and leaves its arguments alone; no semaphore is declared. -/
theorem frame_reference : Cert.quiescent_ReferenceIdeal :=
  fun m ρ _ => (θ_run Cert.ReferenceIdeal.defs _ _).mono
    (fun r h => ⟨fun c => (h c).2, sem_eq_zero_of_no_sems rfl r.2⟩)
    (Cert.ReferenceIdeal.Value.run m ρ)

end Cert.MoeProof

end
-- ==== Proof.HostIdx.lean ====
/-
  What the host code before the kernel leaves: the gates of every token, the tables of the blocks that a device meets,
  the gates in the order of the steps, and the operands narrowed.
-/
module

public import proofs.«01_k».proof.Proof.Gen.KernelIdeal.Regions
public import proofs.«01_k».proof.Proof.Sched
public import Idealize.ShloMosaic.Lib.Pointwise
public import Idealize.ShloMosaic.Lib.ReduceAll

@[expose] public section

noncomputable section

namespace Cert.MoeProof

open Cert.KernelIdeal Cert.KernelIdeal.Gen Cert.KernelIdeal.Facts
open Idealize.ShloMosaic
open Idealize.ShloMosaic.TcCoe

/-! ## The functions the host code computes -/

/-- A scalar at each of the seven steps. -/
def at7 {w : ℕ} (v : IVec S_ w) : IVec S7 w := broadcastInDim S7 ![] bcast_S_S7 v
/-- A divisor, one in place of zero. -/
def nz (d : IVec S_ 32) : IVec S_ 32 := select (cmpi .eq (id d) (constantI S_ 32 0#32)) (constantI S_ 32 1#32) (id d)
/-- The remainder with the divisor's sign, of a scalar and of the seven steps' values. -/
def remS (x d : IVec S_ 32) : IVec S_ 32 :=
  select (andi (cmpi .ne (cmpi .slt (Host.remsi x (nz d)) (constantI S_ 32 0#32)) (cmpi .slt (nz d) (constantI S_ 32 0#32)))
    (cmpi .ne (Host.remsi x (nz d)) (constantI S_ 32 0#32))) (addi (Host.remsi x (nz d)) (nz d)) (Host.remsi x (nz d))
def remV (x : IVec S7 32) (d : IVec S_ 32) : IVec S7 32 :=
  select (andi (cmpi .ne (cmpi .slt (Host.remsi x (at7 (nz d))) (at7 (constantI S_ 32 0#32))) (at7 (cmpi .slt (nz d) (constantI S_ 32 0#32))))
    (cmpi .ne (Host.remsi x (at7 (nz d))) (at7 (constantI S_ 32 0#32)))) (addi (Host.remsi x (at7 (nz d))) (at7 (nz d))) (Host.remsi x (at7 (nz d)))

/-- The device's number, its place in its ring, and the ring's first device. -/
def myK (c : Dev nD) : IVec S_ 32 := id (Host.remui (Host.divui (constantI S_ 32 (Dev.word c)) (constantI S_ 32 1#32)) (constantI S_ 32 8#32))
def posK (c : Dev nD) : IVec S_ 32 := remS (myK c) (constantI S_ 32 4#32)
def baseK (c : Dev nD) : IVec S_ 32 := subi (myK c) (posK c)
/-- The hops of a step, and the rings' distance at it. -/
def hopK : IVec S7 32 := select (cmpi .sle (iotaInDim S7 32 0) (at7 (constantI S_ 32 3#32))) (iotaInDim S7 32 0) (subi (iotaInDim S7 32 0) (at7 (constantI S_ 32 3#32)))
def farK : IVec S7 32 := select (cmpi .sle (iotaInDim S7 32 0) (at7 (constantI S_ 32 3#32))) (at7 (constantI S_ 32 0#32)) (at7 (constantI S_ 32 4#32))
/-- The devices whose top halves, whose bottom halves, a device meets at the steps; the device it exchanges with. -/
def topK (c : Dev nD) : IVec S7 32 :=
  remV (addi (addi (at7 (baseK c)) (remV (subi (at7 (posK c)) hopK) (constantI S_ 32 4#32))) (id farK)) (constantI S_ 32 8#32)
def botK (c : Dev nD) : IVec S7 32 :=
  remV (addi (addi (at7 (baseK c)) (remV (addi (at7 (posK c)) hopK) (constantI S_ 32 4#32))) (id farK)) (constantI S_ 32 8#32)
def exK (c : Dev nD) : IVec S_ 32 := remS (addi (myK c) (constantI S_ 32 4#32)) (constantI S_ 32 8#32)

/-- The gates of the blocks that a table names: the table's rows as start indices, whether each is in range, the rows taken. -/
def rowsK (i : IVec S7 32) : IVec S7x1 32 :=
  broadcastInDim S7x1 ![0] bcast_S7_S7x1_0 (select (cmpi .slt i (at7 (constantI S_ 32 0#32))) (addi i (at7 (constantI S_ 32 8#32))) i)
def okK (j : IVec S7x1 32) : IVec S7 1 :=
  Host.reduce IntOp.andi (andi (cmpi .sge j (broadcastInDim S7x1 ![] bcast_S_S7x1 (constantI S_ 32 0#32)))
    (cmpi .sle j (broadcastInDim S7x1 ![0, 1] bcast_S1x1_S7x1_0_1 (broadcastInDim S1x1 ![1] bcast_S1_S1x1_1 (constantI S1 32 7#32)))))
    (constantI S_ 1 1#1) reducesTo_S7x1_S7_d1 h_S_
def takeK {F : FTy → Type} [FloatOps F] (x : FVec F S2048x8x8 .f32) (i : IVec S7 32) : FVec F S2048x7x8 .f32 :=
  select (broadcastInDim S2048x7x8 ![1] bcast_S7_S2048x7x8_1 (okK (rowsK i)))
    (Host.gather gather_S2048x8x8_S7x1_S2048x7x8_02_1_n_n_1_1_204818 x (rowsK i))
    (broadcastInDim S2048x7x8 ![] bcast_S_S2048x7x8 (constant S_ .f32 0x7FC00000#32))

section
variable {F : FTy → Type} [FloatOps F]
variable (V : Valuation τ sig (Elt F))

theorem s8 (c : Dev nD) : StableHlo.after (hostOps0_8 c) V main_v38 = (myK c : S_.Idx → BitVec 32) := by
  after_results; rfl
theorem s9 (c : Dev nD) : StableHlo.after hostOps0_9 (StableHlo.after (hostOps0_8 c) V) main_v39 = (posK c : S_.Idx → BitVec 32) := by
  after_results; rfl
theorem s10 : StableHlo.after hostOps0_10 V main_v40 = (subi (V main_v38 : S_.Idx → BitVec 32) (V main_v39) : S_.Idx → BitVec 32) := by
  after_results
theorem s11 : StableHlo.after hostOps0_11 (StableHlo.after hostOps0_10 V) main_v46 = (hopK : S7.Idx → BitVec 32) := by
  after_results; rfl
theorem s13 : StableHlo.after hostOps0_13 (StableHlo.after hostOps0_12 (StableHlo.after hostOps0_11 (StableHlo.after hostOps0_10 V))) main_v49 = (farK : S7.Idx → BitVec 32) := by
  after_results; rfl
theorem s15 : StableHlo.after hostOps0_15 (StableHlo.after hostOps0_14 V) main_v52
    = (remV (subi (at7 (V main_v39)) (V main_v46)) (constantI S_ 32 4#32) : S7.Idx → BitVec 32) := by
  after_results; rfl
theorem s17 : StableHlo.after hostOps0_17 (StableHlo.after hostOps0_16 V) main_v57
    = (remV (addi (addi (at7 (V main_v40)) (V main_v52)) (id (V main_v49))) (constantI S_ 32 8#32) : S7.Idx → BitVec 32) := by
  after_results; rfl
theorem s19 : StableHlo.after hostOps0_19 (StableHlo.after hostOps0_18 V) main_v60
    = (remV (addi (at7 (V main_v39)) (V main_v46)) (constantI S_ 32 4#32) : S7.Idx → BitVec 32) := by
  after_results; rfl
theorem s21 : StableHlo.after hostOps0_21 (StableHlo.after hostOps0_20 V) main_v65
    = (remV (addi (addi (at7 (V main_v40)) (V main_v60)) (id (V main_v49))) (constantI S_ 32 8#32) : S7.Idx → BitVec 32) := by
  after_results; rfl
theorem s26 : StableHlo.after hostOps0_26 (StableHlo.after hostOps0_25 V) main_v72
    = (remS (addi (V main_v38) (constantI S_ 32 4#32)) (constantI S_ 32 8#32) : S_.Idx → BitVec 32) := by
  after_results; rfl
theorem s23 : StableHlo.after hostOps0_23 V main_v67 = (takeK (V main_v66) (V main_v57) : S2048x7x8.Idx → F .f32) := by
  after_results; rfl
theorem s24 : StableHlo.after hostOps0_24 V main_v68 = (takeK (V main_v66) (V main_v65) : S2048x7x8.Idx → F .f32) := by
  after_results; rfl
theorem s25 : StableHlo.after hostOps0_25 V main_v70 = (transpose S7x2048x16 [1, 0, 2]
    (concatenate S2048x7x16 2 [⟨S2048x7x8, (V main_v67 : S2048x7x8.Idx → F .f32)⟩, ⟨S2048x7x8, (V main_v68 : S2048x7x8.Idx → F .f32)⟩] concatenates_S2048x7x8_S2048x7x8_S2048x7x16_d2)
    transposes_S2048x7x16_S7x2048x16_1_0_2 : S7x2048x16.Idx → F .f32) := by
  after_results

end

/-! ## The tables, device by device -/

theorem topK_eq : ∀ (c : Dev nD) (s : Fin 7), topK c (ix1 s) = BitVec.ofNat 32 (srcDev true s.val c).val := by decide +kernel
theorem botK_eq : ∀ (c : Dev nD) (s : Fin 7), botK c (ix1 s) = BitVec.ofNat 32 (srcDev false s.val c).val := by decide +kernel
theorem exK_eq : ∀ (c : Dev nD) (j : S_.Idx), exK c j = BitVec.ofNat 32 (zp c).val := by decide +kernel

/-! ## The rows taken -/

theorem gather_apply {α : Type} (x : S2048x8x8.Idx → α) (i : IVec S7x1 32) (n : Fin 2048) (s : Fin 7) (e : Fin 8) :
    Host.gather gather_S2048x8x8_S7x1_S2048x7x8_02_1_n_n_1_1_204818 x i (ix3 n s e)
      = x (ix3 n ⟨min (i (ix2 s 0)).toInt.toNat 7, by omega⟩ e) := by
  unfold Host.gather
  refine congrArg x (funext fun a => Fin.ext ?_)
  have hsi : ∀ k, GatherDims.siIdx gather_S2048x8x8_S7x1_S2048x7x8_02_1_n_n_1_1_204818 (ix3 n s e) k = ix2 s 0 := by
    intro k
    funext b
    match b with
    | 0 => rfl
    | 1 => exact Subsingleton.elim (α := Fin 1) _ _
  match a with
  | 0 =>
    show 0 + 0 + n.val = n.val
    omega
  | 1 =>
    show min (i (GatherDims.siIdx gather_S2048x8x8_S7x1_S2048x7x8_02_1_n_n_1_1_204818 (ix3 n s e) _)).toInt.toNat 7 + 0 + 0 = min (i (ix2 s 0)).toInt.toNat 7
    rw [hsi]; rfl
  | 2 =>
    show 0 + 0 + e.val = e.val
    omega

theorem rowsK_apply (i : IVec S7 32) (s : Fin 7) (d : Fin 8) (hi : i (ix1 s) = BitVec.ofNat 32 d.val) : rowsK i (ix2 s 0) = BitVec.ofNat 32 d.val := by
  have e : rowsK i (ix2 s 0) = Scalar.select (IntOp.cmpi .slt (i (ix1 s)) 0#32) (IntOp.addi (i (ix1 s)) 8#32) (i (ix1 s)) := by
    pointwise [rowsK, at7]
  rw [e, hi]
  have key : ∀ d : Fin 8, Scalar.select (IntOp.cmpi .slt (BitVec.ofNat 32 d.val) 0#32) (IntOp.addi (BitVec.ofNat 32 d.val) 8#32) (BitVec.ofNat 32 d.val) = BitVec.ofNat 32 d.val := by decide
  exact key d

theorem takeK_apply {F : FTy → Type} [FloatOps F] (x : FVec F S2048x8x8 .f32) (i : IVec S7 32) (f : Fin 7 → Fin 8) (hi : ∀ s, i (ix1 s) = BitVec.ofNat 32 (f s).val)
    (n : Fin 2048) (s : Fin 7) (e : Fin 8) : takeK x i (ix3 n s e) = x (ix3 n (f s) e) := by
  have hr : ∀ s : Fin 7, rowsK i (ix2 s 0) = BitVec.ofNat 32 (f s).val := fun s => rowsK_apply i s (f s) (hi s)
  have hok : okK (rowsK i) (ix1 s) = 1#1 := by
    unfold okK
    refine Host.reduce_andi_one _ _ _ _ _ rfl fun j => ?_
    obtain ⟨s', z, rfl⟩ : ∃ (s' : Fin 7) (z : Fin 1), j = ix2 s' z := ⟨j 0, j 1, by funext a; match a with | 0 => rfl | 1 => rfl⟩
    obtain rfl : z = 0 := Subsingleton.elim _ _
    have key : ∀ d : Fin 8, IntOp.andi (IntOp.cmpi .sge (BitVec.ofNat 32 d.val) 0#32) (IntOp.cmpi .sle (BitVec.ofNat 32 d.val) 7#32) = 1#1 := by decide
    have e1 : andi (cmpi .sge (rowsK i) (broadcastInDim S7x1 ![] bcast_S_S7x1 (constantI S_ 32 0#32)))
        (cmpi .sle (rowsK i) (broadcastInDim S7x1 ![0, 1] bcast_S1x1_S7x1_0_1 (broadcastInDim S1x1 ![1] bcast_S1_S1x1_1 (constantI S1 32 7#32)))) (ix2 s' 0)
        = IntOp.andi (IntOp.cmpi .sge (rowsK i (ix2 s' 0)) 0#32) (IntOp.cmpi .sle (rowsK i (ix2 s' 0)) 7#32) := rfl
    rw [e1, hr]
    exact key _
  have e0 : takeK x i (ix3 n s e) = Scalar.select (okK (rowsK i) (ix1 s))
      (Host.gather gather_S2048x8x8_S7x1_S2048x7x8_02_1_n_n_1_1_204818 x (rowsK i) (ix3 n s e)) (FloatOps.ofBits .f32 0x7FC00000#32) := by
    pointwise [takeK]
  rw [e0, hok, gather_apply]
  show x _ = x _
  refine congrArg (fun d => x (ix3 n d e)) (Fin.ext ?_)
  show min (rowsK i (ix2 s 0)).toInt.toNat 7 = (f s).val
  rw [hr]
  have key : ∀ d : Fin 8, min (BitVec.ofNat 32 d.val).toInt.toNat 7 = d.val := by decide
  exact key _

end Cert.MoeProof
end
-- ==== Proof.Math.lean ====
/-
  Arithmetic on the extended reals: a row's gates from its scores, and the sum over devices, experts and halves that
  the gates reduce to the two chosen experts.
-/
module

public import Idealize.ShloMosaic.PureOps.Ideal

@[expose] public section

noncomputable section

namespace Cert.MoeProof

open Idealize.ShloMosaic

/-! ## Gates of a row -/

/-- The row's exponentials, each score less the row's greatest. -/
def rowExp (s : Fin 64 → EReal) (E : Fin 64) : EReal := Ideal.exp (s E - Finset.fold max ⊥ s Finset.univ)
/-- The row's probabilities. -/
def rowProb (s : Fin 64 → EReal) (E : Fin 64) : EReal := Ideal.div (rowExp s E) (∑ E', rowExp s E')
/-- The first expert's share of the two chosen. -/
def share (s : Fin 64 → EReal) (a b : Fin 64) : EReal := Ideal.div (rowProb s a) (rowProb s a + rowProb s b)

/-- The second expert's. -/
def share2 (s : Fin 64 → EReal) (a b : Fin 64) : EReal := Ideal.div (rowProb s b) (rowProb s a + rowProb s b)

/-- A positive real. -/
def Pos (x : EReal) : Prop := ∃ r : ℝ, 0 < r ∧ x = (r : EReal)

theorem Pos.add {x y : EReal} (hx : Pos x) (hy : Pos y) : Pos (x + y) := by
  obtain ⟨r, hr, rfl⟩ := hx
  obtain ⟨t, ht, rfl⟩ := hy
  exact ⟨r + t, add_pos hr ht, (EReal.coe_add r t).symm⟩

theorem Pos.div {x y : EReal} (hx : Pos x) (hy : Pos y) : Pos (Ideal.div x y) := by
  obtain ⟨r, hr, rfl⟩ := hx
  obtain ⟨t, ht, rfl⟩ := hy
  refine ⟨r * (1 / t), mul_pos hr (one_div_pos.2 ht), ?_⟩
  rw [Ideal.div_coe ht.ne', EReal.coe_mul]

theorem Pos.sum {ι : Type} (s : Finset ι) (hs : s.Nonempty) (f : ι → EReal) (h : ∀ i, Pos (f i)) : Pos (∑ i ∈ s, f i) := by
  classical
  induction hs using Finset.Nonempty.cons_induction with
  | singleton a => rw [Finset.sum_singleton]; exact h a
  | cons a s ha hs ih => rw [Finset.sum_cons]; exact (h a).add ih

theorem Pos.nonneg {x : EReal} (h : Pos x) : 0 ≤ x := by
  obtain ⟨r, hr, rfl⟩ := h
  exact EReal.coe_nonneg.2 hr.le

theorem Pos.ne_top {x : EReal} (h : Pos x) : x ≠ ⊤ := by
  obtain ⟨r, hr, rfl⟩ := h
  exact EReal.coe_ne_top r

theorem rowExp_pos (s : Fin 64 → EReal) (h : ∀ E, ∃ r : ℝ, s E = (r : EReal)) (E : Fin 64) : Pos (rowExp s E) := by
  have hlt : Finset.fold max ⊥ s Finset.univ < ⊤ := by
    rw [Finset.fold_max_lt]
    refine ⟨bot_lt_top, fun E _ => ?_⟩
    obtain ⟨r, hr⟩ := h E
    rw [hr]; exact EReal.coe_lt_top r
  have hgt : ⊥ < Finset.fold max ⊥ s Finset.univ := by
    obtain ⟨r, hr⟩ := h E
    refine lt_of_lt_of_le (EReal.bot_lt_coe r) ?_
    rw [Finset.le_fold_max]
    exact Or.inr ⟨E, Finset.mem_univ _, hr.ge⟩
  obtain ⟨M, hM⟩ : ∃ M : ℝ, Finset.fold max ⊥ s Finset.univ = (M : EReal) :=
    ⟨(Finset.fold max ⊥ s Finset.univ).toReal, (EReal.coe_toReal hlt.ne hgt.ne').symm⟩
  obtain ⟨r, hr⟩ := h E
  refine ⟨Real.exp (r - M), Real.exp_pos _, ?_⟩
  rw [rowExp, hM, hr, ← EReal.coe_sub, Ideal.exp_coe]

theorem rowProb_pos (s : Fin 64 → EReal) (h : ∀ E, ∃ r : ℝ, s E = (r : EReal)) (E : Fin 64) : Pos (rowProb s E) :=
  (rowExp_pos s h E).div (Pos.sum _ Finset.univ_nonempty _ fun E' => rowExp_pos s h E')
theorem share_pos (s : Fin 64 → EReal) (h : ∀ E, ∃ r : ℝ, s E = (r : EReal)) (a b : Fin 64) : Pos (share s a b) :=
  (rowProb_pos s h a).div ((rowProb_pos s h a).add (rowProb_pos s h b))
theorem share2_pos (s : Fin 64 → EReal) (h : ∀ E, ∃ r : ℝ, s E = (r : EReal)) (a b : Fin 64) : Pos (share2 s a b) :=
  (rowProb_pos s h b).div ((rowProb_pos s h a).add (rowProb_pos s h b))

/-- The gate of expert `E` in a row whose two choices are `a` and `b`. -/
def gate (s : Fin 64 → EReal) (a b E : Fin 64) : EReal := (if E = a then share s a b else 0) + (if E = b then share2 s a b else 0)

/-! ## Sums -/

theorem mul_sum_of_pos {ι : Type} (s : Finset ι) (f : ι → EReal) {c : EReal} (h : 0 ≤ c) (h' : c ≠ ⊤) : ∑ i ∈ s, c * f i = c * ∑ i ∈ s, f i := by
  classical
  induction s using Finset.cons_induction with
  | empty => simp
  | cons a s ha ih => rw [Finset.sum_cons, Finset.sum_cons, ih, EReal.left_distrib_of_nonneg_of_ne_top h h']

theorem sum_halves (f : Fin 512 → EReal) :
    ∑ k, f k = (∑ k : Fin 256, f ⟨k.val, by omega⟩) + ∑ k : Fin 256, f ⟨256 + k.val, by omega⟩ :=
  Fin.sum_univ_add (a := 256) (b := 256) f

/-- Expert `e` of device `i`, among all. -/
def pairE (i e : Fin 8) : Fin 64 := ⟨i.val * 8 + e.val, by omega⟩

theorem sum_pairs (f : Fin 64 → EReal) : ∑ i : Fin 8, ∑ e : Fin 8, f (pairE i e) = ∑ E, f E := by
  rw [← Fintype.sum_prod_type' (f := fun i e => f (pairE i e))]
  refine Fintype.sum_equiv (finProdFinEquiv (m := 8) (n := 8)) _ _ fun p => congrArg f (Fin.ext ?_)
  show p.1.val * 8 + p.2.val = p.2.val + 8 * p.1.val
  omega

/-- Gated sums over every expert come to the two chosen, each scaled once. -/
theorem combine (x : Fin 512 → EReal) (w : Fin 64 → Fin 512 → EReal) (a b : Fin 64) {c d : EReal}
    (hc : 0 ≤ c) (hc' : c ≠ ⊤) (hd : 0 ≤ d) (hd' : d ≠ ⊤) (G : Fin 64 → EReal)
    (hG : ∀ E, G E = (if E = a then c else 0) + (if E = b then d else 0)) :
    (∑ i : Fin 8, ∑ e : Fin 8, ∑ k : Fin 256, x ⟨k.val, by omega⟩ * G (pairE i e) * w (pairE i e) ⟨k.val, by omega⟩)
      + (∑ i : Fin 8, ∑ e : Fin 8, ∑ k : Fin 256, x ⟨256 + k.val, by omega⟩ * G (pairE i e) * w (pairE i e) ⟨256 + k.val, by omega⟩)
      = c * (∑ k, x k * w a k) + d * ∑ k, x k * w b k := by
  rw [sum_pairs (fun E => ∑ k : Fin 256, x ⟨k.val, by omega⟩ * G E * w E ⟨k.val, by omega⟩),
    sum_pairs (fun E => ∑ k : Fin 256, x ⟨256 + k.val, by omega⟩ * G E * w E ⟨256 + k.val, by omega⟩), ← Finset.sum_add_distrib]
  have hE : ∀ E, (∑ k : Fin 256, x ⟨k.val, by omega⟩ * G E * w E ⟨k.val, by omega⟩)
      + (∑ k : Fin 256, x ⟨256 + k.val, by omega⟩ * G E * w E ⟨256 + k.val, by omega⟩)
      = (if E = a then c * ∑ k, x k * w a k else 0) + (if E = b then d * ∑ k, x k * w b k else 0) := by
    intro E
    rw [← sum_halves (fun k => x k * G E * w E k)]
    have hA : 0 ≤ (if E = a then c else 0) := by split <;> simp [hc]
    have hA' : (if E = a then c else 0) ≠ ⊤ := by split <;> simp [hc']
    have hB : 0 ≤ (if E = b then d else 0) := by split <;> simp [hd]
    have hB' : (if E = b then d else 0) ≠ ⊤ := by split <;> simp [hd']
    have e1 : ∀ k, x k * G E * w E k = (if E = a then c else 0) * (x k * w E k) + (if E = b then d else 0) * (x k * w E k) := fun k => by
      rw [hG, ← EReal.right_distrib_of_nonneg hA hB, mul_comm (x k), mul_assoc]
    rw [Finset.sum_congr rfl fun k _ => e1 k, Finset.sum_add_distrib, mul_sum_of_pos _ _ hA hA', mul_sum_of_pos _ _ hB hB']
    refine congrArg₂ (· + ·) ?_ ?_
    · by_cases h : E = a
      · subst h; simp
      · simp [h]
    · by_cases h : E = b
      · subst h; simp
      · simp [h]
  rw [Finset.sum_congr rfl fun E _ => hE E, Finset.sum_add_distrib]
  simp

end Cert.MoeProof
end
-- ==== Proof.Gates.lean ====
/-
  The host's gates: every operation between the arguments and the kernel's operands, read at an index.
-/
module

public import proofs.«01_k».proof.Proof.HostIdx
public import proofs.«01_k».proof.Proof.Math

@[expose] public section

noncomputable section

namespace Cert.MoeProof

open Cert.KernelIdeal Cert.KernelIdeal.Gen Cert.KernelIdeal.Facts
open Idealize.ShloMosaic
open Idealize.ShloMosaic.TcCoe

section
variable {F : FTy → Type} [FloatOps F]

/-! ## The host's router: scores to probabilities to gates -/

def scoreK (x : FVec F S2048x512 .f32) (w : FVec F S512x64 .f32) : FVec F S2048x64 .f32 :=
  Host.dotGeneral dot_S2048x512_S512x64_S2048x64_1_0_0_1_n_n none x w
def expK (s : FVec F S2048x64 .f32) : FVec F S2048x64 .f32 :=
  Host.exp (subf s (broadcastInDim S2048x64 ![0, 1] bcast_S2048x1_S2048x64_0_1 (broadcastInDim S2048x1 ![0] bcast_S2048_S2048x1_0
    (maximumf (broadcastInDim S2048 ![] bcast_S_S2048 (constant S_ .f32 0xFF800000#32))
      (Host.reduce FloatOps.maximumf s (constant S_ .f32 0xFF800000#32) reducesTo_S2048x64_S2048_d1 h_S_)))))
def softK (p : FVec F S2048x64 .f32) : FVec F S2048x64 .f32 :=
  Host.divf p (broadcastInDim S2048x64 ![0, 1] bcast_S2048x1_S2048x64_0_1 (broadcastInDim S2048x1 ![0] bcast_S2048_S2048x1_0
    (Host.reduceAdd p (constant S_ .f32 0x00000000#32) reducesTo_S2048x64_S2048_d1 h_S_)))
def hit0 (r : IVec S2048x2 32) : IVec S2048x64 1 :=
  cmpi .eq (broadcastInDim S2048x64 ![0, 1] bcast_S2048x1_S2048x64_0_1 (extractStridedSlice S2048x1 ![0, 0] r slices_S2048x2_S2048x1_0_0))
    (broadcastInDim S2048x64 ![0, 1] bcast_S1x64_S2048x64_0_1 (broadcastInDim S1x64 ![1] bcast_S64_S1x64_1 (iotaInDim S64 32 0)))
def hit1 (r : IVec S2048x2 32) : IVec S2048x64 1 :=
  cmpi .eq (broadcastInDim S2048x64 ![0, 1] bcast_S2048x1_S2048x64_0_1 (extractStridedSlice S2048x1 ![0, 1] r slices_S2048x2_S2048x1_0_1))
    (broadcastInDim S2048x64 ![0, 1] bcast_S1x64_S2048x64_0_1 (broadcastInDim S1x64 ![1] bcast_S64_S1x64_1 (iotaInDim S64 32 0)))
/-- The entries of the chosen column only, and their sum along the row. -/
def onlyK (z : FVec F S_ .f32) (h : IVec S2048x64 1) (p : FVec F S2048x64 .f32) : FVec F S2048x64 .f32 :=
  select h p (broadcastInDim S2048x64 ![] bcast_S_S2048x64 z)
def rowSumK (p : FVec F S2048x64 .f32) : FVec F S2048x1 .f32 :=
  broadcastInDim S2048x1 ![0] bcast_S2048_S2048x1_0 (Host.reduceAdd p (constant S_ .f32 0x00000000#32) reducesTo_S2048x64_S2048_d1 h_S_)
def wideK (q : FVec F S2048x1 .f32) : FVec F S2048x64 .f32 := broadcastInDim S2048x64 ![0, 1] bcast_S2048x1_S2048x64_0_1 q
def gateK (h0 h1 : IVec S2048x64 1) (g0 g1 : FVec F S2048x1 .f32) : FVec F S2048x64 .f32 :=
  addf (onlyK (constant S_ .f32 0x00000000#32) h0 (wideK (Host.divf g0 (addf g0 g1)))) (onlyK (constant S_ .f32 0x00000000#32) h1 (wideK (Host.divf g1 (addf g0 g1))))

variable (V : Valuation τ sig (Elt F))

theorem s0_v12 : StableHlo.after hostOps0 V main_v12 = (softK (expK (scoreK (V main_arg0) (V main_arg1))) : S2048x64.Idx → F .f32) := by
  after_results; rfl
theorem s0_v18 : StableHlo.after hostOps0 V main_v18 = (hit0 (V main_arg2) : S2048x64.Idx → BitVec 1) := by
  after_results; rfl
theorem s0_v22 : StableHlo.after hostOps0 V main_v22 = (hit1 (V main_arg2) : S2048x64.Idx → BitVec 1) := by
  after_results; rfl
theorem s0_cst2 : StableHlo.after hostOps0 V main_cst_2 = (constant S_ .f32 0x00000000#32 : S_.Idx → F .f32) := by
  after_results
theorem s3_v34 (c : Dev nD) : StableHlo.after (hostOps0_8 c) (StableHlo.after hostOps0_7 (StableHlo.after hostOps0_6 (StableHlo.after hostOps0_5
    (StableHlo.after hostOps0_4 (StableHlo.after hostOps0_3 (StableHlo.after hostOps0_2 (StableHlo.after hostOps0_1 V))))))) main_v34
    = (gateK (V main_v18) (V main_v22) (rowSumK (onlyK (V main_cst_2) (V main_v18) (V main_v12)))
      (rowSumK (onlyK (constant S_ .f32 0x00000000#32) (V main_v22) (V main_v12))) : S2048x64.Idx → F .f32) := by
  after_results; rfl
theorem s22 : StableHlo.after hostOps0_22 V main_v66 = (shapeCast S2048x8x8 (V main_v34 : S2048x64.Idx → F .f32) shapeCasts_S2048x64_S2048x8x8 : S2048x8x8.Idx → F .f32) := by
  after_results; rfl
def wrapE (i : IVec S_ 32) : IVec S_ 32 := select (cmpi .slt i (constantI S_ 32 0#32)) (addi i (constantI S_ 32 8#32)) i
def wrapN : IVec S_ 32 := select (cmpi .slt (constantI S_ 32 0#32) (constantI S_ 32 0#32)) (addi (constantI S_ 32 0#32) (constantI S_ 32 2048#32)) (constantI S_ 32 0#32)
/-- The three start indices, as the operations before the slice leave them. -/
theorem s27_starts : StableHlo.after (hostOps0_27.take 21) V main_v75 = (wrapN : IVec S_ 32)
    ∧ StableHlo.after (hostOps0_27.take 21) V main_v78 = (wrapE (V main_v72) : IVec S_ 32)
    ∧ StableHlo.after (hostOps0_27.take 21) V main_v81 = (wrapE (constantI S_ 32 0#32) : IVec S_ 32) := by
  simp only [hostOps0_27, List.take_succ_cons, List.take_zero]
  refine ⟨?_, ?_, ?_⟩ <;> (after_results; rfl)
theorem s27_v83 : StableHlo.after hostOps0_27 V main_v83 = (shapeCast S2048x8 (Host.dynamicSlice S2048x1x8 (V main_v66 : S2048x8x8.Idx → F .f32)
    (fun k => ((![wrapN, wrapE (V main_v72), wrapE (constantI S_ 32 0#32)] : Fin 3 → IVec S_ 32) k (Shape.Idx.first h_S_)).toInt) sliceFits_S2048x8x8_S2048x1x8)
    shapeCasts_S2048x1x8_S2048x8 : S2048x8.Idx → F .f32) := by
  after_results
  refine congrArg (fun f => shapeCast S2048x8 (Host.dynamicSlice S2048x1x8 (V main_v66 : S2048x8x8.Idx → F .f32) f sliceFits_S2048x8x8_S2048x1x8) shapeCasts_S2048x1x8_S2048x8) (funext fun k => ?_)
  match k with
  | 0 => exact congrArg (fun v : IVec S_ 32 => (v (Shape.Idx.first h_S_)).toInt) (s27_starts V).1
  | 1 => exact congrArg (fun v : IVec S_ 32 => (v (Shape.Idx.first h_S_)).toInt) (s27_starts V).2.1
  | 2 => exact congrArg (fun v : IVec S_ 32 => (v (Shape.Idx.first h_S_)).toInt) (s27_starts V).2.2
theorem s27_v85 : StableHlo.after hostOps0_27 V main_v85 = (truncf .bf16 (V main_arg0 : S2048x512.Idx → F .f32) bitsLt_bf16_f32 : S2048x512.Idx → F .bf16) := by
  after_results
theorem s27_v86 : StableHlo.after hostOps0_27 V main_v86 = (extractStridedSlice S8x256x1024 ![0, 0, 0] (truncf .bf16 (V main_arg3 : S8x512x1024.Idx → F .f32) bitsLt_bf16_f32) slices_S8x512x1024_S8x256x1024_0_0_0 : S8x256x1024.Idx → F .bf16) := by
  after_results
theorem s27_v87 : StableHlo.after hostOps0_27 V main_v87 = (extractStridedSlice S8x256x1024 ![0, 256, 0] (truncf .bf16 (V main_arg3 : S8x512x1024.Idx → F .f32) bitsLt_bf16_f32) slices_S8x512x1024_S8x256x1024_0_256_0 : S8x256x1024.Idx → F .bf16) := by
  after_results

end

/-! ## The same, at an index -/

theorem negInf : Ideal.ofBits FTy.f32 4286578688#32 = (⊥ : EReal) := by
  simp [Ideal.ofBits, Ideal.ieee]

theorem scoreK_apply (x : FVec Ideal S2048x512 .f32) (w : FVec Ideal S512x64 .f32) (n : Fin 2048) (E : Fin 64) :
    scoreK x w (ix2 n E) = ∑ k : Fin 512, x (ix2 n k) * w (ix2 k E) := by
  pointwise [scoreK]
theorem expK_apply (s : FVec Ideal S2048x64 .f32) (n : Fin 2048) (E : Fin 64) : expK s (ix2 n E) = rowExp (fun E => s (ix2 n E)) E := by
  pointwise [expK]
  rw [negInf, max_eq_right bot_le]
  rfl
theorem softK_apply (s : FVec Ideal S2048x64 .f32) (n : Fin 2048) (E : Fin 64) : softK (expK s) (ix2 n E) = rowProb (fun E => s (ix2 n E)) E := by
  have h : softK (expK s) (ix2 n E) = Ideal.div (expK s (ix2 n E)) (∑ x, expK s (ix2 n x)) := by pointwise [softK]
  rw [h, expK_apply, Finset.sum_congr rfl fun x _ => expK_apply s n x]
  rfl

theorem same_bit : ∀ a E : Fin 64, IntOp.cmpi CmpIPredicate.eq (BitVec.ofNat 32 a.val) (BitVec.ofNat 32 E.val) = if E = a then 1#1 else 0#1 := by
  decide +kernel
theorem sel_bit {α : Type} (a E : Fin 64) (x y : α) :
    Scalar.select (IntOp.cmpi CmpIPredicate.eq (BitVec.ofNat 32 a.val) (BitVec.ofNat 32 E.val)) x y = if E = a then x else y := by
  rw [same_bit]
  by_cases h : E = a
  · rw [if_pos h, if_pos h]; rfl
  · rw [if_neg h, if_neg h]; rfl
theorem hit0_apply (r : IVec S2048x2 32) (n : Fin 2048) (E : Fin 64) : hit0 r (ix2 n E) = IntOp.cmpi CmpIPredicate.eq (r (ix2 n 0)) (BitVec.ofNat 32 E.val) := by
  pointwise [hit0]
theorem hit1_apply (r : IVec S2048x2 32) (n : Fin 2048) (E : Fin 64) : hit1 r (ix2 n E) = IntOp.cmpi CmpIPredicate.eq (r (ix2 n 1)) (BitVec.ofNat 32 E.val) := by
  pointwise [hit1]

/-- A row's sum over the column its choice names is that column's entry. -/
theorem picked (h : IVec S2048x64 1) (p : FVec Ideal S2048x64 .f32) (n : Fin 2048) (a : Fin 64)
    (hh : ∀ E : Fin 64, h (ix2 n E) = IntOp.cmpi CmpIPredicate.eq (BitVec.ofNat 32 a.val) (BitVec.ofNat 32 E.val)) :
    rowSumK (onlyK (constant S_ .f32 0x00000000#32) h p) (ix2 n 0) = p (ix2 n a) := by
  have e : rowSumK (onlyK (constant S_ .f32 0x00000000#32) h p) (ix2 n 0) = ∑ E : Fin 64, Scalar.select (h (ix2 n E)) (p (ix2 n E)) 0 := by
    pointwise [rowSumK, onlyK]
  rw [e, Finset.sum_congr rfl fun E _ => by rw [hh, sel_bit]]
  simp

/-- The gates, in one row. -/
theorem gates_apply (x : FVec Ideal S2048x512 .f32) (w : FVec Ideal S512x64 .f32) (r : IVec S2048x2 32) (n : Fin 2048) (E a b : Fin 64)
    (ha : r (ix2 n 0) = BitVec.ofNat 32 a.val) (hb : r (ix2 n 1) = BitVec.ofNat 32 b.val) :
    gateK (hit0 r) (hit1 r) (rowSumK (onlyK (constant S_ .f32 0x00000000#32) (hit0 r) (softK (expK (scoreK x w)))))
      (rowSumK (onlyK (constant S_ .f32 0x00000000#32) (hit1 r) (softK (expK (scoreK x w))))) (ix2 n E)
      = gate (fun E => ∑ k : Fin 512, x (ix2 n k) * w (ix2 k E)) a b E := by
  have e : ∀ (h0 h1 : IVec S2048x64 1) (g0 g1 : FVec Ideal S2048x1 .f32), gateK h0 h1 g0 g1 (ix2 n E)
      = Scalar.select (h0 (ix2 n E)) (Ideal.div (g0 (ix2 n 0)) (g0 (ix2 n 0) + g1 (ix2 n 0))) 0
        + Scalar.select (h1 (ix2 n E)) (Ideal.div (g1 (ix2 n 0)) (g0 (ix2 n 0) + g1 (ix2 n 0))) 0 := by
    intro h0 h1 g0 g1
    pointwise [gateK, onlyK, wideK]
  have h0 : ∀ E : Fin 64, hit0 r (ix2 n E) = IntOp.cmpi CmpIPredicate.eq (BitVec.ofNat 32 a.val) (BitVec.ofNat 32 E.val) := fun E => by rw [hit0_apply, ha]
  have h1 : ∀ E : Fin 64, hit1 r (ix2 n E) = IntOp.cmpi CmpIPredicate.eq (BitVec.ofNat 32 b.val) (BitVec.ofNat 32 E.val) := fun E => by rw [hit1_apply, hb]
  have hs : (fun E => scoreK x w (ix2 n E)) = fun E : Fin 64 => ∑ k : Fin 512, x (ix2 n k) * w (ix2 k E) := funext fun E => scoreK_apply x w n E
  rw [e, picked _ _ n a h0, picked _ _ n b h1, h0, h1, sel_bit, sel_bit, softK_apply, softK_apply, hs]
  rfl

theorem zslice_of (x : S2048x8x8.Idx → EReal) (f : Fin 3 → ℤ) (d : Fin 8) (h0 : f 0 = ((0 : ℕ) : ℤ)) (h1 : f 1 = (d.val : ℤ)) (h2 : f 2 = ((0 : ℕ) : ℤ)) (n : Fin 2048) (e : Fin 8) :
    (shapeCast S2048x8 (Host.dynamicSlice S2048x1x8 x f sliceFits_S2048x8x8_S2048x1x8) shapeCasts_S2048x1x8_S2048x8) (ix2 n e) = x (ix3 n d e) := by
  have c0 := Host.clampedStart_of_le (s := S2048x8x8) (t := S2048x1x8) rfl f 0 0 h0 (by decide)
  have c1 := Host.clampedStart_of_le (s := S2048x8x8) (t := S2048x1x8) rfl f 1 d.val h1 (by have := d.isLt; show d.val + 1 ≤ 8; omega)
  have c2 := Host.clampedStart_of_le (s := S2048x8x8) (t := S2048x1x8) rfl f 2 0 h2 (by decide)
  pointwise
  refine congrArg x ?_
  funext a
  match a with
  | 0 => exact Fin.ext ((congrArg (· + n.val) c0).trans (Nat.zero_add _))
  | 1 => exact Fin.ext c1
  | 2 => exact Fin.ext ((congrArg (· + e.val) c2).trans (Nat.zero_add _))

theorem wrapE_toInt (i : IVec S_ 32) (d : Fin 8) (j : S_.Idx) (hi : i j = BitVec.ofNat 32 d.val) : (wrapE i j).toInt = (d.val : ℤ) := by
  have e1 : wrapE i j = Scalar.select (IntOp.cmpi .slt (i j) 0#32) (IntOp.addi (i j) 8#32) (i j) := rfl
  have key : ∀ d : Fin 8, (Scalar.select (IntOp.cmpi .slt (BitVec.ofNat 32 d.val) 0#32) (IntOp.addi (BitVec.ofNat 32 d.val) 8#32) (BitVec.ofNat 32 d.val)).toInt = (d.val : ℤ) := by decide
  rw [e1, hi]
  exact key d

/-- The exchange partner's gates. -/
theorem zslice_apply (x : S2048x8x8.Idx → EReal) (i : IVec S_ 32) (d : Fin 8) (hi : ∀ j, i j = BitVec.ofNat 32 d.val) (n : Fin 2048) (e : Fin 8) :
    (shapeCast S2048x8 (Host.dynamicSlice S2048x1x8 x
      (fun k => ((![wrapN, wrapE i, wrapE (constantI S_ 32 0#32)] : Fin 3 → IVec S_ 32) k (Shape.Idx.first h_S_)).toInt) sliceFits_S2048x8x8_S2048x1x8)
      shapeCasts_S2048x1x8_S2048x8) (ix2 n e) = x (ix3 n d e) := by
  refine zslice_of x _ d ?_ ?_ ?_ n e
  · show (wrapN (Shape.Idx.first h_S_)).toInt = ((0 : ℕ) : ℤ)
    decide
  · exact wrapE_toInt i d _ (hi _)
  · exact wrapE_toInt (constantI S_ 32 0#32) 0 (Shape.Idx.first h_S_) rfl

/-- The gates by device and expert. -/
theorem byDev_apply (g : FVec Ideal S2048x64 .f32) (n : Fin 2048) (i e : Fin 8) :
    shapeCast S2048x8x8 g shapeCasts_S2048x64_S2048x8x8 (ix3 n i e) = g (ix2 n (pairE i e)) := by
  pointwise
  rfl

end Cert.MoeProof
end
-- ==== Proof.Operands.lean ====
/-
  The kernel's operands as the host leaves them: tokens and weights narrowed, and the gates in the order of the steps.
-/
module

public import proofs.«01_k».proof.Proof.Gates

@[expose] public section

noncomputable section

namespace Cert.MoeProof

open Cert.KernelIdeal Cert.KernelIdeal.Gen Cert.KernelIdeal.Facts
open Idealize.ShloMosaic
open Idealize.ShloMosaic.TcCoe

variable (m : (ℓ : Loc nD τ sig) → Buf (Elt Ideal) ℓ) (c : Dev nD)

/-- The four arguments of device `c`. -/
def argX : S2048x512.Idx → EReal := m ((c : Thread nD τ).loc main_arg0)
def argR : S512x64.Idx → EReal := m ((c : Thread nD τ).loc main_arg1)
def argI : S2048x2.Idx → BitVec 32 := m ((c : Thread nD τ).loc main_arg2)
def argW : S8x512x1024.Idx → EReal := m ((c : Thread nD τ).loc main_arg3)

/-- A row's scores. -/
def rowScore (n : Fin 2048) : Fin 64 → EReal := fun E => ∑ k : Fin 512, argX m c (ix2 n k) * argR m c (ix2 k E)

theorem v27_arg0 : V27 m c main_arg0 = m ((c : Thread nD τ).loc main_arg0) := by
  rw [V27_of, V26_of, V25_of, V24_of, V23_of, V22_of, V21_of, V20_of, V19_of, V18_of, V17_of, V16_of, V15_of, V14_of, V13_of, V12_of,
    V11_of, V10_of, V9_of, V8_of, V7_of, V6_of, V5_of, V4_of, V3_of, V2_of, V1_of] <;> decide
theorem v27_arg3 : V27 m c main_arg3 = m ((c : Thread nD τ).loc main_arg3) := by
  rw [V27_of, V26_of, V25_of, V24_of, V23_of, V22_of, V21_of, V20_of, V19_of, V18_of, V17_of, V16_of, V15_of, V14_of, V13_of, V12_of,
    V11_of, V10_of, V9_of, V8_of, V7_of, V6_of, V5_of, V4_of, V3_of, V2_of, V1_of] <;> decide

theorem v34_apply (n : Fin 2048) (E a b : Fin 64) (ha : argI m c (ix2 n 0) = BitVec.ofNat 32 a.val) (hb : argI m c (ix2 n 1) = BitVec.ofNat 32 b.val) :
    (V9 m c main_v34 : S2048x64.Idx → EReal) (ix2 n E) = gate (rowScore m c n) a b E := by
  have h := s3_v34 (V1 m c) c
  have h12 := s0_v12 (V0 m c)
  have h18 := s0_v18 (V0 m c)
  have h22 := s0_v22 (V0 m c)
  have hz := s0_cst2 (V0 m c)
  rw [show V1 m c main_v12 = _ from h12, show V1 m c main_v18 = _ from h18, show V1 m c main_v22 = _ from h22, show V1 m c main_cst_2 = _ from hz] at h
  exact (congrFun h (ix2 n E)).trans (gates_apply (argX m c) (argR m c) (argI m c) n E a b ha hb)

theorem v66_apply (n : Fin 2048) (i e : Fin 8) (a b : Fin 64) (ha : argI m c (ix2 n 0) = BitVec.ofNat 32 a.val) (hb : argI m c (ix2 n 1) = BitVec.ofNat 32 b.val) :
    (V23 m c main_v66 : S2048x8x8.Idx → EReal) (ix3 n i e) = gate (rowScore m c n) a b (pairE i e) := by
  have h34 : V22 m c main_v34 = V9 m c main_v34 := by
    rw [V22_of, V21_of, V20_of, V19_of, V18_of, V17_of, V16_of, V15_of, V14_of, V13_of, V12_of, V11_of, V10_of] <;> decide
  rw [show V23 m c main_v66 = _ from s22 (V22 m c), h34, byDev_apply]
  exact v34_apply m c n _ a b ha hb

/-! ## The tables -/

theorem v39_eq : V10 m c main_v39 = (posK c : S_.Idx → BitVec 32) := s9 (V8 m c) c
theorem v40_eq : V11 m c main_v40 = (baseK c : S_.Idx → BitVec 32) := by
  rw [show V11 m c main_v40 = _ from s10 (V10 m c), v39_eq, V10_of m c main_v38 (by decide), show V9 m c main_v38 = _ from s8 (V8 m c) c]
  rfl
theorem v46_eq : V12 m c main_v46 = (hopK : S7.Idx → BitVec 32) := s11 (V10 m c)
theorem v49_eq : V14 m c main_v49 = (farK : S7.Idx → BitVec 32) := s13 (V10 m c)

theorem v57_eq : V18 m c main_v57 = (topK c : S7.Idx → BitVec 32) := by
  have h39 : V14 m c main_v39 = V10 m c main_v39 := by rw [V14_of, V13_of, V12_of, V11_of] <;> decide
  have h46 : V14 m c main_v46 = V12 m c main_v46 := by rw [V14_of, V13_of] <;> decide
  have h40 : V16 m c main_v40 = V11 m c main_v40 := by rw [V16_of, V15_of, V14_of, V13_of, V12_of] <;> decide
  have h49 : V16 m c main_v49 = V14 m c main_v49 := by rw [V16_of, V15_of] <;> decide
  rw [show V18 m c main_v57 = _ from s17 (V16 m c), show V16 m c main_v52 = _ from s15 (V14 m c), h39, h46, h40, h49, v39_eq, v40_eq, v46_eq, v49_eq]
  rfl
theorem v65_eq : V22 m c main_v65 = (botK c : S7.Idx → BitVec 32) := by
  have h39 : V18 m c main_v39 = V10 m c main_v39 := by rw [V18_of, V17_of, V16_of, V15_of, V14_of, V13_of, V12_of, V11_of] <;> decide
  have h46 : V18 m c main_v46 = V12 m c main_v46 := by rw [V18_of, V17_of, V16_of, V15_of, V14_of, V13_of] <;> decide
  have h40 : V20 m c main_v40 = V11 m c main_v40 := by rw [V20_of, V19_of, V18_of, V17_of, V16_of, V15_of, V14_of, V13_of, V12_of] <;> decide
  have h49 : V20 m c main_v49 = V14 m c main_v49 := by rw [V20_of, V19_of, V18_of, V17_of, V16_of, V15_of] <;> decide
  rw [show V22 m c main_v65 = _ from s21 (V20 m c), show V20 m c main_v60 = _ from s19 (V18 m c), h39, h46, h40, h49, v39_eq, v40_eq, v46_eq, v49_eq]
  rfl
theorem v72_eq : V27 m c main_v72 = (exK c : S_.Idx → BitVec 32) := by
  have h38 : V25 m c main_v38 = V9 m c main_v38 := by
    rw [V25_of, V24_of, V23_of, V22_of, V21_of, V20_of, V19_of, V18_of, V17_of, V16_of, V15_of, V14_of, V13_of, V12_of, V11_of, V10_of] <;> decide
  rw [show V27 m c main_v72 = _ from s26 (V25 m c), h38, show V9 m c main_v38 = _ from s8 (V8 m c) c]
  rfl

/-! ## The operands -/

section
variable (n : Fin 2048) (a b : Fin 64) (ha : argI m c (ix2 n 0) = BitVec.ofNat 32 a.val) (hb : argI m c (ix2 n 1) = BitVec.ofNat 32 b.val)
include ha hb

theorem v67_apply (s : Fin 7) (e : Fin 8) :
    (V24 m c main_v67 : S2048x7x8.Idx → EReal) (ix3 n s e) = gate (rowScore m c n) a b (pairE (srcDev true s.val c) e) := by
  have h57 : V23 m c main_v57 = V18 m c main_v57 := by rw [V23_of, V22_of, V21_of, V20_of, V19_of] <;> decide
  rw [show V24 m c main_v67 = _ from s23 (V23 m c), h57, v57_eq, takeK_apply _ _ (fun s => srcDev true s.val c) (fun s => topK_eq c s)]
  exact v66_apply m c n _ e a b ha hb
theorem v68_apply (s : Fin 7) (e : Fin 8) :
    (V25 m c main_v68 : S2048x7x8.Idx → EReal) (ix3 n s e) = gate (rowScore m c n) a b (pairE (srcDev false s.val c) e) := by
  have h65 : V24 m c main_v65 = V22 m c main_v65 := by rw [V24_of, V23_of] <;> decide
  have h66 : V24 m c main_v66 = V23 m c main_v66 := by rw [V24_of] <;> decide
  rw [show V25 m c main_v68 = _ from s24 (V24 m c), h65, h66, v65_eq, takeK_apply _ _ (fun s => srcDev false s.val c) (fun s => botK_eq c s)]
  exact v66_apply m c n _ e a b ha hb

theorem v70_eq : V28 m c main_v70 = V26 m c main_v70 := by rw [V28_of, V27_of] <;> decide

theorem v70_top (s : Fin 7) (e : Fin 8) :
    (V28 m c main_v70 : S7x2048x16.Idx → EReal) (ix3 s n ⟨e.val, by omega⟩) = gate (rowScore m c n) a b (pairE (srcDev true s.val c) e) := by
  have h67 : V25 m c main_v67 = V24 m c main_v67 := by rw [V25_of] <;> decide
  rw [v70_eq m c n a b ha hb, show V26 m c main_v70 = _ from s25 (V25 m c), h67]
  have hx := v67_apply m c n a b ha hb s e
  generalize (V24 m c main_v67 : S2048x7x8.Idx → EReal) = x at hx ⊢
  generalize (V25 m c main_v68 : S2048x7x8.Idx → EReal) = y
  rw [← hx]
  pointwise
theorem v70_bot (s : Fin 7) (e : Fin 8) :
    (V28 m c main_v70 : S7x2048x16.Idx → EReal) (ix3 s n ⟨8 + e.val, by omega⟩) = gate (rowScore m c n) a b (pairE (srcDev false s.val c) e) := by
  rw [v70_eq m c n a b ha hb, show V26 m c main_v70 = _ from s25 (V25 m c)]
  have hx := v68_apply m c n a b ha hb s e
  generalize (V25 m c main_v68 : S2048x7x8.Idx → EReal) = y at hx ⊢
  generalize (V25 m c main_v67 : S2048x7x8.Idx → EReal) = x
  rw [← hx]
  pointwise
theorem v83_apply (e : Fin 8) : (V28 m c main_v83 : S2048x8.Idx → EReal) (ix2 n e) = gate (rowScore m c n) a b (pairE (zp c) e) := by
  have h66 : V27 m c main_v66 = V23 m c main_v66 := by rw [V27_of, V26_of, V25_of, V24_of] <;> decide
  rw [show V28 m c main_v83 = _ from s27_v83 (V27 m c), h66, v72_eq]
  exact (zslice_apply (V23 m c main_v66) (exK c) (zp c) (fun j => exK_eq c j) n e).trans (v66_apply m c n _ e a b ha hb)

end

theorem v85_apply (n : Fin 2048) (k : Fin 512) : (V28 m c main_v85 : S2048x512.Idx → EReal) (ix2 n k) = argX m c (ix2 n k) := by
  rw [show V28 m c main_v85 = _ from s27_v85 (V27 m c), v27_arg0]
  rfl
theorem v86_apply (e : Fin 8) (k : Fin 256) (h : Fin 1024) :
    (V28 m c main_v86 : S8x256x1024.Idx → EReal) (ix3 e k h) = argW m c (ix3 e ⟨k.val, by omega⟩ h) := by
  rw [show V28 m c main_v86 = _ from s27_v86 (V27 m c), v27_arg3]
  change _ = (m ((c : Thread nD τ).loc main_arg3) : S8x512x1024.Idx → EReal) _
  generalize (m ((c : Thread nD τ).loc main_arg3) : S8x512x1024.Idx → EReal) = x
  pointwise
theorem v87_apply (e : Fin 8) (k : Fin 256) (h : Fin 1024) :
    (V28 m c main_v87 : S8x256x1024.Idx → EReal) (ix3 e k h) = argW m c (ix3 e ⟨256 + k.val, by omega⟩ h) := by
  rw [show V28 m c main_v87 = _ from s27_v87 (V27 m c), v27_arg3]
  change _ = (m ((c : Thread nD τ).loc main_arg3) : S8x512x1024.Idx → EReal) _
  generalize (m ((c : Thread nD τ).loc main_arg3) : S8x512x1024.Idx → EReal) = x
  pointwise

end Cert.MoeProof
end
-- ==== Proof.Body.lean ====
/-
  The stored values of one step, read element by element over the extended reals.
-/
module

public import proofs.«01_k».proof.Proof.Compute
public import Idealize.ShloMosaic.Lib.Pointwise

@[expose] public section

noncomputable section

open Idealize.ShloMosaic
open Cert.KernelIdeal Cert.KernelIdeal.Facts
open Cert.KernelIdeal.Gen

namespace Cert.MoeProof

/-- Eight pieces of 256 laid side by side: position `x` is position `x mod 256` of piece `x / 256`. -/
theorem piece8 (f : Fin 8 → Fin 256 → EReal) (x : ℕ) (hx : x < 2048) (e : Fin 8) (k : Fin 256) (hk : x = e.val * 256 + k.val) :
    (if h : x < 256 then f 0 ⟨x, h⟩ else (if h : x - 256 < 256 then f 1 ⟨x - 256, h⟩ else (if h : x - 256 - 256 < 256 then f 2 ⟨x - 256 - 256, h⟩ else (if h : x - 256 - 256 - 256 < 256 then f 3 ⟨x - 256 - 256 - 256, h⟩ else (if h : x - 256 - 256 - 256 - 256 < 256 then f 4 ⟨x - 256 - 256 - 256 - 256, h⟩ else (if h : x - 256 - 256 - 256 - 256 - 256 < 256 then f 5 ⟨x - 256 - 256 - 256 - 256 - 256, h⟩ else (if h : x - 256 - 256 - 256 - 256 - 256 - 256 < 256 then f 6 ⟨x - 256 - 256 - 256 - 256 - 256 - 256, h⟩ else f 7 ⟨x - 256 - 256 - 256 - 256 - 256 - 256 - 256, by omega⟩))))))) = f e k := by
  have he := e.isLt
  have hkl := k.isLt
  split_ifs <;> exact congrArg₂ f (Fin.ext (by simp only [Fin.isValue, Fin.coe_ofNat_eq_mod]; omega)) (Fin.ext (by simp only []; omega))

/-- A sum over 2048 positions, piece by piece. -/
theorem sum_pieces (f : Fin 2048 → EReal) (g : Fin 8 → Fin 256 → EReal)
    (h : ∀ (e : Fin 8) (k : Fin 256) (x : Fin 2048), x.val = e.val * 256 + k.val → f x = g e k) :
    ∑ x, f x = ∑ e, ∑ k, g e k := by
  rw [Fin.sum_univ_tiles 8 256 rfl]
  exact Finset.sum_congr rfl fun e _ => Finset.sum_congr rfl fun k _ => h e k _ rfl

theorem pay7_apply (X : FVec Ideal S2048x256 .bf16) (O : Vec Ideal S2048x1024 .f32) (G : Vec Ideal S1x2048x8 .f32)
    (T : Vec Ideal S8x256x1024 .bf16) (n : Fin 2048) (h : Fin 1024) :
    k0_pay7 X O G T (ix2 n h)
      = O (ix2 n h) + ∑ e : Fin 8, ∑ k : Fin 256, X (ix2 n k) * G (ix3 0 n e) * T (ix3 e k h) := by
  pointwise [k0_pay7]
  refine congrArg (O (ix2 n h) + ·) (sum_pieces _ _ fun e k x hx => ?_)
  have hk := k.isLt
  refine congrArg₂ (· * ·) (piece8 (fun e k => X (ix2 n k) * G (ix3 0 n e)) x.val x.isLt e k hx) ?_
  exact congrArg₂ (fun a b => T (ix3 a b h)) (Fin.ext (by simp only []; omega)) (Fin.ext (by simp only []; omega))

theorem pay8_apply (X : FVec Ideal S2048x256 .bf16) (O : Vec Ideal S2048x1024 .f32) (G : Vec Ideal S1x2048x8 .f32)
    (T : Vec Ideal S8x256x1024 .bf16) (n : Fin 2048) (h : Fin 1024) :
    k0_pay8 X O G T (ix2 n h)
      = O (ix2 n h) + ∑ e : Fin 8, ∑ k : Fin 256, X (ix2 n k) * G (ix3 0 n e) * T (ix3 e k h) := by
  pointwise [k0_pay8]
  refine congrArg (O (ix2 n h) + ·) (sum_pieces _ _ fun e k x hx => ?_)
  have hk := k.isLt
  refine congrArg₂ (· * ·) (piece8 (fun e k => X (ix2 n k) * G (ix3 0 n e)) x.val x.isLt e k hx) ?_
  exact congrArg₂ (fun a b => T (ix3 a b h)) (Fin.ext (by simp only []; omega)) (Fin.ext (by simp only []; omega))

theorem pay2_apply (X : FVec Ideal S2048x256 .bf16) (O : Vec Ideal S2048x1024 .f32) (G : Vec Ideal S2048x8 .f32)
    (T : Vec Ideal S8x256x1024 .bf16) (n : Fin 2048) (h : Fin 1024) :
    k0_pay2 X O G T (ix2 n h)
      = O (ix2 n h) + ∑ e : Fin 8, ∑ k : Fin 256, X (ix2 n k) * G (ix2 n e) * T (ix3 e k h) := by
  pointwise [k0_pay2]
  refine congrArg (O (ix2 n h) + ·) (sum_pieces _ _ fun e k x hx => ?_)
  have hk := k.isLt
  refine congrArg₂ (· * ·) (piece8 (fun e k => X (ix2 n k) * G (ix2 n e)) x.val x.isLt e k hx) ?_
  exact congrArg₂ (fun a b => T (ix3 a b h)) (Fin.ext (by simp only []; omega)) (Fin.ext (by simp only []; omega))

theorem pay1_apply (X : FVec Ideal S2048x256 .bf16) (O : Vec Ideal S2048x1024 .f32) (G : Vec Ideal S2048x8 .f32)
    (T : Vec Ideal S8x256x1024 .bf16) (n : Fin 2048) (h : Fin 1024) :
    k0_pay1 X O G T (ix2 n h)
      = O (ix2 n h) + ∑ e : Fin 8, ∑ k : Fin 256, X (ix2 n k) * G (ix2 n e) * T (ix3 e k h) := by
  pointwise [k0_pay1]
  refine congrArg (O (ix2 n h) + ·) (sum_pieces _ _ fun e k x hx => ?_)
  have hk := k.isLt
  refine congrArg₂ (· * ·) (piece8 (fun e k => X (ix2 n k) * G (ix2 n e)) x.val x.isLt e k hx) ?_
  exact congrArg₂ (fun a b => T (ix3 a b h)) (Fin.ext (by simp only []; omega)) (Fin.ext (by simp only []; omega))

/-- Position `k` of the left half of the columns, and of the right half. -/
def lo (k : Fin 256) : Fin 512 := ⟨k.val, by omega⟩
def hi (k : Fin 256) : Fin 512 := ⟨256 + k.val, by omega⟩
/-- Expert `e` of the top halves' gates, and of the bottom halves' gates. -/
def glo (e : Fin 8) : Fin 16 := ⟨e.val, by omega⟩
def ghi (e : Fin 8) : Fin 16 := ⟨8 + e.val, by omega⟩

/-- What half a device's experts add to an output: the columns `x`, the gates `g`, the half weights `T`. -/
def part (x : Fin 256 → EReal) (g : Fin 8 → EReal) (T : S8x256x1024.Idx → EReal) (h : Fin 1024) : EReal :=
  ∑ e : Fin 8, ∑ k : Fin 256, x k * g e * T (ix3 e k h)

theorem pay5_eq (X : Vec Ideal S2048x256 .bf16) (j : S2048x256.Idx) : k0_pay5 X j = X j := by
  pointwise [k0_pay5]
theorem pay6_eq (X : Vec Ideal S2048x256 .bf16) (j : S2048x256.Idx) : k0_pay6 X j = X j := by
  pointwise [k0_pay6]
theorem pay3_eq (X : Vec Ideal S2048x1024 .f32) (j : S2048x1024.Idx) : k0_pay3 X j = X j := by
  pointwise [k0_pay3]
theorem pay4_eq (j : S2048x1024.Idx) : k0_pay4 (F := Ideal) j = 0 := by
  pointwise [k0_pay4]

theorem xL_apply (X : S2048x512.Idx → Elt Ideal .bf16) (n : Fin 2048) (k : Fin 256) : xL X (ix2 n k) = X (ix2 n (lo k)) :=
  congrArg X (by funext a; match a with | 0 => exact Fin.ext (by simp [LoadRect.idx, Rect.toLoadRect, Rect.unit, lo, hi, glo, ghi]) | 1 => exact Fin.ext (by simp [LoadRect.idx, Rect.toLoadRect, Rect.unit, lo, hi, glo, ghi]))
theorem xR_apply (X : S2048x512.Idx → Elt Ideal .bf16) (n : Fin 2048) (k : Fin 256) : xR X (ix2 n k) = X (ix2 n (hi k)) :=
  congrArg X (by funext a; match a with | 0 => exact Fin.ext (by simp [LoadRect.idx, Rect.toLoadRect, Rect.unit, lo, hi, glo, ghi]) | 1 => exact Fin.ext (by simp [LoadRect.idx, Rect.toLoadRect, Rect.unit, lo, hi, glo, ghi]))
theorem gL_apply (G : S1x2048x16.Idx → Elt Ideal .f32) (n : Fin 2048) (e : Fin 8) : gL G (ix3 0 n e) = G (ix3 0 n (glo e)) :=
  congrArg G (by funext a; match a with | 0 => exact Fin.ext (by simp [LoadRect.idx, Rect.toLoadRect, Rect.unit, lo, hi, glo, ghi]) | 1 => exact Fin.ext (by simp [LoadRect.idx, Rect.toLoadRect, Rect.unit, lo, hi, glo, ghi]) | 2 => exact Fin.ext (by simp [LoadRect.idx, Rect.toLoadRect, Rect.unit, lo, hi, glo, ghi]))
theorem gR_apply (G : S1x2048x16.Idx → Elt Ideal .f32) (n : Fin 2048) (e : Fin 8) : gR G (ix3 0 n e) = G (ix3 0 n (ghi e)) :=
  congrArg G (by funext a; match a with | 0 => exact Fin.ext (by simp [LoadRect.idx, Rect.toLoadRect, Rect.unit, lo, hi, glo, ghi]) | 1 => exact Fin.ext (by simp [LoadRect.idx, Rect.toLoadRect, Rect.unit, lo, hi, glo, ghi]) | 2 => exact Fin.ext (by simp [LoadRect.idx, Rect.toLoadRect, Rect.unit, lo, hi, glo, ghi]))

theorem accB_apply (X : S2048x512.Idx → Elt Ideal .bf16) (G : S1x2048x16.Idx → Elt Ideal .f32) (T B : S8x256x1024.Idx → Elt Ideal .bf16)
    (O : S2048x1024.Idx → Elt Ideal .f32) (n : Fin 2048) (h : Fin 1024) :
    accB X G T B O (ix2 n h)
      = O (ix2 n h) + part (fun k => X (ix2 n (lo k))) (fun e => G (ix3 0 n (glo e))) T h
        + part (fun k => X (ix2 n (hi k))) (fun e => G (ix3 0 n (ghi e))) B h := by
  unfold accB accT part
  rw [pay8_apply, pay7_apply]
  simp only [pay5_eq, pay6_eq, xL_apply, xR_apply, gL_apply, gR_apply]

theorem accZ_apply (X : S2048x512.Idx → Elt Ideal .bf16) (Z : S2048x8.Idx → Elt Ideal .f32) (T B : S8x256x1024.Idx → Elt Ideal .bf16)
    (O : S2048x1024.Idx → Elt Ideal .f32) (n : Fin 2048) (h : Fin 1024) :
    accZ X Z T B O (ix2 n h)
      = O (ix2 n h) + part (fun k => X (ix2 n (lo k))) (fun e => Z (ix2 n e)) T h
        + part (fun k => X (ix2 n (hi k))) (fun e => Z (ix2 n e)) B h := by
  unfold accZ accZT part
  rw [pay1_apply, pay3_eq, pay2_apply]
  simp only [pay5_eq, pay6_eq, xL_apply, xR_apply]

end Cert.MoeProof

end
-- ==== Proof.Output.lean ====
/-
  The result array after the run, element by element: over all eight devices' experts, the products of the token's
  columns, the gates and the weights.
-/
module

public import proofs.«01_k».proof.Proof.Pipe
public import proofs.«01_k».proof.Proof.Body

@[expose] public section

noncomputable section

namespace Cert.MoeProof

open Cert.KernelIdeal Cert.KernelIdeal.Gen
open Idealize.ShloMosaic
open Idealize.ShloMosaic.TcCoe
open Idealize.ShloMosaic.Pipeline (Dat Cfg Window)

/-! ## The array is the accumulator after the last step -/

section Out

variable {F : FTy → Type} [FloatOps F]
variable (W : Dev nD → (Valuation τ sig (Elt F)))

theorem last_of_flush (t : Fin cfg0.N) (hf : (cfg0.win 3).flush t = true) : t = pt 6 := by
  have h := (flush0_3 t).mp hf
  have hN : cfg0.N = 7 := N_0
  have := t.isLt
  exact Fin.ext (show t.val = 6 % 7 by omega)

theorem flushed3_eq (c : Dev nD) (t : Fin cfg0.N) (hf : (cfg0.win 3).flush t = true) :
    (dat W c).flushed 3 t = ((cfg0.win 3).blk t).view.read (Elt F) (acc W c 6) := by
  obtain rfl := last_of_flush t hf
  have hz : (fun a => win0_3.index (pt 6) a * main_v88.ty.shape.size a) = fun _ => 0 := funext fun a => by fin_cases a <;> decide +kernel
  exact (Memref.read_access_unit_zero (Elt F) main_v88 hz (fun a => by rw [congrFun hz a]; simp) (acc W c 6)).symm

theorem out_eq (c : Dev nD) : (dat W c).arrAt 3 cfg0.N = acc W c 6 :=
  (dat W c).arrAt_eq_of_cover 3 (acc W c 6) (flushed3_eq W c) fun i =>
    ⟨pt 6, (flush0_3 (pt 6)).mpr rfl, by
      show i ∈ ((View.whole main_v88).slice (win0_3.rect (pt 6))).set
      rw [View.set_slice_whole, Rect.mem_set_unit]
      intro a
      have hz : win0_3.index (pt 6) a * win0_3.size a = 0 := by revert a; decide +kernel
      have hx : win0_3.xsize (grid0.coords (pt 6)) a = main_v88.ty.shape.size a := by revert a; decide +kernel
      show win0_3.index (pt 6) a * win0_3.size a ≤ (i a : Nat) ∧ (i a : Nat) < win0_3.index (pt 6) a * win0_3.size a + win0_3.xsize (grid0.coords (pt 6)) a
      rw [hz, hx]
      exact ⟨Nat.zero_le _, by rw [Nat.zero_add]; exact (i a).isLt⟩⟩

end Out

/-! ## What the windows read -/

section Win

variable (W : Dev nD → (Valuation τ sig (Elt Ideal)))

theorem x1_apply (c : Dev nD) (t : Fin cfg0.N) (n : Fin 2048) (k : Fin 512) :
    x1 W c t (ix2 n k) = (W c (Proc.devRef .tc main_v85) : S2048x512.Idx → EReal) (ix2 n k) := by
  unfold x1
  rw [View.read_apply]
  refine congrArg (W c (Proc.devRef .tc main_v85) : S2048x512.Idx → EReal) (funext fun a => Fin.ext ?_)
  match a with
  | 0 => exact (win0_0.rect_emb_val t (ix2 n k) 0).trans (by rw [show win0_0.index t 0 = 0 from rfl]; simp)
  | 1 => exact (win0_0.rect_emb_val t (ix2 n k) 1).trans (by rw [show win0_0.index t 1 = 0 from rfl]; simp)

theorem x3_apply (c : Dev nD) (t : Fin cfg0.N) (n : Fin 2048) (k : Fin 8) :
    x3 W c t (ix2 n k) = (W c (Proc.devRef .tc main_v83) : S2048x8.Idx → EReal) (ix2 n k) := by
  unfold x3
  rw [View.read_apply]
  refine congrArg (W c (Proc.devRef .tc main_v83) : S2048x8.Idx → EReal) (funext fun a => Fin.ext ?_)
  match a with
  | 0 => exact (win0_2.rect_emb_val t (ix2 n k) 0).trans (by rw [show win0_2.index t 0 = 0 from rfl]; simp)
  | 1 => exact (win0_2.rect_emb_val t (ix2 n k) 1).trans (by rw [show win0_2.index t 1 = 0 from rfl]; simp)

theorem x2_apply (c : Dev nD) (s : Fin 7) (n : Fin 2048) (k : Fin 16) :
    x2 W c (pt s) (ix3 0 n k) = (W c (Proc.devRef .tc main_v70) : S7x2048x16.Idx → EReal) (ix3 s n k) := by
  unfold x2
  rw [View.read_apply]
  refine congrArg (W c (Proc.devRef .tc main_v70) : S7x2048x16.Idx → EReal) (funext fun a => Fin.ext ?_)
  have h0 : win0_1.index (pt s) 0 = s.val := by revert s; decide +kernel
  have h1 : win0_1.index (pt s) 1 = 0 := by revert s; decide +kernel
  have h2 : win0_1.index (pt s) 2 = 0 := by revert s; decide +kernel
  match a with
  | 0 => exact (win0_1.rect_emb_val (pt s) (ix3 0 n k) 0).trans (by rw [h0]; show s.val * 1 + 0 = s.val; omega)
  | 1 => exact (win0_1.rect_emb_val (pt s) (ix3 0 n k) 1).trans (by rw [h1]; simp)
  | 2 => exact (win0_1.rect_emb_val (pt s) (ix3 0 n k) 2).trans (by rw [h2]; simp)

/-! ## The sum over the devices -/

/-- The devices whose half blocks device `c` meets, in order: the seven of the ring steps, then the one exchanged. -/
def met (d : Bool) (c : Dev nD) (i : Fin 8) : Dev nD := if i.val < 7 then srcDev d i.val c else zp c

theorem met_bij (d : Bool) (c : Dev nD) : Function.Bijective (met d c) := by
  rw [← Finite.injective_iff_bijective]
  revert d c
  decide +kernel

theorem sum_met (d : Bool) (c : Dev nD) (f : Dev nD → EReal) :
    ∑ i, f i = f (srcDev d 0 c) + f (srcDev d 1 c) + f (srcDev d 2 c) + f (srcDev d 3 c) + f (srcDev d 4 c) + f (srcDev d 5 c)
      + f (srcDev d 6 c) + f (zp c) := by
  rw [← (met_bij d c).sum_comp f]
  exact Fin.sum_univ_eight _

/-- The result at token `n`, output column `h`, when the gates the windows hold are those `g` of the devices met. -/
theorem acc_apply (c : Dev nD) (n : Fin 2048) (h : Fin 1024) (g : Dev nD → Fin 8 → EReal)
    (hT : ∀ (s : Fin 7) (e : Fin 8), (W c (Proc.devRef .tc main_v70) : S7x2048x16.Idx → EReal) (ix3 s n (glo e)) = g (srcDev true s.val c) e)
    (hB : ∀ (s : Fin 7) (e : Fin 8), (W c (Proc.devRef .tc main_v70) : S7x2048x16.Idx → EReal) (ix3 s n (ghi e)) = g (srcDev false s.val c) e)
    (hZ : ∀ e : Fin 8, (W c (Proc.devRef .tc main_v83) : S2048x8.Idx → EReal) (ix2 n e) = g (zp c) e) :
    acc W c 6 (ix2 n h)
      = (∑ i : Dev nD, part (fun k => (W c (Proc.devRef .tc main_v85) : S2048x512.Idx → EReal) (ix2 n (lo k))) (g i) (wts W true i) h)
        + ∑ i : Dev nD, part (fun k => (W c (Proc.devRef .tc main_v85) : S2048x512.Idx → EReal) (ix2 n (hi k))) (g i) (wts W false i) h := by
  have st : ∀ (s : Fin 7) (X : S2048x1024.Idx → Elt Ideal .f32), stepV W c s.val X (ix2 n h)
      = X (ix2 n h) + part (fun k => (W c (Proc.devRef .tc main_v85) : S2048x512.Idx → EReal) (ix2 n (lo k))) (g (srcDev true s.val c)) (wts W true (srcDev true s.val c)) h
        + part (fun k => (W c (Proc.devRef .tc main_v85) : S2048x512.Idx → EReal) (ix2 n (hi k))) (g (srcDev false s.val c)) (wts W false (srcDev false s.val c)) h := by
    intro s X
    unfold stepV
    rw [accB_apply]
    simp only [x1_apply, x2_apply, hT, hB]
  have hz : ∀ X : S2048x1024.Idx → Elt Ideal .f32, accZ (x1 W c (pt 3)) (x3 W c (pt 3)) (wts W true (zp c)) (wts W false (zp c)) X (ix2 n h)
      = X (ix2 n h) + part (fun k => (W c (Proc.devRef .tc main_v85) : S2048x512.Idx → EReal) (ix2 n (lo k))) (g (zp c)) (wts W true (zp c)) h
        + part (fun k => (W c (Proc.devRef .tc main_v85) : S2048x512.Idx → EReal) (ix2 n (hi k))) (g (zp c)) (wts W false (zp c)) h := by
    intro X
    rw [accZ_apply]
    simp only [x1_apply, x3_apply, hZ]
  rw [sum_met true c, sum_met false c]
  have e : acc W c 6 = stepV W c (6 : Fin 7).val (stepV W c (5 : Fin 7).val (stepV W c (4 : Fin 7).val
      (accZ (x1 W c (pt 3)) (x3 W c (pt 3)) (wts W true (zp c)) (wts W false (zp c)) (stepV W c (3 : Fin 7).val (stepV W c (2 : Fin 7).val
        (stepV W c (1 : Fin 7).val (stepV W c (0 : Fin 7).val (k0_pay4 (F := Ideal))))))))) := rfl
  rw [e]
  simp only [st, hz]
  rw [show (k0_pay4 (F := Ideal) (ix2 n h) : EReal) = 0 from pay4_eq _]
  simp only [zero_add]
  show (_ : EReal) = _
  simp only [Fin.val_zero, Fin.val_one, Fin.val_two, show (3 : Fin 7).val = 3 from rfl, show (4 : Fin 7).val = 4 from rfl,
    show (5 : Fin 7).val = 5 from rfl, show (6 : Fin 7).val = 6 from rfl]
  ac_rfl

end Win

end Cert.MoeProof

end
-- ==== Proof.KernelValue.lean ====
/-
  What the kernel's result holds, at an index: the two chosen experts' products, each by its share.
-/
module

public import proofs.«01_k».proof.Proof.Operands
public import proofs.«01_k».proof.Proof.Output

@[expose] public section

noncomputable section

namespace Cert.MoeProof

open Cert.KernelIdeal Cert.KernelIdeal.Gen Cert.KernelIdeal.Facts
open Idealize.ShloMosaic
open Idealize.ShloMosaic.TcCoe

variable (m : (ℓ : Loc nD τ sig) → Buf (Elt Ideal) ℓ)

/-- Every expert's weights, from the devices that hold them. -/
def allW (E : Fin 64) (k : Fin 512) (h : Fin 1024) : EReal := argW m ⟨E.val / 8, by show E.val / 8 < 8; omega⟩ (ix3 ⟨E.val % 8, by omega⟩ k h)

theorem allW_pair (i : Dev nD) (e : Fin 8) (k : Fin 512) (h : Fin 1024) : allW m (pairE i e) k h = argW m i (ix3 e k h) := by
  have h1 : (⟨(pairE i e).val / 8, by show (pairE i e).val / 8 < 8; omega⟩ : Dev nD) = i := Fin.ext (by show (i.val * 8 + e.val) / 8 = i.val; omega)
  have h2 : (⟨(pairE i e).val % 8, by omega⟩ : Fin 8) = e := Fin.ext (by show (i.val * 8 + e.val) % 8 = e.val; omega)
  exact (congrArg (fun d => argW m d (ix3 _ k h)) h1).trans (congrArg (fun d => argW m i (ix3 d k h)) h2)

theorem kernel_apply (c : Dev nD) (n : Fin 2048) (h : Fin 1024) (a b : Fin 64)
    (ha : argI m c (ix2 n 0) = BitVec.ofNat 32 a.val) (hb : argI m c (ix2 n 1) = BitVec.ofNat 32 b.val)
    (hs : ∀ E, ∃ r : ℝ, rowScore m c n E = (r : EReal)) :
    acc (fun c => V28 m c) c 6 (ix2 n h)
      = share (rowScore m c n) a b * (∑ k, argX m c (ix2 n k) * allW m a k h) + share2 (rowScore m c n) a b * ∑ k, argX m c (ix2 n k) * allW m b k h := by
  have hp := share_pos (rowScore m c n) hs a b
  have hq := share2_pos (rowScore m c n) hs a b
  rw [acc_apply (fun c => V28 m c) c n h (fun i e => gate (rowScore m c n) a b (pairE i e)) (fun s e => v70_top m c n a b ha hb s e)
    (fun s e => v70_bot m c n a b ha hb s e) (fun e => v83_apply m c n a b ha hb e)]
  rw [← combine (fun k => argX m c (ix2 n k)) (fun E k => allW m E k h) a b hp.nonneg hp.ne_top hq.nonneg hq.ne_top (gate (rowScore m c n) a b) (fun E => rfl)]
  refine congrArg₂ (· + ·) (Finset.sum_congr rfl fun i _ => Finset.sum_congr rfl fun e _ => Finset.sum_congr rfl fun k _ => ?_)
    (Finset.sum_congr rfl fun i _ => Finset.sum_congr rfl fun e _ => Finset.sum_congr rfl fun k _ => ?_)
  · rw [allW_pair]
    exact congrArg₂ (fun x y => x * gate (rowScore m c n) a b (pairE i e) * y) (v85_apply m c n (lo k)) (v86_apply m i e k h)
  · rw [allW_pair]
    exact congrArg₂ (fun x y => x * gate (rowScore m c n) a b (pairE i e) * y) (v85_apply m c n (hi k)) (v87_apply m i e k h)

end Cert.MoeProof
end
-- ==== Proof.RefValue.lean ====
/-
  What the reference's result holds, at an index.
-/
module

public import proofs.«01_k».proof.Proof.Gen.ReferenceIdeal.Run
public import proofs.«01_k».proof.Proof.Math
public import Idealize.ShloMosaic.Lib.Pointwise

@[expose] public section

noncomputable section

namespace Cert.MoeProof.Ref

open Cert.ReferenceIdeal Cert.ReferenceIdeal.Gen Cert.ReferenceIdeal.Facts
open Idealize.ShloMosaic
open Idealize.ShloMosaic.TcCoe

section
variable {F : FTy → Type} [FloatOps F]

/-! ## The program's steps -/

def scoreR (x : FVec F S16384x512 .f32) (w : FVec F S512x64 .f32) : FVec F S16384x64 .f32 :=
  Host.dotGeneral dot_S16384x512_S512x64_S16384x64_1_0_0_1_n_n none x w
def colR (v : FVec F S16384 .f32) : FVec F S16384x64 .f32 :=
  broadcastInDim S16384x64 ![0, 1] bcast_S16384x1_S16384x64_0_1 (broadcastInDim S16384x1 ![0] bcast_S16384_S16384x1_0 v)
def expR (s : FVec F S16384x64 .f32) : FVec F S16384x64 .f32 :=
  Host.exp (subf s (colR (Host.reduce FloatOps.maximumf s (constant S_ .f32 0xFF800000#32) reducesTo_S16384x64_S16384_d1 h_S_)))
def softR (p : FVec F S16384x64 .f32) : FVec F S16384x64 .f32 :=
  Host.divf p (colR (Host.reduceAdd p (constant S_ .f32 0x00000000#32) reducesTo_S16384x64_S16384_d1 h_S_))
def pick0 (r : IVec S16384x2 32) : IVec S16384 32 := shapeCast _ (extractStridedSlice S16384x1 ![0, 0] r slices_S16384x2_S16384x1_0_0) shapeCasts_S16384x1_S16384
def pick1 (r : IVec S16384x2 32) : IVec S16384 32 := shapeCast _ (extractStridedSlice S16384x1 ![0, 1] r slices_S16384x2_S16384x1_0_1) shapeCasts_S16384x1_S16384
/-- Indices from zero, a negative one counted from the end. -/
def fromEnd (z : BitVec 32) (v : IVec S16384 32) : IVec S16384x1 32 :=
  broadcastInDim S16384x1 ![0] bcast_S16384_S16384x1_0 (select (cmpi .slt v (broadcastInDim S16384 ![] bcast_S_S16384 (constantI S_ 32 0#32)))
    (addi v (broadcastInDim S16384 ![] bcast_S_S16384 (constantI S_ 32 z))) v)
def atR (v : IVec S16384 32) : IVec S16384x2 32 :=
  concatenate S16384x2 1 [⟨S16384x1, fromEnd 16384#32 (iotaInDim S16384 32 0)⟩, ⟨S16384x1, fromEnd 64#32 v⟩] concatenates_S16384x1_S16384x1_S16384x2_d1
def probR (p : FVec F S16384x64 .f32) (v : IVec S16384 32) : FVec F S16384 .f32 :=
  Host.gather gather_S16384x64_S16384x2_S16384_n_01_n_n_01_1_11 p (atR v)
def outR (x : FVec F S16384x512 .f32) (w : FVec F S64x512x1024 .f32) (v : IVec S16384 32) : FVec F S16384x1024 .f32 :=
  Host.dotGeneral dot_S16384x512_S16384x512x1024_S16384x1024_1_1_n_2_0_0 none x
    (Host.gather gather_S64x512x1024_S16384x1_S16384x512x1024_12_0_n_n_0_1_15121024 w (fromEnd 64#32 v))
def scaleR (g : FVec F S16384 .f32) (y : FVec F S16384x1024 .f32) : FVec F S16384x1024 .f32 :=
  mulf (broadcastInDim S16384x1024 ![0, 1] bcast_S16384x1_S16384x1024_0_1 (broadcastInDim S16384x1 ![0] bcast_S16384_S16384x1_0 g)) y
def resR (x : FVec F S16384x512 .f32) (rw : FVec F S512x64 .f32) (r : IVec S16384x2 32) (w : FVec F S64x512x1024 .f32) : FVec F S16384x1024 .f32 :=
  let p := softR (expR (scoreR x rw))
  let g0 := probR p (pick0 r)
  let g1 := probR p (pick1 r)
  addf (scaleR (Host.divf g0 (addf g0 g1)) (outR x w (pick0 r))) (scaleR (Host.divf g1 (addf g0 g1)) (outR x w (pick1 r)))

theorem res_eq (m : (ℓ : Loc nD τ sig) → Buf (Elt F) ℓ) (c : Dev nD) :
    (Value.res_main_v68 m c : S16384x1024.Idx → F .f32) = resR (m ((c.tc : Thread nD τ).loc main_arg0)) (m ((c.tc : Thread nD τ).loc main_arg1))
      (m ((c.tc : Thread nD τ).loc main_arg2)) (m ((c.tc : Thread nD τ).loc main_arg3)) := rfl

end

/-! ## Rows taken -/

theorem gather2_apply {α : Type} (x : S16384x64.Idx → α) (i : IVec S16384x2 32) (n : Fin 16384) :
    Host.gather gather_S16384x64_S16384x2_S16384_n_01_n_n_01_1_11 x i (ix1 n)
      = x (ix2 ⟨min (i (ix2 n 0)).toInt.toNat 16383, by omega⟩ ⟨min (i (ix2 n 1)).toInt.toNat 63, by omega⟩) := by
  unfold Host.gather
  refine congrArg x (funext fun a => Fin.ext ?_)
  have hsi : ∀ k, GatherDims.siIdx gather_S16384x64_S16384x2_S16384_n_01_n_n_01_1_11 (ix1 n) k = ix2 n ⟨k.val, k.isLt⟩ := by
    intro k
    funext b
    match b with
    | 0 => rfl
    | 1 => rfl
  match a with
  | 0 =>
    show min (i (GatherDims.siIdx gather_S16384x64_S16384x2_S16384_n_01_n_n_01_1_11 (ix1 n) _)).toInt.toNat 16383 + 0 + 0 = min (i (ix2 n 0)).toInt.toNat 16383
    rw [hsi]; rfl
  | 1 =>
    show min (i (GatherDims.siIdx gather_S16384x64_S16384x2_S16384_n_01_n_n_01_1_11 (ix1 n) _)).toInt.toNat 63 + 0 + 0 = min (i (ix2 n 1)).toInt.toNat 63
    rw [hsi]; rfl

theorem gather3_apply {α : Type} (x : S64x512x1024.Idx → α) (i : IVec S16384x1 32) (n : Fin 16384) (k : Fin 512) (h : Fin 1024) :
    Host.gather gather_S64x512x1024_S16384x1_S16384x512x1024_12_0_n_n_0_1_15121024 x i (ix3 n k h)
      = x (ix3 ⟨min (i (ix2 n 0)).toInt.toNat 63, by omega⟩ k h) := by
  unfold Host.gather
  refine congrArg x (funext fun a => Fin.ext ?_)
  have hsi : ∀ z, GatherDims.siIdx gather_S64x512x1024_S16384x1_S16384x512x1024_12_0_n_n_0_1_15121024 (ix3 n k h) z = ix2 n 0 := by
    intro z
    funext b
    match b with
    | 0 => rfl
    | 1 => exact Subsingleton.elim (α := Fin 1) _ _
  match a with
  | 0 =>
    show min (i (GatherDims.siIdx gather_S64x512x1024_S16384x1_S16384x512x1024_12_0_n_n_0_1_15121024 (ix3 n k h) _)).toInt.toNat 63 + 0 + 0 = min (i (ix2 n 0)).toInt.toNat 63
    rw [hsi]; rfl
  | 1 =>
    show 0 + 0 + k.val = k.val
    omega
  | 2 =>
    show 0 + 0 + h.val = h.val
    omega

theorem toInt_small {n : ℕ} (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

theorem fromEnd_apply (z : BitVec 32) (v : IVec S16384 32) (n : Fin 16384) (a : ℕ) (ha : a < 2 ^ 31) (hv : v (ix1 n) = BitVec.ofNat 32 a) :
    fromEnd z v (ix2 n 0) = BitVec.ofNat 32 a := by
  have e : fromEnd z v (ix2 n 0) = Scalar.select (IntOp.cmpi .slt (v (ix1 n)) 0#32) (IntOp.addi (v (ix1 n)) z) (v (ix1 n)) := by
    pointwise [fromEnd]
  have hlt : IntOp.cmpi .slt (BitVec.ofNat 32 a) 0#32 = 0#1 := by
    have : ¬ ((BitVec.ofNat 32 a).toInt < (0#32).toInt) := by
      rw [toInt_small ha]
      simp
    show BitVec.ofBool (decide ((BitVec.ofNat 32 a).toInt < (0#32).toInt)) = 0#1
    rw [decide_eq_false this]
    rfl
  rw [e, hv, hlt]
  rfl

theorem probR_apply (p : FVec Ideal S16384x64 .f32) (v : IVec S16384 32) (n : Fin 16384) (a : Fin 64) (hv : v (ix1 n) = BitVec.ofNat 32 a.val) :
    probR p v (ix1 n) = p (ix2 n a) := by
  have e0 : atR v (ix2 n 0) = fromEnd 16384#32 (iotaInDim S16384 32 0) (ix2 n 0) := by
    unfold atR
    generalize fromEnd 16384#32 (iotaInDim S16384 32 0) = y
    generalize fromEnd 64#32 v = z
    pointwise
  have e1 : atR v (ix2 n 1) = fromEnd 64#32 v (ix2 n 0) := by
    unfold atR
    generalize fromEnd 16384#32 (iotaInDim S16384 32 0) = y
    generalize fromEnd 64#32 v = z
    pointwise
  have ei : iotaInDim S16384 32 0 (ix1 n) = BitVec.ofNat 32 n.val := by pointwise
  unfold probR
  rw [gather2_apply]
  refine congrArg₂ (fun i j => p (ix2 i j)) (Fin.ext ?_) (Fin.ext ?_)
  · show min (atR v (ix2 n 0)).toInt.toNat 16383 = n.val
    rw [e0, fromEnd_apply _ _ n n.val (by omega) ei, toInt_small (by omega), Int.toNat_natCast]
    omega
  · show min (atR v (ix2 n 1)).toInt.toNat 63 = a.val
    rw [e1, fromEnd_apply _ _ n a.val (by omega) hv, toInt_small (by omega), Int.toNat_natCast]
    omega

theorem outR_apply (x : FVec Ideal S16384x512 .f32) (w : FVec Ideal S64x512x1024 .f32) (v : IVec S16384 32) (n : Fin 16384) (h : Fin 1024) (a : Fin 64)
    (hv : v (ix1 n) = BitVec.ofNat 32 a.val) : outR x w v (ix2 n h) = ∑ k : Fin 512, x (ix2 n k) * w (ix3 a k h) := by
  have e : ∀ y : FVec Ideal S16384x512x1024 .f32, Host.dotGeneral dot_S16384x512_S16384x512x1024_S16384x1024_1_1_n_2_0_0 none x y (ix2 n h)
      = ∑ k : Fin 512, x (ix2 n k) * y (ix3 n k h) := fun y => by pointwise
  unfold outR
  rw [e]
  refine Finset.sum_congr rfl fun k _ => congrArg (x (ix2 n k) * ·) ?_
  rw [gather3_apply]
  refine congrArg (fun i => w (ix3 i k h)) (Fin.ext ?_)
  show min (fromEnd 64#32 v (ix2 n 0)).toInt.toNat 63 = a.val
  rw [fromEnd_apply _ _ n a.val (by omega) hv, toInt_small (by omega), Int.toNat_natCast]
  omega

theorem negInf : Ideal.ofBits FTy.f32 4286578688#32 = (⊥ : EReal) := by
  simp [Ideal.ofBits, Ideal.ieee]

theorem softR_apply (x : FVec Ideal S16384x512 .f32) (w : FVec Ideal S512x64 .f32) (n : Fin 16384) (E : Fin 64) :
    softR (expR (scoreR x w)) (ix2 n E) = rowProb (fun E => ∑ k : Fin 512, x (ix2 n k) * w (ix2 k E)) E := by
  have h1 : ∀ E : Fin 64, scoreR x w (ix2 n E) = ∑ k : Fin 512, x (ix2 n k) * w (ix2 k E) := fun E => by pointwise [scoreR]
  have h2 : ∀ (s : FVec Ideal S16384x64 .f32) (E : Fin 64), expR s (ix2 n E) = rowExp (fun E => s (ix2 n E)) E := fun s E => by
    pointwise [expR, colR]
    rw [negInf]
    rfl
  have h3 : ∀ p : FVec Ideal S16384x64 .f32, softR p (ix2 n E) = Ideal.div (p (ix2 n E)) (∑ E', p (ix2 n E')) := fun p => by pointwise [softR, colR]
  rw [h3, h2, Finset.sum_congr rfl fun E' _ => h2 _ E', funext h1]
  rfl

/-- The reference, at an index. -/
theorem resR_apply (x : FVec Ideal S16384x512 .f32) (w : FVec Ideal S512x64 .f32) (r : IVec S16384x2 32) (u : FVec Ideal S64x512x1024 .f32)
    (n : Fin 16384) (h : Fin 1024) (a b : Fin 64) (ha : r (ix2 n 0) = BitVec.ofNat 32 a.val) (hb : r (ix2 n 1) = BitVec.ofNat 32 b.val) :
    resR x w r u (ix2 n h) = share (fun E => ∑ k : Fin 512, x (ix2 n k) * w (ix2 k E)) a b * (∑ k : Fin 512, x (ix2 n k) * u (ix3 a k h))
      + share2 (fun E => ∑ k : Fin 512, x (ix2 n k) * w (ix2 k E)) a b * ∑ k : Fin 512, x (ix2 n k) * u (ix3 b k h) := by
  have p0 : pick0 r (ix1 n) = BitVec.ofNat 32 a.val := by rw [← ha]; pointwise [pick0]
  have p1 : pick1 r (ix1 n) = BitVec.ofNat 32 b.val := by rw [← hb]; pointwise [pick1]
  have e : ∀ (g g' : FVec Ideal S16384 .f32) (y y' : FVec Ideal S16384x1024 .f32),
      addf (scaleR (Host.divf g (addf g g')) y) (scaleR (Host.divf g' (addf g g')) y') (ix2 n h)
        = Ideal.div (g (ix1 n)) (g (ix1 n) + g' (ix1 n)) * y (ix2 n h) + Ideal.div (g' (ix1 n)) (g (ix1 n) + g' (ix1 n)) * y' (ix2 n h) := fun g g' y y' => by
    pointwise [scaleR]
  unfold resR
  rw [e, probR_apply _ _ n a p0, probR_apply _ _ n b p1, outR_apply x u _ n h a p0, outR_apply x u _ n h b p1, softR_apply, softR_apply]
  rfl

end Cert.MoeProof.Ref
end
-- ==== Proof.Value.lean ====
/-
  The value claim: where the choices name experts and the scores are finite, the kernel's blocks are the reference's.
-/
module

public import proofs.«01_k».proof.Proof.KernelValue
public import proofs.«01_k».proof.Proof.RefValue
public import proofs.«01_k».proof.Proof.Frames
public import Idealize.ShloMosaic.Lib.ReduceAll

@[expose] public section

noncomputable section

namespace Cert.MoeProof

open Idealize.ShloMosaic Idealize.SL.Sem
open Idealize.ShloMosaic.TcCoe

/-! ## What the precondition says -/

/-- The operations' side conditions, at the shapes of a device's blocks and at the whole arrays'. -/
theorem preK : Cert.Pre_routed_KernelIdeal.Facts :=
  ⟨by decide, by decide, by decide, by decide, by decide, by decide⟩
theorem preR : Cert.Pre_routed_ReferenceIdeal.Facts :=
  ⟨by decide, by decide, by decide, by decide, by decide, by decide⟩

theorem posInf : Ideal.ofBits FTy.f32 0x7F800000#32 = (⊤ : EReal) := by
  simp [Ideal.ofBits, Ideal.ieee]

theorem expert_of (v : BitVec 32) (h : IntOp.cmpi .sge v 0#32 = 1#1) (h' : IntOp.cmpi .slt v 64#32 = 1#1) : ∃ a : Fin 64, v = BitVec.ofNat 32 a.val := by
  have b1 : ∀ p : Bool, BitVec.ofBool p = 1#1 → p = true := by decide
  have e1 : (0#32).sle v = true := b1 _ h
  have e2 : v.slt 64#32 = true := b1 _ h'
  have i1 : (0 : ℤ) ≤ v.toInt := by simpa [BitVec.sle] using e1
  have i2 : v.toInt < 64 := by simpa [BitVec.slt] using e2
  have hv := v.isLt
  rw [BitVec.toInt_eq_toNat_cond] at i1 i2
  have hlt : v.toNat < 64 := by split at i1 <;> split at i2 <;> omega
  exact ⟨⟨v.toNat, hlt⟩, BitVec.eq_of_toNat_eq (by rw [BitVec.toNat_ofNat, Nat.mod_eq_of_lt (by omega)])⟩

theorem finite_of (y : EReal) (h : BitVec.ofBool (decide (max y (-y) < ⊤)) = 1#1) : ∃ t : ℝ, y = (t : EReal) := by
  have b1 : ∀ p : Bool, BitVec.ofBool p = 1#1 → p = true := by decide
  have hlt := of_decide_eq_true (b1 _ h)
  rw [max_lt_iff] at hlt
  refine ⟨y.toReal, (EReal.coe_toReal hlt.1.ne fun hb => ?_).symm⟩
  rw [hb, EReal.neg_bot] at hlt
  exact lt_irrefl _ hlt.2

section
open Cert.Pre_routed_KernelIdeal
attribute [local instance] preK

theorem pre_apply (x : FVec Ideal S2048x512 .f32) (w : FVec Ideal S512x64 .f32) (r : IVec S2048x2 32) (u : FVec Ideal S8x512x1024 .f32)
    (hp : fn (F := Ideal) x w r u = fun _ => 1#1) :
    (∀ (n : Fin 2048) (j : Fin 2), ∃ a : Fin 64, r (ix2 n j) = BitVec.ofNat 32 a.val)
    ∧ ∀ (n : Fin 2048) (E : Fin 64), ∃ t : ℝ, (∑ k : Fin 512, x (ix2 n k) * w (ix2 k E)) = (t : EReal) := by
  haveI : Subsingleton S_.Idx := ⟨fun i j => funext fun a => a.elim0⟩
  have hb := IntOp.andi_eq_one.1 (congrFun hp (Shape.Idx.first Facts.h_S_))
  refine ⟨fun n j => ?_, fun n E => ?_⟩
  · have h := Host.reduce_andi_all _ _ _ _ _ hb.1 (ix2 n j)
    have h2 : IntOp.andi (IntOp.cmpi .sge (r (ix2 n j)) 0#32) (IntOp.cmpi .slt (r (ix2 n j)) 64#32) = 1#1 := h
    generalize r (ix2 n j) = v at h2
    obtain ⟨h3, h4⟩ := IntOp.andi_eq_one.1 h2
    exact expert_of v h3 h4
  · have h := Host.reduce_andi_all _ _ _ _ _ hb.2 (ix2 n E)
    have h2 : ∀ z : FVec Ideal S2048x64 .f32, cmpf .olt (Host.absf z) (broadcastInDim S2048x64 ![] Facts.bcast_S_S2048x64 (constant S_ .f32 0x7F800000#32)) (ix2 n E)
        = BitVec.ofBool (decide (max (z (ix2 n E)) (-(z (ix2 n E))) < Ideal.ofBits FTy.f32 0x7F800000#32)) := by
      intro z
      pointwise
      rfl
    have h3 : Host.dotGeneral dot_S2048x512_S512x64_S2048x64_1_0_0_1_n_n none x w (ix2 n E) = ∑ k : Fin 512, x (ix2 n k) * w (ix2 k E) := by
      pointwise
    have h4 := (h2 _).symm.trans h
    rw [posInf] at h4
    obtain ⟨t, ht⟩ := finite_of _ h4
    exact ⟨t, h3.symm.trans ht⟩
end

/-! ## Blocks -/

theorem block2_apply {α : Type} {p q P : ℕ} (c : Fin 8) (v : (⟨2, ![P, q]⟩ : Shape).Idx → α) (h : Layout.Tiles ⟨2, ![p, q]⟩ ⟨2, ![P, q]⟩ 0 8)
    (n : Fin p) (k : Fin q) (hn : c.val * p + n.val < P) : Layout.block ⟨2, ![p, q]⟩ ⟨2, ![P, q]⟩ 0 8 c v h (ix2 n k) = v (ix2 ⟨c.val * p + n.val, hn⟩ k) :=
  congrArg v (funext fun b => Fin.ext (match b with | 0 => rfl | 1 => rfl))
theorem block3_apply {α : Type} {p q r P : ℕ} (c : Fin 8) (v : (⟨3, ![P, q, r]⟩ : Shape).Idx → α) (h : Layout.Tiles ⟨3, ![p, q, r]⟩ ⟨3, ![P, q, r]⟩ 0 8)
    (n : Fin p) (k : Fin q) (l : Fin r) (hn : c.val * p + n.val < P) :
    Layout.block ⟨3, ![p, q, r]⟩ ⟨3, ![P, q, r]⟩ 0 8 c v h (ix3 n k l) = v (ix3 ⟨c.val * p + n.val, hn⟩ k l) :=
  congrArg v (funext fun b => Fin.ext (match b with | 0 => rfl | 1 => rfl | 2 => rfl))

/-! ## The claim -/

section
open Cert.KernelIdeal

/-- A device's block of the result is that block of the reference's. -/
theorem blocks_eq (m : (ℓ : Loc nD τ sig) → Buf (Elt Ideal) ℓ) (x : FVec Ideal Cert.ReferenceIdeal.S16384x512 .f32) (w : FVec Ideal Cert.ReferenceIdeal.S512x64 .f32)
    (r : IVec Cert.ReferenceIdeal.S16384x2 32) (u : FVec Ideal Cert.ReferenceIdeal.S64x512x1024 .f32) (h0 : ∀ c, argX m c = Layout.block ⟨2, ![2048, 512]⟩ ⟨2, ![16384, 512]⟩ 0 8 c x)
    (h1 : ∀ c, argR m c = w) (h2 : ∀ c, argI m c = Layout.block ⟨2, ![2048, 2]⟩ ⟨2, ![16384, 2]⟩ 0 8 c r)
    (h3 : ∀ c, argW m c = Layout.block ⟨3, ![8, 512, 1024]⟩ ⟨3, ![64, 512, 1024]⟩ 0 8 c u) (c : Dev nD)
    (hp1 : ∀ (n : Fin 2048) (j : Fin 2), ∃ a : Fin 64, argI m c (ix2 n j) = BitVec.ofNat 32 a.val)
    (hp2 : ∀ (n : Fin 2048) (E : Fin 64), ∃ t : ℝ, rowScore m c n E = (t : EReal)) :
    acc (fun c => Gen.V28 m c) c 6 = Layout.block ⟨2, ![2048, 1024]⟩ ⟨2, ![16384, 1024]⟩ 0 8 c (Ref.resR x w r u) := by
  have hc : c.val < 8 := c.isLt
  funext i
  obtain ⟨n, h, rfl⟩ : ∃ (n : Fin 2048) (h : Fin 1024), i = ix2 n h := ⟨i 0, i 1, by funext a; match a with | 0 => rfl | 1 => rfl⟩
  have hn : c.val * 2048 + n.val < 16384 := by omega
  obtain ⟨a, ha⟩ := hp1 n 0
  obtain ⟨b, hb⟩ := hp1 n 1
  have ex : ∀ k, argX m c (ix2 n k) = x (ix2 ⟨c.val * 2048 + n.val, hn⟩ k) := fun k => by
    rw [h0]; exact block2_apply c x _ n k hn
  have ei : ∀ j, argI m c (ix2 n j) = r (ix2 ⟨c.val * 2048 + n.val, hn⟩ j) := fun j => by
    rw [h2]; exact block2_apply c r _ n j hn
  have ew : ∀ (E : Fin 64) k, allW m E k h = u (ix3 E k h) := fun E k => by
    have hE : E.val / 8 * 8 + E.val % 8 < 64 := by omega
    unfold allW
    rw [h3]
    refine (block3_apply _ u _ _ k h hE).trans (congrArg (fun E => u (ix3 E k h)) (Fin.ext ?_))
    show E.val / 8 * 8 + E.val % 8 = E.val
    omega
  have es : rowScore m c n = fun E => ∑ k : Fin 512, x (ix2 ⟨c.val * 2048 + n.val, hn⟩ k) * w (ix2 k E) := by
    funext E
    unfold rowScore
    rw [h1]
    exact Finset.sum_congr rfl fun k _ => congrArg (· * w (ix2 k E)) (ex k)
  rw [kernel_apply m c n h a b ha hb (hp2 n), es, Finset.sum_congr rfl fun k _ => congrArg₂ (· * ·) (ex k) (ew a k), Finset.sum_congr rfl fun k _ => congrArg₂ (· * ·) (ex k) (ew b k)]
  refine ((block2_apply c (Ref.resR x w r u) _ n h hn).trans (Ref.resR_apply x w r u _ h a b ?_ ?_)).symm
  · rw [← ei]; exact ha
  · rw [← ei]; exact hb

end

/-- The kernel computes the reference's values. -/
theorem value : Cert.algebraic_KernelIdeal_ReferenceIdeal_pre_routed_KernelIdeal (hPre_routed_KernelIdeal := preK) := by
  intro m g m' g' hp hb
  refine ⟨Cert.ReferenceIdeal.Value.res_main_v68 m' 0, ?_, ?_⟩
  · refine (θ_run _ _ _).mono (fun r h c => ?_) (run_main (F := Ideal) m g)
    obtain ⟨a0, a1, a2, a3, hv⟩ := h.1 c
    have hq := pre_apply _ _ _ _ (hp c)
    exact ⟨hv.trans ((out_eq (fun c => Cert.KernelIdeal.Gen.V28 m c) c).trans
      (blocks_eq m _ _ _ _ (fun c => (hb c).1) (fun c => (hb c).2.1) (fun c => (hb c).2.2.1) (fun c => (hb c).2.2.2) c hq.1 hq.2)), a0, a1, a2, a3⟩
  · exact (θ_run _ _ _).mono (fun r h => h 0) (Cert.ReferenceIdeal.Value.run m' g')

end Cert.MoeProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, MoeProof.preK, MoeProof.preR,
  MoeProof.frame_kernel, MoeProof.frame_kernelIdeal, fun m ρ _ => MoeProof.frame_kernelIdeal m ρ trivial, MoeProof.frame_reference,
  fun m ρ _ => MoeProof.frame_reference m ρ trivial, trivial, MoeProof.value⟩

end Cert.Proof

end
